-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S16384x128 : Shape := ⟨2, ![16384, 128]⟩
abbrev S_ : Shape := ⟨0, ![]⟩
abbrev S1x64 : Shape := ⟨2, ![1, 64]⟩
abbrev S64x128 : Shape := ⟨2, ![64, 128]⟩
abbrev S64x1 : Shape := ⟨2, ![64, 1]⟩
abbrev S16384x1 : Shape := ⟨2, ![16384, 1]⟩
abbrev S32x64 : Shape := ⟨2, ![32, 64]⟩
abbrev S512x64 : Shape := ⟨2, ![512, 64]⟩
abbrev S64x64 : Shape := ⟨2, ![64, 64]⟩
abbrev S64x8 : Shape := ⟨2, ![64, 8]⟩
abbrev S64x4 : Shape := ⟨2, ![64, 4]⟩
abbrev S64x2 : Shape := ⟨2, ![64, 2]⟩
abbrev S512x512 : Shape := ⟨2, ![512, 512]⟩
abbrev S8x4096 : Shape := ⟨2, ![8, 4096]⟩
abbrev S4096x128 : Shape := ⟨2, ![4096, 128]⟩
abbrev S4096x8 : Shape := ⟨2, ![4096, 8]⟩
abbrev S4096x4 : Shape := ⟨2, ![4096, 4]⟩
abbrev S4096x2 : Shape := ⟨2, ![4096, 2]⟩
abbrev S4096x1 : Shape := ⟨2, ![4096, 1]⟩
abbrev S4096x64 : Shape := ⟨2, ![4096, 64]⟩
abbrev S4096 : Shape := ⟨1, ![4096]⟩
abbrev S1x4096 : Shape := ⟨2, ![1, 4096]⟩
abbrev S8x64 : Shape := ⟨2, ![8, 64]⟩
abbrev S32x32 : Shape := ⟨2, ![32, 32]⟩
abbrev S1x512 : Shape := ⟨2, ![1, 512]⟩
abbrev S512x1 : Shape := ⟨2, ![512, 1]⟩
abbrev S512 : Shape := ⟨1, ![512]⟩
abbrev S64 : Shape := ⟨1, ![64]⟩
abbrev S4x1x4096 : Shape := ⟨3, ![4, 1, 4096]⟩
abbrev S1x1x4096 : Shape := ⟨3, ![1, 1, 4096]⟩
abbrev S1x1 : Shape := ⟨2, ![1, 1]⟩
abbrev S1x1x1 : Shape := ⟨3, ![1, 1, 1]⟩
abbrev S1x128 : Shape := ⟨2, ![1, 128]⟩

abbrev nBuf : Space → Nat
  | .hbm => 31
  | .vmem => 21
  | .smem => 3
  | _ => 0

abbrev bufTy : (tb : Table) → Fin (tcTables nBuf tb) → BufTy
  | .hbm, ⟨0, _⟩ => ⟨S16384x128, .f32⟩
  | .hbm, ⟨1, _⟩ => ⟨S_, .i32⟩
  | .hbm, ⟨2, _⟩ => ⟨S1x64, .f32⟩
  | .hbm, ⟨3, _⟩ => ⟨S64x128, .f32⟩
  | .hbm, ⟨4, _⟩ => ⟨S_, .f32⟩
  | .hbm, ⟨5, _⟩ => ⟨S64x1, .f32⟩
  | .hbm, ⟨6, _⟩ => ⟨S_, .f32⟩
  | .hbm, ⟨7, _⟩ => ⟨S64x128, .f32⟩
  | .hbm, ⟨8, _⟩ => ⟨S_, .i32⟩
  | .hbm, ⟨9, _⟩ => ⟨S_, .i32⟩
  | .hbm, ⟨10, _⟩ => ⟨S16384x128, .f32⟩
  | .hbm, ⟨11, _⟩ => ⟨S1x64, .f32⟩
  | .hbm, ⟨12, _⟩ => ⟨S_, .i32⟩
  | .hbm, ⟨13, _⟩ => ⟨S_, .i32⟩
  | .hbm, ⟨14, _⟩ => ⟨S64x128, .f32⟩
  | .hbm, ⟨15, _⟩ => ⟨S64x1, .f32⟩
  | .hbm, ⟨16, _⟩ => ⟨S64x128, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S16384x1, .i32⟩
  | .hbm, ⟨22, _⟩ => ⟨S1x64, .f32⟩
  | .hbm, ⟨23, _⟩ => ⟨S64x128, .f32⟩
  | .hbm, ⟨24, _⟩ => ⟨S1x64, .i32⟩
  | .hbm, ⟨25, _⟩ => ⟨S4x1x4096, .i32⟩
  | .hbm, ⟨26, _⟩ => ⟨S64x128, .f32⟩
  | .hbm, ⟨27, _⟩ => ⟨S64x1, .f32⟩
  | .hbm, ⟨28, _⟩ => ⟨S_, .i32⟩
  | .hbm, ⟨29, _⟩ => ⟨S_, .i32⟩
  | .hbm, ⟨30, _⟩ => ⟨S16384x128, .f32⟩
  | .local _ .vmem, ⟨0, _⟩ => ⟨S16384x128, .f32⟩
  | .local _ .vmem, ⟨1, _⟩ => ⟨S64x128, .f32⟩
  | .local _ .vmem, ⟨2, _⟩ => ⟨S64x1, .f32⟩
  | .local _ .vmem, ⟨3, _⟩ => ⟨S64x128, .f32⟩
  | .local _ .vmem, ⟨4, _⟩ => ⟨S1x64, .f32⟩
  | .local _ .vmem, ⟨5, _⟩ => ⟨S16384x1, .i32⟩
  | .local _ .vmem, ⟨6, _⟩ => ⟨S1x64, .f32⟩
  | .local _ .vmem, ⟨7, _⟩ => ⟨S64x128, .f32⟩
  | .local _ .vmem, ⟨8, _⟩ => ⟨S1x64, .i32⟩
  | .local _ .vmem, ⟨9, _⟩ => ⟨S16384x1, .i32⟩
  | .local _ .vmem, ⟨10, _⟩ => ⟨S32x64, .f32⟩
  | .local _ .vmem, ⟨11, _⟩ => ⟨S4096x128, .f32⟩
  | .local _ .vmem, ⟨12, _⟩ => ⟨S4096x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S16384x128, .f32⟩
  | .local _ .vmem, ⟨17, _⟩ => ⟨S64x128, .f32⟩
  | .local _ .vmem, ⟨18, _⟩ => ⟨S64x1, .f32⟩
  | .local _ .vmem, ⟨19, _⟩ => ⟨S64x128, .f32⟩
  | .local _ .vmem, ⟨20, _⟩ => ⟨S16384x128, .f32⟩
  | .local _ .smem, ⟨0, _⟩ => ⟨S1x1x4096, .i32⟩
  | .local _ .smem, ⟨1, _⟩ => ⟨S1x1x4096, .i32⟩
  | .local _ .smem, ⟨2, _⟩ => ⟨S1x64, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_c : Ref sig .tc := ⟨.hbm, 8, rfl⟩
abbrev main_c_2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_while0c_c_9 : Ref sig .tc := ⟨.hbm, 17, rfl⟩
abbrev main_while0c_v5 : Ref sig .tc := ⟨.hbm, 18, rfl⟩
abbrev main_while0b_c_9 : Ref sig .tc := ⟨.hbm, 19, rfl⟩
abbrev main_while0b_v5 : Ref sig .tc := ⟨.hbm, 20, rfl⟩
abbrev main_while0b_v6_0 : Ref sig .tc := ⟨.hbm, 21, rfl⟩
abbrev main_while0b_v6_1 : Ref sig .tc := ⟨.hbm, 22, rfl⟩
abbrev main_while0b_v6_2 : Ref sig .tc := ⟨.hbm, 23, rfl⟩
abbrev main_while0b_v6_3 : Ref sig .tc := ⟨.hbm, 24, rfl⟩
abbrev main_while0b_v7 : Ref sig .tc := ⟨.hbm, 25, rfl⟩
abbrev main_while0b_v8 : Ref sig .tc := ⟨.hbm, 26, rfl⟩
abbrev main_while0b_v9 : Ref sig .tc := ⟨.hbm, 27, rfl⟩
abbrev main_while0b_c_10 : Ref sig .tc := ⟨.hbm, 28, rfl⟩
abbrev main_while0b_v10 : Ref sig .tc := ⟨.hbm, 29, rfl⟩
abbrev main_v4 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc1_stg0_0 : Ref sig .tc := ⟨.smem, 0, rfl⟩
abbrev cc1_stg0_1 : Ref sig .tc := ⟨.smem, 1, rfl⟩
abbrev cc1_stg1_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19

abbrev nD : Nat := 1
abbrev τ : Topo := Topo.v7x

variable {F : FTy → Type} [FloatOps F]

abbrev main_while0_count : Scf.Loop 32 := ⟨0#32, 25#32, 1#32⟩

abbrev grid0 : Pipeline.Grid := .none

@[reducible] def k0_t1_loop : Scf.Loop 32 :=
  let c0_i32_14 : BitVec 32 := 0#32
  let c4_i32 : BitVec 32 := 4#32
  let v100 : BitVec 32 := Scalar.addi c0_i32_14 c4_i32
  let c1_i32_15 : BitVec 32 := 1#32
  ⟨c0_i32_14, v100, c1_i32_15⟩
def k0_off1 (k0_t1 : Fin k0_t1_loop.trips) : Fin 2 → Nat :=
  let c0_i32_14 : BitVec 32 := 0#32
  let c1_i32_15 : BitVec 32 := 1#32
  let arg11 : BitVec 32 := Scf.iv c0_i32_14 c1_i32_15 k0_t1
  let c4096_i32 : BitVec 32 := 4096#32
  let v157 : BitVec 32 := Scalar.muli arg11 c4096_i32
  let v158 : Index := Scalar.indexCast v157
  let c0_40 : Index := 0#32
  ![v158.toNat, 0]
def k0_off2 (k0_t1 : Fin k0_t1_loop.trips) : Fin 2 → Nat :=
  let c0_i32_14 : BitVec 32 := 0#32
  let c1_i32_15 : BitVec 32 := 1#32
  let arg11 : BitVec 32 := Scf.iv c0_i32_14 c1_i32_15 k0_t1
  let c4096_i32_45 : BitVec 32 := 4096#32
  let v218 : BitVec 32 := Scalar.muli arg11 c4096_i32_45
  let v219 : Index := Scalar.indexCast v218
  let c0_46 : Index := 0#32
  ![v219.toNat, 0]
def k0_off3 (k0_t1 : Fin k0_t1_loop.trips) : Fin 2 → Nat :=
  let c0_i32_14 : BitVec 32 := 0#32
  let c1_i32_15 : BitVec 32 := 1#32
  let arg11 : BitVec 32 := Scf.iv c0_i32_14 c1_i32_15 k0_t1
  let c8_i32 : BitVec 32 := 8#32
  let v232 : BitVec 32 := Scalar.muli arg11 c8_i32
  let v233 : Index := Scalar.indexCast v232
  let c0_50 : Index := 0#32
  ![v233.toNat, 0]
@[reducible] def k0_t2_loop : Scf.Loop 32 :=
  let c0_i32_28 : BitVec 32 := 0#32
  let c32_i32 : BitVec 32 := 32#32
  let v123 : BitVec 32 := Scalar.addi c0_i32_28 c32_i32
  let c1_i32_29 : BitVec 32 := 1#32
  ⟨c0_i32_28, v123, c1_i32_29⟩
def k0_off4 (k0_t2 : Fin k0_t2_loop.trips) : Fin 2 → Nat :=
  let c0_i32_28 : BitVec 32 := 0#32
  let c1_i32_29 : BitVec 32 := 1#32
  let arg11 : BitVec 32 := Scf.iv c0_i32_28 c1_i32_29 k0_t2
  let c512_i32_40 : BitVec 32 := 512#32
  let v157 : BitVec 32 := Scalar.muli arg11 c512_i32_40
  let v158 : Index := Scalar.indexCast v157
  let c0_41 : Index := 0#32
  ![v158.toNat, 0]
def k0_off5 (k0_t2 : Fin k0_t2_loop.trips) : Fin 2 → Nat :=
  let c0_i32_28 : BitVec 32 := 0#32
  let c1_i32_29 : BitVec 32 := 1#32
  let arg11 : BitVec 32 := Scf.iv c0_i32_28 c1_i32_29 k0_t2
  let v165 : Index := Scalar.indexCast arg11
  let c0_43 : Index := 0#32
  ![v165.toNat, 0]
abbrev stage0_0 : Fin 1 → Memref sig .tc .vmem S16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![4], ![false]⟩

@[reducible] def k1_t1_loop : Scf.Loop 32 :=
  let c0_i32_2 : BitVec 32 := 0#32
  let c31_i32 : BitVec 32 := 31#32
  let v3 : BitVec 32 := Scalar.addi c0_i32_2 c31_i32
  let c1_i32 : BitVec 32 := 1#32
  ⟨c0_i32_2, v3, c1_i32⟩
def k1_off1 (k1_t1 : Fin k1_t1_loop.trips) : Fin 2 → Nat :=
  let c0 : Index := 0#32
  let c0_i32_2 : BitVec 32 := 0#32
  let c1_i32 : BitVec 32 := 1#32
  let arg7 : BitVec 32 := Scf.iv c0_i32_2 c1_i32 k1_t1
  let v24 : Index := Scalar.indexCast arg7
  ![0, v24.toNat]
@[reducible] def k1_t2_loop (i : grid1.Coords) (arg8 : BitVec 32) (v25 : BitVec 32) : Scf.Loop 32 :=
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_20 : BitVec 32 := 1#32
  ⟨c0_i32_18, v36, c1_i32_20⟩

def k1_off2 (i : grid1.Coords) (arg8 : BitVec 32) (v25 : BitVec 32) (k1_t2 : Fin (k1_t2_loop i arg8 v25).trips) : Fin 3 → Nat :=
  let c0_31 : Index := 0#32
  let c0_32 : Index := 0#32
  let c8_i32_29 : BitVec 32 := 8#32
  let c0_i32_18 : BitVec 32 := 0#32
  let c1_i32_20 : BitVec 32 := 1#32
  let arg9 : BitVec 32 := Scf.iv c0_i32_18 c1_i32_20 k1_t2
  let v51 : BitVec 32 := Scalar.muli c8_i32_29 arg9
  let v52 : BitVec 32 := Scalar.addi arg8 v51
  let c0_i32_30 : BitVec 32 := 0#32
  let v53 : BitVec 32 := Scalar.addi v52 c0_i32_30
  let v54 : Index := Scalar.indexCast v53
  ![0, 0, v54.toNat]
def k1_off3 (v55 : BitVec 32) : Fin 2 → Nat :=
  let v56 : Index := Scalar.indexCast v55
  let c0_33 : Index := 0#32
  ![v56.toNat, 0]

def k1_chk2 (v55 : BitVec 32) : Prop :=
  (∀ a, (k1_off3 v55) a + S1x128.size a ≤ S64x128.size a)
theorem k1_off3_inb : ∀ (v55 : BitVec 32) (k1_hw2 : k1_chk2 v55), ∀ a, (k1_off3 v55) a + S1x128.size a ≤ S64x128.size a := fun v55 k1_hw2 => k1_hw2

def k1_off4 (i : grid1.Coords) (arg8 : BitVec 32) (v25 : BitVec 32) (k1_t2 : Fin (k1_t2_loop i arg8 v25).trips) : Fin 2 → Nat :=
  let c8_i32_29 : BitVec 32 := 8#32
  let c0_i32_18 : BitVec 32 := 0#32
  let c1_i32_20 : BitVec 32 := 1#32
  let arg9 : BitVec 32 := Scf.iv c0_i32_18 c1_i32_20 k1_t2
  let v51 : BitVec 32 := Scalar.muli c8_i32_29 arg9
  let v52 : BitVec 32 := Scalar.addi arg8 v51
  let c0_i32_30 : BitVec 32 := 0#32
  let v53 : BitVec 32 := Scalar.addi v52 c0_i32_30
  let v58 : Index := Scalar.indexCast v53
  let c0_34 : Index := 0#32
  ![v58.toNat, 0]
def k1_off5 (i : grid1.Coords) (arg8 : BitVec 32) (v25 : BitVec 32) (k1_t2 : Fin (k1_t2_loop i arg8 v25).trips) : Fin 3 → Nat :=
  let c0_38 : Index := 0#32
  let c0_39 : Index := 0#32
  let c8_i32_36 : BitVec 32 := 8#32
  let c0_i32_18 : BitVec 32 := 0#32
  let c1_i32_20 : BitVec 32 := 1#32
  let arg9 : BitVec 32 := Scf.iv c0_i32_18 c1_i32_20 k1_t2
  let v65 : BitVec 32 := Scalar.muli c8_i32_36 arg9
  let v66 : BitVec 32 := Scalar.addi arg8 v65
  let c1_i32_37 : BitVec 32 := 1#32
  let v67 : BitVec 32 := Scalar.addi v66 c1_i32_37
  let v68 : Index := Scalar.indexCast v67
  ![0, 0, v68.toNat]
def k1_off6 (v69 : BitVec 32) : Fin 2 → Nat :=
  let v70 : Index := Scalar.indexCast v69
  let c0_40 : Index := 0#32
  ![v70.toNat, 0]

def k1_chk3 (v69 : BitVec 32) : Prop :=
  (∀ a, (k1_off6 v69) a + S1x128.size a ≤ S64x128.size a)
theorem k1_off6_inb : ∀ (v69 : BitVec 32) (k1_hw3 : k1_chk3 v69), ∀ a, (k1_off6 v69) a + S1x128.size a ≤ S64x128.size a := fun v69 k1_hw3 => k1_hw3

def k1_off7 (i : grid1.Coords) (arg8 : BitVec 32) (v25 : BitVec 32) (k1_t2 : Fin (k1_t2_loop i arg8 v25).trips) : Fin 2 → Nat :=
  let c8_i32_36 : BitVec 32 := 8#32
  let c0_i32_18 : BitVec 32 := 0#32
  let c1_i32_20 : BitVec 32 := 1#32
  let arg9 : BitVec 32 := Scf.iv c0_i32_18 c1_i32_20 k1_t2
  let v65 : BitVec 32 := Scalar.muli c8_i32_36 arg9
  let v66 : BitVec 32 := Scalar.addi arg8 v65
  let c1_i32_37 : BitVec 32 := 1#32
  let v67 : BitVec 32 := Scalar.addi v66 c1_i32_37
  let v72 : Index := Scalar.indexCast v67
  let c0_41 : Index := 0#32
  ![v72.toNat, 0]
def k1_off8 (i : grid1.Coords) (arg8 : BitVec 32) (v25 : BitVec 32) (k1_t2 : Fin (k1_t2_loop i arg8 v25).trips) : Fin 3 → Nat :=
  let c0_44 : Index := 0#32
  let c0_45 : Index := 0#32
  let c8_i32_43 : BitVec 32 := 8#32
  let c0_i32_18 : BitVec 32 := 0#32
  let c1_i32_20 : BitVec 32 := 1#32
  let arg9 : BitVec 32 := Scf.iv c0_i32_18 c1_i32_20 k1_t2
  let v79 : BitVec 32 := Scalar.muli c8_i32_43 arg9
  let v80 : BitVec 32 := Scalar.addi arg8 v79
  let c2_i32 : BitVec 32 := 2#32
  let v81 : BitVec 32 := Scalar.addi v80 c2_i32
  let v82 : Index := Scalar.indexCast v81
  ![0, 0, v82.toNat]
def k1_off9 (v83 : BitVec 32) : Fin 2 → Nat :=
  let v84 : Index := Scalar.indexCast v83
  let c0_46 : Index := 0#32
  ![v84.toNat, 0]

def k1_chk4 (v83 : BitVec 32) : Prop :=
  (∀ a, (k1_off9 v83) a + S1x128.size a ≤ S64x128.size a)
theorem k1_off9_inb : ∀ (v83 : BitVec 32) (k1_hw4 : k1_chk4 v83), ∀ a, (k1_off9 v83) a + S1x128.size a ≤ S64x128.size a := fun v83 k1_hw4 => k1_hw4

def k1_off10 (i : grid1.Coords) (arg8 : BitVec 32) (v25 : BitVec 32) (k1_t2 : Fin (k1_t2_loop i arg8 v25).trips) : Fin 2 → Nat :=
  let c8_i32_43 : BitVec 32 := 8#32
  let c0_i32_18 : BitVec 32 := 0#32
  let c1_i32_20 : BitVec 32 := 1#32
  let arg9 : BitVec 32 := Scf.iv c0_i32_18 c1_i32_20 k1_t2
  let v79 : BitVec 32 := Scalar.muli c8_i32_43 arg9
  let v80 : BitVec 32 := Scalar.addi arg8 v79
  let c2_i32 : BitVec 32 := 2#32
  let v81 : BitVec 32 := Scalar.addi v80 c2_i32
  let v86 : Index := Scalar.indexCast v81
  let c0_47 : Index := 0#32
  ![v86.toNat, 0]
def k1_off11 (i : grid1.Coords) (arg8 : BitVec 32) (v25 : BitVec 32) (k1_t2 : Fin (k1_t2_loop i arg8 v25).trips) : Fin 3 → Nat :=
  let c0_51 : Index := 0#32
  let c0_52 : Index := 0#32
  let c8_i32_49 : BitVec 32 := 8#32
  let c0_i32_18 : BitVec 32 := 0#32
  let c1_i32_20 : BitVec 32 := 1#32
  let arg9 : BitVec 32 := Scf.iv c0_i32_18 c1_i32_20 k1_t2
  let v93 : BitVec 32 := Scalar.muli c8_i32_49 arg9
  let v94 : BitVec 32 := Scalar.addi arg8 v93
  let c3_i32_50 : BitVec 32 := 3#32
  let v95 : BitVec 32 := Scalar.addi v94 c3_i32_50
  let v96 : Index := Scalar.indexCast v95
  ![0, 0, v96.toNat]
def k1_off12 (v97 : BitVec 32) : Fin 2 → Nat :=
  let v98 : Index := Scalar.indexCast v97
  let c0_53 : Index := 0#32
  ![v98.toNat, 0]

def k1_chk5 (v97 : BitVec 32) : Prop :=
  (∀ a, (k1_off12 v97) a + S1x128.size a ≤ S64x128.size a)
theorem k1_off12_inb : ∀ (v97 : BitVec 32) (k1_hw5 : k1_chk5 v97), ∀ a, (k1_off12 v97) a + S1x128.size a ≤ S64x128.size a := fun v97 k1_hw5 => k1_hw5

def k1_off13 (i : grid1.Coords) (arg8 : BitVec 32) (v25 : BitVec 32) (k1_t2 : Fin (k1_t2_loop i arg8 v25).trips) : Fin 2 → Nat :=
  let c8_i32_49 : BitVec 32 := 8#32
  let c0_i32_18 : BitVec 32 := 0#32
  let c1_i32_20 : BitVec 32 := 1#32
  let arg9 : BitVec 32 := Scf.iv c0_i32_18 c1_i32_20 k1_t2
  let v93 : BitVec 32 := Scalar.muli c8_i32_49 arg9
  let v94 : BitVec 32 := Scalar.addi arg8 v93
  let c3_i32_50 : BitVec 32 := 3#32
  let v95 : BitVec 32 := Scalar.addi v94 c3_i32_50
  let v100 : Index := Scalar.indexCast v95
  let c0_54 : Index := 0#32
  ![v100.toNat, 0]
def k1_off14 (i : grid1.Coords) (arg8 : BitVec 32) (v25 : BitVec 32) (k1_t2 : Fin (k1_t2_loop i arg8 v25).trips) : Fin 3 → Nat :=
  let c0_57 : Index := 0#32
  let c0_58 : Index := 0#32
  let c8_i32_56 : BitVec 32 := 8#32
  let c0_i32_18 : BitVec 32 := 0#32
  let c1_i32_20 : BitVec 32 := 1#32
  let arg9 : BitVec 32 := Scf.iv c0_i32_18 c1_i32_20 k1_t2
  let v107 : BitVec 32 := Scalar.muli c8_i32_56 arg9
  let v108 : BitVec 32 := Scalar.addi arg8 v107
  let c4_i32 : BitVec 32 := 4#32
  let v109 : BitVec 32 := Scalar.addi v108 c4_i32
  let v110 : Index := Scalar.indexCast v109
  ![0, 0, v110.toNat]
def k1_off15 (v111 : BitVec 32) : Fin 2 → Nat :=
  let v112 : Index := Scalar.indexCast v111
  let c0_59 : Index := 0#32
  ![v112.toNat, 0]

def k1_chk6 (v111 : BitVec 32) : Prop :=
  (∀ a, (k1_off15 v111) a + S1x128.size a ≤ S64x128.size a)
theorem k1_off15_inb : ∀ (v111 : BitVec 32) (k1_hw6 : k1_chk6 v111), ∀ a, (k1_off15 v111) a + S1x128.size a ≤ S64x128.size a := fun v111 k1_hw6 => k1_hw6

def k1_off16 (i : grid1.Coords) (arg8 : BitVec 32) (v25 : BitVec 32) (k1_t2 : Fin (k1_t2_loop i arg8 v25).trips) : Fin 2 → Nat :=
  let c8_i32_56 : BitVec 32 := 8#32
  let c0_i32_18 : BitVec 32 := 0#32
  let c1_i32_20 : BitVec 32 := 1#32
  let arg9 : BitVec 32 := Scf.iv c0_i32_18 c1_i32_20 k1_t2
  let v107 : BitVec 32 := Scalar.muli c8_i32_56 arg9
  let v108 : BitVec 32 := Scalar.addi arg8 v107
  let c4_i32 : BitVec 32 := 4#32
  let v109 : BitVec 32 := Scalar.addi v108 c4_i32
  let v114 : Index := Scalar.indexCast v109
  let c0_60 : Index := 0#32
  ![v114.toNat, 0]
def k1_off17 (i : grid1.Coords) (arg8 : BitVec 32) (v25 : BitVec 32) (k1_t2 : Fin (k1_t2_loop i arg8 v25).trips) : Fin 3 → Nat :=
  let c0_63 : Index := 0#32
  let c0_64 : Index := 0#32
  let c8_i32_62 : BitVec 32 := 8#32
  let c0_i32_18 : BitVec 32 := 0#32
  let c1_i32_20 : BitVec 32 := 1#32
  let arg9 : BitVec 32 := Scf.iv c0_i32_18 c1_i32_20 k1_t2
  let v121 : BitVec 32 := Scalar.muli c8_i32_62 arg9
  let v122 : BitVec 32 := Scalar.addi arg8 v121
  let c5_i32 : BitVec 32 := 5#32
  let v123 : BitVec 32 := Scalar.addi v122 c5_i32
  let v124 : Index := Scalar.indexCast v123
  ![0, 0, v124.toNat]
def k1_off18 (v125 : BitVec 32) : Fin 2 → Nat :=
  let v126 : Index := Scalar.indexCast v125
  let c0_65 : Index := 0#32
  ![v126.toNat, 0]

def k1_chk7 (v125 : BitVec 32) : Prop :=
  (∀ a, (k1_off18 v125) a + S1x128.size a ≤ S64x128.size a)
theorem k1_off18_inb : ∀ (v125 : BitVec 32) (k1_hw7 : k1_chk7 v125), ∀ a, (k1_off18 v125) a + S1x128.size a ≤ S64x128.size a := fun v125 k1_hw7 => k1_hw7

def k1_off19 (i : grid1.Coords) (arg8 : BitVec 32) (v25 : BitVec 32) (k1_t2 : Fin (k1_t2_loop i arg8 v25).trips) : Fin 2 → Nat :=
  let c8_i32_62 : BitVec 32 := 8#32
  let c0_i32_18 : BitVec 32 := 0#32
  let c1_i32_20 : BitVec 32 := 1#32
  let arg9 : BitVec 32 := Scf.iv c0_i32_18 c1_i32_20 k1_t2
  let v121 : BitVec 32 := Scalar.muli c8_i32_62 arg9
  let v122 : BitVec 32 := Scalar.addi arg8 v121
  let c5_i32 : BitVec 32 := 5#32
  let v123 : BitVec 32 := Scalar.addi v122 c5_i32
  let v128 : Index := Scalar.indexCast v123
  let c0_66 : Index := 0#32
  ![v128.toNat, 0]
def k1_off20 (i : grid1.Coords) (arg8 : BitVec 32) (v25 : BitVec 32) (k1_t2 : Fin (k1_t2_loop i arg8 v25).trips) : Fin 3 → Nat :=
  let c0_69 : Index := 0#32
  let c0_70 : Index := 0#32
  let c8_i32_68 : BitVec 32 := 8#32
  let c0_i32_18 : BitVec 32 := 0#32
  let c1_i32_20 : BitVec 32 := 1#32
  let arg9 : BitVec 32 := Scf.iv c0_i32_18 c1_i32_20 k1_t2
  let v135 : BitVec 32 := Scalar.muli c8_i32_68 arg9
  let v136 : BitVec 32 := Scalar.addi arg8 v135
  let c6_i32 : BitVec 32 := 6#32
  let v137 : BitVec 32 := Scalar.addi v136 c6_i32
  let v138 : Index := Scalar.indexCast v137
  ![0, 0, v138.toNat]
def k1_off21 (v139 : BitVec 32) : Fin 2 → Nat :=
  let v140 : Index := Scalar.indexCast v139
  let c0_71 : Index := 0#32
  ![v140.toNat, 0]

def k1_chk8 (v139 : BitVec 32) : Prop :=
  (∀ a, (k1_off21 v139) a + S1x128.size a ≤ S64x128.size a)
theorem k1_off21_inb : ∀ (v139 : BitVec 32) (k1_hw8 : k1_chk8 v139), ∀ a, (k1_off21 v139) a + S1x128.size a ≤ S64x128.size a := fun v139 k1_hw8 => k1_hw8

def k1_off22 (i : grid1.Coords) (arg8 : BitVec 32) (v25 : BitVec 32) (k1_t2 : Fin (k1_t2_loop i arg8 v25).trips) : Fin 2 → Nat :=
  let c8_i32_68 : BitVec 32 := 8#32
  let c0_i32_18 : BitVec 32 := 0#32
  let c1_i32_20 : BitVec 32 := 1#32
  let arg9 : BitVec 32 := Scf.iv c0_i32_18 c1_i32_20 k1_t2
  let v135 : BitVec 32 := Scalar.muli c8_i32_68 arg9
  let v136 : BitVec 32 := Scalar.addi arg8 v135
  let c6_i32 : BitVec 32 := 6#32
  let v137 : BitVec 32 := Scalar.addi v136 c6_i32
  let v142 : Index := Scalar.indexCast v137
  let c0_72 : Index := 0#32
  ![v142.toNat, 0]
def k1_off23 (i : grid1.Coords) (arg8 : BitVec 32) (v25 : BitVec 32) (k1_t2 : Fin (k1_t2_loop i arg8 v25).trips) : Fin 3 → Nat :=
  let c0_75 : Index := 0#32
  let c0_76 : Index := 0#32
  let c8_i32_74 : BitVec 32 := 8#32
  let c0_i32_18 : BitVec 32 := 0#32
  let c1_i32_20 : BitVec 32 := 1#32
  let arg9 : BitVec 32 := Scf.iv c0_i32_18 c1_i32_20 k1_t2
  let v149 : BitVec 32 := Scalar.muli c8_i32_74 arg9
  let v150 : BitVec 32 := Scalar.addi arg8 v149
  let c7_i32 : BitVec 32 := 7#32
  let v151 : BitVec 32 := Scalar.addi v150 c7_i32
  let v152 : Index := Scalar.indexCast v151
  ![0, 0, v152.toNat]
def k1_off24 (v153 : BitVec 32) : Fin 2 → Nat :=
  let v154 : Index := Scalar.indexCast v153
  let c0_77 : Index := 0#32
  ![v154.toNat, 0]

def k1_chk9 (v153 : BitVec 32) : Prop :=
  (∀ a, (k1_off24 v153) a + S1x128.size a ≤ S64x128.size a)
theorem k1_off24_inb : ∀ (v153 : BitVec 32) (k1_hw9 : k1_chk9 v153), ∀ a, (k1_off24 v153) a + S1x128.size a ≤ S64x128.size a := fun v153 k1_hw9 => k1_hw9

def k1_off25 (i : grid1.Coords) (arg8 : BitVec 32) (v25 : BitVec 32) (k1_t2 : Fin (k1_t2_loop i arg8 v25).trips) : Fin 2 → Nat :=
  let c8_i32_74 : BitVec 32 := 8#32
  let c0_i32_18 : BitVec 32 := 0#32
  let c1_i32_20 : BitVec 32 := 1#32
  let arg9 : BitVec 32 := Scf.iv c0_i32_18 c1_i32_20 k1_t2
  let v149 : BitVec 32 := Scalar.muli c8_i32_74 arg9
  let v150 : BitVec 32 := Scalar.addi arg8 v149
  let c7_i32 : BitVec 32 := 7#32
  let v151 : BitVec 32 := Scalar.addi v150 c7_i32
  let v156 : Index := Scalar.indexCast v151
  let c0_78 : Index := 0#32
  ![v156.toNat, 0]
@[reducible] def k1_t3_loop (i : grid1.Coords) (arg8 : BitVec 32) (v25 : BitVec 32) : Scf.Loop 32 :=
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let v33 : BitVec 32 := Scalar.addi c0_i32_18 v32
  let c1_i32_21 : BitVec 32 := 1#32
  ⟨v36, v33, c1_i32_21⟩
def k1_off26 (i : grid1.Coords) (arg8 : BitVec 32) (v25 : BitVec 32) (k1_t3 : Fin (k1_t3_loop i arg8 v25).trips) : Fin 3 → Nat :=
  let c0_31 : Index := 0#32
  let c0_32 : Index := 0#32
  let c8_i32_29 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v51 : BitVec 32 := Scalar.muli c8_i32_29 arg9
  let v52 : BitVec 32 := Scalar.addi arg8 v51
  let c0_i32_30 : BitVec 32 := 0#32
  let v53 : BitVec 32 := Scalar.addi v52 c0_i32_30
  let v54 : Index := Scalar.indexCast v53
  ![0, 0, v54.toNat]
def k1_off27 (v55 : BitVec 32) : Fin 2 → Nat :=
  let v56 : Index := Scalar.indexCast v55
  let c0_33 : Index := 0#32
  ![v56.toNat, 0]

def k1_chk10 (v55 : BitVec 32) : Prop :=
  (∀ a, (k1_off27 v55) a + S1x128.size a ≤ S64x128.size a)
theorem k1_off27_inb : ∀ (v55 : BitVec 32) (k1_hw10 : k1_chk10 v55), ∀ a, (k1_off27 v55) a + S1x128.size a ≤ S64x128.size a := fun v55 k1_hw10 => k1_hw10

def k1_off28 (i : grid1.Coords) (arg8 : BitVec 32) (v25 : BitVec 32) (k1_t3 : Fin (k1_t3_loop i arg8 v25).trips) : Fin 2 → Nat :=
  let c8_i32_29 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v51 : BitVec 32 := Scalar.muli c8_i32_29 arg9
  let v52 : BitVec 32 := Scalar.addi arg8 v51
  let c0_i32_30 : BitVec 32 := 0#32
  let v53 : BitVec 32 := Scalar.addi v52 c0_i32_30
  let v58 : Index := Scalar.indexCast v53
  let c0_34 : Index := 0#32
  ![v58.toNat, 0]
def k1_off29 (i : grid1.Coords) (arg8 : BitVec 32) (v25 : BitVec 32) (k1_t3 : Fin (k1_t3_loop i arg8 v25).trips) : Fin 3 → Nat :=
  let c0_38 : Index := 0#32
  let c0_39 : Index := 0#32
  let c8_i32_36 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v65 : BitVec 32 := Scalar.muli c8_i32_36 arg9
  let v66 : BitVec 32 := Scalar.addi arg8 v65
  let c1_i32_37 : BitVec 32 := 1#32
  let v67 : BitVec 32 := Scalar.addi v66 c1_i32_37
  let v68 : Index := Scalar.indexCast v67
  ![0, 0, v68.toNat]
def k1_off30 (v69 : BitVec 32) : Fin 2 → Nat :=
  let v70 : Index := Scalar.indexCast v69
  let c0_40 : Index := 0#32
  ![v70.toNat, 0]

def k1_chk11 (v69 : BitVec 32) : Prop :=
  (∀ a, (k1_off30 v69) a + S1x128.size a ≤ S64x128.size a)
theorem k1_off30_inb : ∀ (v69 : BitVec 32) (k1_hw11 : k1_chk11 v69), ∀ a, (k1_off30 v69) a + S1x128.size a ≤ S64x128.size a := fun v69 k1_hw11 => k1_hw11

def k1_off31 (i : grid1.Coords) (arg8 : BitVec 32) (v25 : BitVec 32) (k1_t3 : Fin (k1_t3_loop i arg8 v25).trips) : Fin 2 → Nat :=
  let c8_i32_36 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v65 : BitVec 32 := Scalar.muli c8_i32_36 arg9
  let v66 : BitVec 32 := Scalar.addi arg8 v65
  let c1_i32_37 : BitVec 32 := 1#32
  let v67 : BitVec 32 := Scalar.addi v66 c1_i32_37
  let v72 : Index := Scalar.indexCast v67
  let c0_41 : Index := 0#32
  ![v72.toNat, 0]
def k1_off32 (i : grid1.Coords) (arg8 : BitVec 32) (v25 : BitVec 32) (k1_t3 : Fin (k1_t3_loop i arg8 v25).trips) : Fin 3 → Nat :=
  let c0_44 : Index := 0#32
  let c0_45 : Index := 0#32
  let c8_i32_43 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v79 : BitVec 32 := Scalar.muli c8_i32_43 arg9
  let v80 : BitVec 32 := Scalar.addi arg8 v79
  let c2_i32 : BitVec 32 := 2#32
  let v81 : BitVec 32 := Scalar.addi v80 c2_i32
  let v82 : Index := Scalar.indexCast v81
  ![0, 0, v82.toNat]
def k1_off33 (v83 : BitVec 32) : Fin 2 → Nat :=
  let v84 : Index := Scalar.indexCast v83
  let c0_46 : Index := 0#32
  ![v84.toNat, 0]

def k1_chk12 (v83 : BitVec 32) : Prop :=
  (∀ a, (k1_off33 v83) a + S1x128.size a ≤ S64x128.size a)
theorem k1_off33_inb : ∀ (v83 : BitVec 32) (k1_hw12 : k1_chk12 v83), ∀ a, (k1_off33 v83) a + S1x128.size a ≤ S64x128.size a := fun v83 k1_hw12 => k1_hw12

def k1_off34 (i : grid1.Coords) (arg8 : BitVec 32) (v25 : BitVec 32) (k1_t3 : Fin (k1_t3_loop i arg8 v25).trips) : Fin 2 → Nat :=
  let c8_i32_43 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v79 : BitVec 32 := Scalar.muli c8_i32_43 arg9
  let v80 : BitVec 32 := Scalar.addi arg8 v79
  let c2_i32 : BitVec 32 := 2#32
  let v81 : BitVec 32 := Scalar.addi v80 c2_i32
  let v86 : Index := Scalar.indexCast v81
  let c0_47 : Index := 0#32
  ![v86.toNat, 0]
def k1_off35 (i : grid1.Coords) (arg8 : BitVec 32) (v25 : BitVec 32) (k1_t3 : Fin (k1_t3_loop i arg8 v25).trips) : Fin 3 → Nat :=
  let c0_51 : Index := 0#32
  let c0_52 : Index := 0#32
  let c8_i32_49 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v93 : BitVec 32 := Scalar.muli c8_i32_49 arg9
  let v94 : BitVec 32 := Scalar.addi arg8 v93
  let c3_i32_50 : BitVec 32 := 3#32
  let v95 : BitVec 32 := Scalar.addi v94 c3_i32_50
  let v96 : Index := Scalar.indexCast v95
  ![0, 0, v96.toNat]
def k1_off36 (v97 : BitVec 32) : Fin 2 → Nat :=
  let v98 : Index := Scalar.indexCast v97
  let c0_53 : Index := 0#32
  ![v98.toNat, 0]

def k1_chk13 (v97 : BitVec 32) : Prop :=
  (∀ a, (k1_off36 v97) a + S1x128.size a ≤ S64x128.size a)
theorem k1_off36_inb : ∀ (v97 : BitVec 32) (k1_hw13 : k1_chk13 v97), ∀ a, (k1_off36 v97) a + S1x128.size a ≤ S64x128.size a := fun v97 k1_hw13 => k1_hw13

def k1_off37 (i : grid1.Coords) (arg8 : BitVec 32) (v25 : BitVec 32) (k1_t3 : Fin (k1_t3_loop i arg8 v25).trips) : Fin 2 → Nat :=
  let c8_i32_49 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v93 : BitVec 32 := Scalar.muli c8_i32_49 arg9
  let v94 : BitVec 32 := Scalar.addi arg8 v93
  let c3_i32_50 : BitVec 32 := 3#32
  let v95 : BitVec 32 := Scalar.addi v94 c3_i32_50
  let v100 : Index := Scalar.indexCast v95
  let c0_54 : Index := 0#32
  ![v100.toNat, 0]
def k1_off38 (i : grid1.Coords) (arg8 : BitVec 32) (v25 : BitVec 32) (k1_t3 : Fin (k1_t3_loop i arg8 v25).trips) : Fin 3 → Nat :=
  let c0_57 : Index := 0#32
  let c0_58 : Index := 0#32
  let c8_i32_56 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v107 : BitVec 32 := Scalar.muli c8_i32_56 arg9
  let v108 : BitVec 32 := Scalar.addi arg8 v107
  let c4_i32 : BitVec 32 := 4#32
  let v109 : BitVec 32 := Scalar.addi v108 c4_i32
  let v110 : Index := Scalar.indexCast v109
  ![0, 0, v110.toNat]
def k1_off39 (v111 : BitVec 32) : Fin 2 → Nat :=
  let v112 : Index := Scalar.indexCast v111
  let c0_59 : Index := 0#32
  ![v112.toNat, 0]

def k1_chk14 (v111 : BitVec 32) : Prop :=
  (∀ a, (k1_off39 v111) a + S1x128.size a ≤ S64x128.size a)
theorem k1_off39_inb : ∀ (v111 : BitVec 32) (k1_hw14 : k1_chk14 v111), ∀ a, (k1_off39 v111) a + S1x128.size a ≤ S64x128.size a := fun v111 k1_hw14 => k1_hw14

def k1_off40 (i : grid1.Coords) (arg8 : BitVec 32) (v25 : BitVec 32) (k1_t3 : Fin (k1_t3_loop i arg8 v25).trips) : Fin 2 → Nat :=
  let c8_i32_56 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v107 : BitVec 32 := Scalar.muli c8_i32_56 arg9
  let v108 : BitVec 32 := Scalar.addi arg8 v107
  let c4_i32 : BitVec 32 := 4#32
  let v109 : BitVec 32 := Scalar.addi v108 c4_i32
  let v114 : Index := Scalar.indexCast v109
  let c0_60 : Index := 0#32
  ![v114.toNat, 0]
def k1_off41 (i : grid1.Coords) (arg8 : BitVec 32) (v25 : BitVec 32) (k1_t3 : Fin (k1_t3_loop i arg8 v25).trips) : Fin 3 → Nat :=
  let c0_63 : Index := 0#32
  let c0_64 : Index := 0#32
  let c8_i32_62 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v121 : BitVec 32 := Scalar.muli c8_i32_62 arg9
  let v122 : BitVec 32 := Scalar.addi arg8 v121
  let c5_i32 : BitVec 32 := 5#32
  let v123 : BitVec 32 := Scalar.addi v122 c5_i32
  let v124 : Index := Scalar.indexCast v123
  ![0, 0, v124.toNat]
def k1_off42 (v125 : BitVec 32) : Fin 2 → Nat :=
  let v126 : Index := Scalar.indexCast v125
  let c0_65 : Index := 0#32
  ![v126.toNat, 0]

def k1_chk15 (v125 : BitVec 32) : Prop :=
  (∀ a, (k1_off42 v125) a + S1x128.size a ≤ S64x128.size a)
theorem k1_off42_inb : ∀ (v125 : BitVec 32) (k1_hw15 : k1_chk15 v125), ∀ a, (k1_off42 v125) a + S1x128.size a ≤ S64x128.size a := fun v125 k1_hw15 => k1_hw15

def k1_off43 (i : grid1.Coords) (arg8 : BitVec 32) (v25 : BitVec 32) (k1_t3 : Fin (k1_t3_loop i arg8 v25).trips) : Fin 2 → Nat :=
  let c8_i32_62 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v121 : BitVec 32 := Scalar.muli c8_i32_62 arg9
  let v122 : BitVec 32 := Scalar.addi arg8 v121
  let c5_i32 : BitVec 32 := 5#32
  let v123 : BitVec 32 := Scalar.addi v122 c5_i32
  let v128 : Index := Scalar.indexCast v123
  let c0_66 : Index := 0#32
  ![v128.toNat, 0]
def k1_off44 (i : grid1.Coords) (arg8 : BitVec 32) (v25 : BitVec 32) (k1_t3 : Fin (k1_t3_loop i arg8 v25).trips) : Fin 3 → Nat :=
  let c0_69 : Index := 0#32
  let c0_70 : Index := 0#32
  let c8_i32_68 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v135 : BitVec 32 := Scalar.muli c8_i32_68 arg9
  let v136 : BitVec 32 := Scalar.addi arg8 v135
  let c6_i32 : BitVec 32 := 6#32
  let v137 : BitVec 32 := Scalar.addi v136 c6_i32
  let v138 : Index := Scalar.indexCast v137
  ![0, 0, v138.toNat]
def k1_off45 (v139 : BitVec 32) : Fin 2 → Nat :=
  let v140 : Index := Scalar.indexCast v139
  let c0_71 : Index := 0#32
  ![v140.toNat, 0]

def k1_chk16 (v139 : BitVec 32) : Prop :=
  (∀ a, (k1_off45 v139) a + S1x128.size a ≤ S64x128.size a)
theorem k1_off45_inb : ∀ (v139 : BitVec 32) (k1_hw16 : k1_chk16 v139), ∀ a, (k1_off45 v139) a + S1x128.size a ≤ S64x128.size a := fun v139 k1_hw16 => k1_hw16

def k1_off46 (i : grid1.Coords) (arg8 : BitVec 32) (v25 : BitVec 32) (k1_t3 : Fin (k1_t3_loop i arg8 v25).trips) : Fin 2 → Nat :=
  let c8_i32_68 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v135 : BitVec 32 := Scalar.muli c8_i32_68 arg9
  let v136 : BitVec 32 := Scalar.addi arg8 v135
  let c6_i32 : BitVec 32 := 6#32
  let v137 : BitVec 32 := Scalar.addi v136 c6_i32
  let v142 : Index := Scalar.indexCast v137
  let c0_72 : Index := 0#32
  ![v142.toNat, 0]
def k1_off47 (i : grid1.Coords) (arg8 : BitVec 32) (v25 : BitVec 32) (k1_t3 : Fin (k1_t3_loop i arg8 v25).trips) : Fin 3 → Nat :=
  let c0_75 : Index := 0#32
  let c0_76 : Index := 0#32
  let c8_i32_74 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v149 : BitVec 32 := Scalar.muli c8_i32_74 arg9
  let v150 : BitVec 32 := Scalar.addi arg8 v149
  let c7_i32 : BitVec 32 := 7#32
  let v151 : BitVec 32 := Scalar.addi v150 c7_i32
  let v152 : Index := Scalar.indexCast v151
  ![0, 0, v152.toNat]
def k1_off48 (v153 : BitVec 32) : Fin 2 → Nat :=
  let v154 : Index := Scalar.indexCast v153
  let c0_77 : Index := 0#32
  ![v154.toNat, 0]

def k1_chk17 (v153 : BitVec 32) : Prop :=
  (∀ a, (k1_off48 v153) a + S1x128.size a ≤ S64x128.size a)
theorem k1_off48_inb : ∀ (v153 : BitVec 32) (k1_hw17 : k1_chk17 v153), ∀ a, (k1_off48 v153) a + S1x128.size a ≤ S64x128.size a := fun v153 k1_hw17 => k1_hw17

def k1_off49 (i : grid1.Coords) (arg8 : BitVec 32) (v25 : BitVec 32) (k1_t3 : Fin (k1_t3_loop i arg8 v25).trips) : Fin 2 → Nat :=
  let c8_i32_74 : BitVec 32 := 8#32
  let c0_i32_18 : BitVec 32 := 0#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v32 : BitVec 32 := Scalar.subi v31 c0_i32_18
  let c1_i32_19 : BitVec 32 := 1#32
  let v34 : BitVec 32 := Scalar.divsi v32 c1_i32_19
  let v35 : BitVec 32 := Scalar.muli v34 c1_i32_19
  let v36 : BitVec 32 := Scalar.addi c0_i32_18 v35
  let c1_i32_21 : BitVec 32 := 1#32
  let arg9 : BitVec 32 := Scf.iv v36 c1_i32_21 k1_t3
  let v149 : BitVec 32 := Scalar.muli c8_i32_74 arg9
  let v150 : BitVec 32 := Scalar.addi arg8 v149
  let c7_i32 : BitVec 32 := 7#32
  let v151 : BitVec 32 := Scalar.addi v150 c7_i32
  let v156 : Index := Scalar.indexCast v151
  let c0_78 : Index := 0#32
  ![v156.toNat, 0]
@[reducible] def k1_t4_loop (i : grid1.Coords) (arg8 : BitVec 32) (v25 : BitVec 32) : Scf.Loop 32 :=
  let c8_i32_22 : BitVec 32 := 8#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v37 : BitVec 32 := Scalar.muli c8_i32_22 v31
  let v38 : BitVec 32 := Scalar.addi arg8 v37
  let v39 : BitVec 32 := Scalar.subi v29 v38
  let c1_i32_24 : BitVec 32 := 1#32
  let v41 : BitVec 32 := Scalar.divsi v39 c1_i32_24
  let v42 : BitVec 32 := Scalar.muli v41 c1_i32_24
  let v43 : BitVec 32 := Scalar.addi v38 v42
  let c1_i32_25 : BitVec 32 := 1#32
  ⟨v38, v43, c1_i32_25⟩
def k1_off50 (i : grid1.Coords) (arg8 : BitVec 32) (v25 : BitVec 32) (k1_t4 : Fin (k1_t4_loop i arg8 v25).trips) : Fin 3 → Nat :=
  let c0_29 : Index := 0#32
  let c0_30 : Index := 0#32
  let c8_i32_22 : BitVec 32 := 8#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v37 : BitVec 32 := Scalar.muli c8_i32_22 v31
  let v38 : BitVec 32 := Scalar.addi arg8 v37
  let c1_i32_25 : BitVec 32 := 1#32
  let arg9 : BitVec 32 := Scf.iv v38 c1_i32_25 k1_t4
  let v51 : Index := Scalar.indexCast arg9
  ![0, 0, v51.toNat]
def k1_off51 (v52 : BitVec 32) : Fin 2 → Nat :=
  let v53 : Index := Scalar.indexCast v52
  let c0_31 : Index := 0#32
  ![v53.toNat, 0]

def k1_chk18 (v52 : BitVec 32) : Prop :=
  (∀ a, (k1_off51 v52) a + S1x128.size a ≤ S64x128.size a)
theorem k1_off51_inb : ∀ (v52 : BitVec 32) (k1_hw18 : k1_chk18 v52), ∀ a, (k1_off51 v52) a + S1x128.size a ≤ S64x128.size a := fun v52 k1_hw18 => k1_hw18

def k1_off52 (i : grid1.Coords) (arg8 : BitVec 32) (v25 : BitVec 32) (k1_t4 : Fin (k1_t4_loop i arg8 v25).trips) : Fin 2 → Nat :=
  let c8_i32_22 : BitVec 32 := 8#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v37 : BitVec 32 := Scalar.muli c8_i32_22 v31
  let v38 : BitVec 32 := Scalar.addi arg8 v37
  let c1_i32_25 : BitVec 32 := 1#32
  let arg9 : BitVec 32 := Scf.iv v38 c1_i32_25 k1_t4
  let v55 : Index := Scalar.indexCast arg9
  let c0_32 : Index := 0#32
  ![v55.toNat, 0]
@[reducible] def k1_t5_loop (i : grid1.Coords) (arg8 : BitVec 32) (v25 : BitVec 32) : Scf.Loop 32 :=
  let c8_i32_22 : BitVec 32 := 8#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v37 : BitVec 32 := Scalar.muli c8_i32_22 v31
  let v38 : BitVec 32 := Scalar.addi arg8 v37
  let v39 : BitVec 32 := Scalar.subi v29 v38
  let c1_i32_24 : BitVec 32 := 1#32
  let v41 : BitVec 32 := Scalar.divsi v39 c1_i32_24
  let v42 : BitVec 32 := Scalar.muli v41 c1_i32_24
  let v43 : BitVec 32 := Scalar.addi v38 v42
  let v40 : BitVec 32 := Scalar.addi v38 v39
  let c1_i32_26 : BitVec 32 := 1#32
  ⟨v43, v40, c1_i32_26⟩
def k1_off53 (i : grid1.Coords) (arg8 : BitVec 32) (v25 : BitVec 32) (k1_t5 : Fin (k1_t5_loop i arg8 v25).trips) : Fin 3 → Nat :=
  let c0_29 : Index := 0#32
  let c0_30 : Index := 0#32
  let c8_i32_22 : BitVec 32 := 8#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v37 : BitVec 32 := Scalar.muli c8_i32_22 v31
  let v38 : BitVec 32 := Scalar.addi arg8 v37
  let v39 : BitVec 32 := Scalar.subi v29 v38
  let c1_i32_24 : BitVec 32 := 1#32
  let v41 : BitVec 32 := Scalar.divsi v39 c1_i32_24
  let v42 : BitVec 32 := Scalar.muli v41 c1_i32_24
  let v43 : BitVec 32 := Scalar.addi v38 v42
  let c1_i32_26 : BitVec 32 := 1#32
  let arg9 : BitVec 32 := Scf.iv v43 c1_i32_26 k1_t5
  let v51 : Index := Scalar.indexCast arg9
  ![0, 0, v51.toNat]
def k1_off54 (v52 : BitVec 32) : Fin 2 → Nat :=
  let v53 : Index := Scalar.indexCast v52
  let c0_31 : Index := 0#32
  ![v53.toNat, 0]

def k1_chk19 (v52 : BitVec 32) : Prop :=
  (∀ a, (k1_off54 v52) a + S1x128.size a ≤ S64x128.size a)
theorem k1_off54_inb : ∀ (v52 : BitVec 32) (k1_hw19 : k1_chk19 v52), ∀ a, (k1_off54 v52) a + S1x128.size a ≤ S64x128.size a := fun v52 k1_hw19 => k1_hw19

def k1_off55 (i : grid1.Coords) (arg8 : BitVec 32) (v25 : BitVec 32) (k1_t5 : Fin (k1_t5_loop i arg8 v25).trips) : Fin 2 → Nat :=
  let c8_i32_22 : BitVec 32 := 8#32
  let c4096_i32_16 : BitVec 32 := 4096#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v28 : BitVec 32 := Scalar.maxsi arg8 v27
  let v29 : BitVec 32 := Scalar.minsi c4096_i32_16 v28
  let v30 : BitVec 32 := Scalar.subi v29 arg8
  let c8_i32_17 : BitVec 32 := 8#32
  let v31 : BitVec 32 := Scalar.divsi v30 c8_i32_17
  let v37 : BitVec 32 := Scalar.muli c8_i32_22 v31
  let v38 : BitVec 32 := Scalar.addi arg8 v37
  let v39 : BitVec 32 := Scalar.subi v29 v38
  let c1_i32_24 : BitVec 32 := 1#32
  let v41 : BitVec 32 := Scalar.divsi v39 c1_i32_24
  let v42 : BitVec 32 := Scalar.muli v41 c1_i32_24
  let v43 : BitVec 32 := Scalar.addi v38 v42
  let c1_i32_26 : BitVec 32 := 1#32
  let arg9 : BitVec 32 := Scf.iv v43 c1_i32_26 k1_t5
  let v55 : Index := Scalar.indexCast arg9
  let c0_32 : Index := 0#32
  ![v55.toNat, 0]
def k1_off56 (i : grid1.Coords) (v25 : BitVec 32) : Fin 3 → Nat :=
  let c0_29 : Index := 0#32
  let c0_30 : Index := 0#32
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v51 : Index := Scalar.indexCast v27
  ![0, 0, v51.toNat]
def k1_cond2 (i : grid1.Coords) (arg8 : BitVec 32) (v25 : BitVec 32) : BitVec 1 :=
  let arg0 : BitVec 32 := BitVec.ofNat 32 (i 0).val
  let c4096_i32_15 : BitVec 32 := 4096#32
  let v26 : BitVec 32 := Scalar.muli arg0 c4096_i32_15
  let v27 : BitVec 32 := Scalar.subi v25 v26
  let v46 : BitVec 1 := Scalar.cmpi .sge v27 arg8
  let c4096_i32_27 : BitVec 32 := 4096#32
  let v47 : BitVec 1 := Scalar.cmpi .slt v27 c4096_i32_27
  let v48 : BitVec 1 := Scalar.andi v46 v47
  let v49 : BitVec 32 := Scalar.extui v48
  let c0_i32_28 : BitVec 32 := 0#32
  let v50 : BitVec 1 := Scalar.cmpi .ne v49 c0_i32_28
  v50

def k1_chk1_0 (i : grid1.Coords) (arg8 : BitVec 32) (v25 : BitVec 32) : Prop :=
  ((k1_t2_loop i arg8 v25).OK) ∧
  (∀ k1_t2 : Fin (k1_t2_loop i arg8 v25).trips, ∀ a, (k1_off2 i arg8 v25 k1_t2) a + S1x1x1.size a ≤ S1x1x4096.size a) ∧
  (∀ k1_t2 : Fin (k1_t2_loop i arg8 v25).trips, ∀ a, (k1_off4 i arg8 v25 k1_t2) a + S1x128.size a ≤ S4096x128.size a) ∧
  (∀ k1_t2 : Fin (k1_t2_loop i arg8 v25).trips, ∀ a, (k1_off5 i arg8 v25 k1_t2) a + S1x1x1.size a ≤ S1x1x4096.size a) ∧
  (∀ k1_t2 : Fin (k1_t2_loop i arg8 v25).trips, ∀ a, (k1_off7 i arg8 v25 k1_t2) a + S1x128.size a ≤ S4096x128.size a) ∧
  (∀ k1_t2 : Fin (k1_t2_loop i arg8 v25).trips, ∀ a, (k1_off8 i arg8 v25 k1_t2) a + S1x1x1.size a ≤ S1x1x4096.size a) ∧
  (∀ k1_t2 : Fin (k1_t2_loop i arg8 v25).trips, ∀ a, (k1_off10 i arg8 v25 k1_t2) a + S1x128.size a ≤ S4096x128.size a) ∧
  (∀ k1_t2 : Fin (k1_t2_loop i arg8 v25).trips, ∀ a, (k1_off11 i arg8 v25 k1_t2) a + S1x1x1.size a ≤ S1x1x4096.size a) ∧
  (∀ k1_t2 : Fin (k1_t2_loop i arg8 v25).trips, ∀ a, (k1_off13 i arg8 v25 k1_t2) a + S1x128.size a ≤ S4096x128.size a) ∧
  (∀ k1_t2 : Fin (k1_t2_loop i arg8 v25).trips, ∀ a, (k1_off14 i arg8 v25 k1_t2) a + S1x1x1.size a ≤ S1x1x4096.size a) ∧
  (∀ k1_t2 : Fin (k1_t2_loop i arg8 v25).trips, ∀ a, (k1_off16 i arg8 v25 k1_t2) a + S1x128.size a ≤ S4096x128.size a) ∧
  (∀ k1_t2 : Fin (k1_t2_loop i arg8 v25).trips, ∀ a, (k1_off17 i arg8 v25 k1_t2) a + S1x1x1.size a ≤ S1x1x4096.size a) ∧
  (∀ k1_t2 : Fin (k1_t2_loop i arg8 v25).trips, ∀ a, (k1_off19 i arg8 v25 k1_t2) a + S1x128.size a ≤ S4096x128.size a) ∧
  (∀ k1_t2 : Fin (k1_t2_loop i arg8 v25).trips, ∀ a, (k1_off20 i arg8 v25 k1_t2) a + S1x1x1.size a ≤ S1x1x4096.size a) ∧
  (∀ k1_t2 : Fin (k1_t2_loop i arg8 v25).trips, ∀ a, (k1_off22 i arg8 v25 k1_t2) a + S1x128.size a ≤ S4096x128.size a) ∧
  (∀ k1_t2 : Fin (k1_t2_loop i arg8 v25).trips, ∀ a, (k1_off23 i arg8 v25 k1_t2) a + S1x1x1.size a ≤ S1x1x4096.size a) ∧
  (∀ k1_t2 : Fin (k1_t2_loop i arg8 v25).trips, ∀ a, (k1_off25 i arg8 v25 k1_t2) a + S1x128.size a ≤ S4096x128.size a) ∧
  ((k1_t3_loop i arg8 v25).OK) ∧
  (∀ k1_t3 : Fin (k1_t3_loop i arg8 v25).trips, ∀ a, (k1_off26 i arg8 v25 k1_t3) a + S1x1x1.size a ≤ S1x1x4096.size a) ∧
  (∀ k1_t3 : Fin (k1_t3_loop i arg8 v25).trips, ∀ a, (k1_off28 i arg8 v25 k1_t3) a + S1x128.size a ≤ S4096x128.size a) ∧
  (∀ k1_t3 : Fin (k1_t3_loop i arg8 v25).trips, ∀ a, (k1_off29 i arg8 v25 k1_t3) a + S1x1x1.size a ≤ S1x1x4096.size a) ∧
  (∀ k1_t3 : Fin (k1_t3_loop i arg8 v25).trips, ∀ a, (k1_off31 i arg8 v25 k1_t3) a + S1x128.size a ≤ S4096x128.size a) ∧
  (∀ k1_t3 : Fin (k1_t3_loop i arg8 v25).trips, ∀ a, (k1_off32 i arg8 v25 k1_t3) a + S1x1x1.size a ≤ S1x1x4096.size a) ∧
  (∀ k1_t3 : Fin (k1_t3_loop i arg8 v25).trips, ∀ a, (k1_off34 i arg8 v25 k1_t3) a + S1x128.size a ≤ S4096x128.size a) ∧
  (∀ k1_t3 : Fin (k1_t3_loop i arg8 v25).trips, ∀ a, (k1_off35 i arg8 v25 k1_t3) a + S1x1x1.size a ≤ S1x1x4096.size a) ∧
  (∀ k1_t3 : Fin (k1_t3_loop i arg8 v25).trips, ∀ a, (k1_off37 i arg8 v25 k1_t3) a + S1x128.size a ≤ S4096x128.size a) ∧
  (∀ k1_t3 : Fin (k1_t3_loop i arg8 v25).trips, ∀ a, (k1_off38 i arg8 v25 k1_t3) a + S1x1x1.size a ≤ S1x1x4096.size a) ∧
  (∀ k1_t3 : Fin (k1_t3_loop i arg8 v25).trips, ∀ a, (k1_off40 i arg8 v25 k1_t3) a + S1x128.size a ≤ S4096x128.size a) ∧
  (∀ k1_t3 : Fin (k1_t3_loop i arg8 v25).trips, ∀ a, (k1_off41 i arg8 v25 k1_t3) a + S1x1x1.size a ≤ S1x1x4096.size a) ∧
  (∀ k1_t3 : Fin (k1_t3_loop i arg8 v25).trips, ∀ a, (k1_off43 i arg8 v25 k1_t3) a + S1x128.size a ≤ S4096x128.size a) ∧
  (∀ k1_t3 : Fin (k1_t3_loop i arg8 v25).trips, ∀ a, (k1_off44 i arg8 v25 k1_t3) a + S1x1x1.size a ≤ S1x1x4096.size a) ∧
  (∀ k1_t3 : Fin (k1_t3_loop i arg8 v25).trips, ∀ a, (k1_off46 i arg8 v25 k1_t3) a + S1x128.size a ≤ S4096x128.size a)
def k1_chk1_1 (i : grid1.Coords) (arg8 : BitVec 32) (v25 : BitVec 32) : Prop :=
  (∀ k1_t3 : Fin (k1_t3_loop i arg8 v25).trips, ∀ a, (k1_off47 i arg8 v25 k1_t3) a + S1x1x1.size a ≤ S1x1x4096.size a) ∧
  (∀ k1_t3 : Fin (k1_t3_loop i arg8 v25).trips, ∀ a, (k1_off49 i arg8 v25 k1_t3) a + S1x128.size a ≤ S4096x128.size a) ∧
  ((k1_t4_loop i arg8 v25).OK) ∧
  (∀ k1_t4 : Fin (k1_t4_loop i arg8 v25).trips, ∀ a, (k1_off50 i arg8 v25 k1_t4) a + S1x1x1.size a ≤ S1x1x4096.size a) ∧
  (∀ k1_t4 : Fin (k1_t4_loop i arg8 v25).trips, ∀ a, (k1_off52 i arg8 v25 k1_t4) a + S1x128.size a ≤ S4096x128.size a) ∧
  ((k1_t5_loop i arg8 v25).OK) ∧
  (∀ k1_t5 : Fin (k1_t5_loop i arg8 v25).trips, ∀ a, (k1_off53 i arg8 v25 k1_t5) a + S1x1x1.size a ≤ S1x1x4096.size a) ∧
  (∀ k1_t5 : Fin (k1_t5_loop i arg8 v25).trips, ∀ a, (k1_off55 i arg8 v25 k1_t5) a + S1x128.size a ≤ S4096x128.size a) ∧
  (∀ (k1_h2 : k1_cond2 i arg8 v25 = 1#1), ∀ a, (k1_off56 i v25) a + S1x1x1.size a ≤ S1x1x4096.size a)
def k1_chk1 (i : grid1.Coords) (arg8 : BitVec 32) (v25 : BitVec 32) : Prop :=
  k1_chk1_0 i arg8 v25 ∧
  k1_chk1_1 i arg8 v25
theorem k1_t2_ok : ∀ (i : grid1.Coords) (arg8 : BitVec 32) (v25 : BitVec 32) (k1_hw1 : k1_chk1 i arg8 v25), (k1_t2_loop i arg8 v25).OK := fun i arg8 v25 k1_hw1 => k1_hw1.1.1
theorem k1_off2_inb : ∀ (i : grid1.Coords) (arg8 : BitVec 32) (v25 : BitVec 32) (k1_hw1 : k1_chk1 i arg8 v25) (k1_t2 : Fin (k1_t2_loop i arg8 v25).trips), ∀ a, (k1_off2 i arg8 v25 k1_t2) a + S1x1x1.size a ≤ S1x1x4096.size a := fun i arg8 v25 k1_hw1 k1_t2 => k1_hw1.1.2.1 k1_t2
theorem k1_off4_inb : ∀ (i : grid1.Coords) (arg8 : BitVec 32) (v25 : BitVec 32) (k1_hw1 : k1_chk1 i arg8 v25) (k1_t2 : Fin (k1_t2_loop i arg8 v25).trips), ∀ a, (k1_off4 i arg8 v25 k1_t2) a + S1x128.size a ≤ S4096x128.size a := fun i arg8 v25 k1_hw1 k1_t2 => k1_hw1.1.2.2.1 k1_t2
theorem k1_off5_inb : ∀ (i : grid1.Coords) (arg8 : BitVec 32) (v25 : BitVec 32) (k1_hw1 : k1_chk1 i arg8 v25) (k1_t2 : Fin (k1_t2_loop i arg8 v25).trips), ∀ a, (k1_off5 i arg8 v25 k1_t2) a + S1x1x1.size a ≤ S1x1x4096.size a := fun i arg8 v25 k1_hw1 k1_t2 => k1_hw1.1.2.2.2.1 k1_t2
theorem k1_off7_inb : ∀ (i : grid1.Coords) (arg8 : BitVec 32) (v25 : BitVec 32) (k1_hw1 : k1_chk1 i arg8 v25) (k1_t2 : Fin (k1_t2_loop i arg8 v25).trips), ∀ a, (k1_off7 i arg8 v25 k1_t2) a + S1x128.size a ≤ S4096x128.size a := fun i arg8 v25 k1_hw1 k1_t2 => k1_hw1.1.2.2.2.2.1 k1_t2
theorem k1_off8_inb : ∀ (i : grid1.Coords) (arg8 : BitVec 32) (v25 : BitVec 32) (k1_hw1 : k1_chk1 i arg8 v25) (k1_t2 : Fin (k1_t2_loop i arg8 v25).trips), ∀ a, (k1_off8 i arg8 v25 k1_t2) a + S1x1x1.size a ≤ S1x1x4096.size a := fun i arg8 v25 k1_hw1 k1_t2 => k1_hw1.1.2.2.2.2.2.1 k1_t2
theorem k1_off10_inb : ∀ (i : grid1.Coords) (arg8 : BitVec 32) (v25 : BitVec 32) (k1_hw1 : k1_chk1 i arg8 v25) (k1_t2 : Fin (k1_t2_loop i arg8 v25).trips), ∀ a, (k1_off10 i arg8 v25 k1_t2) a + S1x128.size a ≤ S4096x128.size a := fun i arg8 v25 k1_hw1 k1_t2 => k1_hw1.1.2.2.2.2.2.2.1 k1_t2
theorem k1_off11_inb : ∀ (i : grid1.Coords) (arg8 : BitVec 32) (v25 : BitVec 32) (k1_hw1 : k1_chk1 i arg8 v25) (k1_t2 : Fin (k1_t2_loop i arg8 v25).trips), ∀ a, (k1_off11 i arg8 v25 k1_t2) a + S1x1x1.size a ≤ S1x1x4096.size a := fun i arg8 v25 k1_hw1 k1_t2 => k1_hw1.1.2.2.2.2.2.2.2.1 k1_t2
theorem k1_off13_inb : ∀ (i : grid1.Coords) (arg8 : BitVec 32) (v25 : BitVec 32) (k1_hw1 : k1_chk1 i arg8 v25) (k1_t2 : Fin (k1_t2_loop i arg8 v25).trips), ∀ a, (k1_off13 i arg8 v25 k1_t2) a + S1x128.size a ≤ S4096x128.size a := fun i arg8 v25 k1_hw1 k1_t2 => k1_hw1.1.2.2.2.2.2.2.2.2.1 k1_t2
theorem k1_off14_inb : ∀ (i : grid1.Coords) (arg8 : BitVec 32) (v25 : BitVec 32) (k1_hw1 : k1_chk1 i arg8 v25) (k1_t2 : Fin (k1_t2_loop i arg8 v25).trips), ∀ a, (k1_off14 i arg8 v25 k1_t2) a + S1x1x1.size a ≤ S1x1x4096.size a := fun i arg8 v25 k1_hw1 k1_t2 => k1_hw1.1.2.2.2.2.2.2.2.2.2.1 k1_t2
theorem k1_off16_inb : ∀ (i : grid1.Coords) (arg8 : BitVec 32) (v25 : BitVec 32) (k1_hw1 : k1_chk1 i arg8 v25) (k1_t2 : Fin (k1_t2_loop i arg8 v25).trips), ∀ a, (k1_off16 i arg8 v25 k1_t2) a + S1x128.size a ≤ S4096x128.size a := fun i arg8 v25 k1_hw1 k1_t2 => k1_hw1.1.2.2.2.2.2.2.2.2.2.2.1 k1_t2
theorem k1_off17_inb : ∀ (i : grid1.Coords) (arg8 : BitVec 32) (v25 : BitVec 32) (k1_hw1 : k1_chk1 i arg8 v25) (k1_t2 : Fin (k1_t2_loop i arg8 v25).trips), ∀ a, (k1_off17 i arg8 v25 k1_t2) a + S1x1x1.size a ≤ S1x1x4096.size a := fun i arg8 v25 k1_hw1 k1_t2 => k1_hw1.1.2.2.2.2.2.2.2.2.2.2.2.1 k1_t2
theorem k1_off19_inb : ∀ (i : grid1.Coords) (arg8 : BitVec 32) (v25 : BitVec 32) (k1_hw1 : k1_chk1 i arg8 v25) (k1_t2 : Fin (k1_t2_loop i arg8 v25).trips), ∀ a, (k1_off19 i arg8 v25 k1_t2) a + S1x128.size a ≤ S4096x128.size a := fun i arg8 v25 k1_hw1 k1_t2 => k1_hw1.1.2.2.2.2.2.2.2.2.2.2.2.2.1 k1_t2
theorem k1_off20_inb : ∀ (i : grid1.Coords) (arg8 : BitVec 32) (v25 : BitVec 32) (k1_hw1 : k1_chk1 i arg8 v25) (k1_t2 : Fin (k1_t2_loop i arg8 v25).trips), ∀ a, (k1_off20 i arg8 v25 k1_t2) a + S1x1x1.size a ≤ S1x1x4096.size a := fun i arg8 v25 k1_hw1 k1_t2 => k1_hw1.1.2.2.2.2.2.2.2.2.2.2.2.2.2.1 k1_t2
theorem k1_off22_inb : ∀ (i : grid1.Coords) (arg8 : BitVec 32) (v25 : BitVec 32) (k1_hw1 : k1_chk1 i arg8 v25) (k1_t2 : Fin (k1_t2_loop i arg8 v25).trips), ∀ a, (k1_off22 i arg8 v25 k1_t2) a + S1x128.size a ≤ S4096x128.size a := fun i arg8 v25 k1_hw1 k1_t2 => k1_hw1.1.2.2.2.2.2.2.2.2.2.2.2.2.2.2.1 k1_t2
theorem k1_off23_inb : ∀ (i : grid1.Coords) (arg8 : BitVec 32) (v25 : BitVec 32) (k1_hw1 : k1_chk1 i arg8 v25) (k1_t2 : Fin (k1_t2_loop i arg8 v25).trips), ∀ a, (k1_off23 i arg8 v25 k1_t2) a + S1x1x1.size a ≤ S1x1x4096.size a := fun i arg8 v25 k1_hw1 k1_t2 => k1_hw1.1.2.2.2.2.2.2.2.2.2.2.2.2.2.2.2.1 k1_t2
theorem k1_off25_inb : ∀ (i : grid1.Coords) (arg8 : BitVec 32) (v25 : BitVec 32) (k1_hw1 : k1_chk1 i arg8 v25) (k1_t2 : Fin (k1_t2_loop i arg8 v25).trips), ∀ a, (k1_off25 i arg8 v25 k1_t2) a + S1x128.size a ≤ S4096x128.size a := fun i arg8 v25 k1_hw1 k1_t2 => k1_hw1.1.2.2.2.2.2.2.2.2.2.2.2.2.2.2.2.2.1 k1_t2
theorem k1_t3_ok : ∀ (i : grid1.Coords) (arg8 : BitVec 32) (v25 : BitVec 32) (k1_hw1 : k1_chk1 i arg8 v25), (k1_t3_loop i arg8 v25).OK := fun i arg8 v25 k1_hw1 => k1_hw1.1.2.2.2.2.2.2.2.2.2.2.2.2.2.2.2.2.2.1
theorem k1_off26_inb : ∀ (i : grid1.Coords) (arg8 : BitVec 32) (v25 : BitVec 32) (k1_hw1 : k1_chk1 i arg8 v25) (k1_t3 : Fin (k1_t3_loop i arg8 v25).trips), ∀ a, (k1_off26 i arg8 v25 k1_t3) a + S1x1x1.size a ≤ S1x1x4096.size a := fun i arg8 v25 k1_hw1 k1_t3 => k1_hw1.1.2.2.2.2.2.2.2.2.2.2.2.2.2.2.2.2.2.2.1 k1_t3
theorem k1_off28_inb : ∀ (i : grid1.Coords) (arg8 : BitVec 32) (v25 : BitVec 32) (k1_hw1 : k1_chk1 i arg8 v25) (k1_t3 : Fin (k1_t3_loop i arg8 v25).trips), ∀ a, (k1_off28 i arg8 v25 k1_t3) a + S1x128.size a ≤ S4096x128.size a := fun i arg8 v25 k1_hw1 k1_t3 => k1_hw1.1.2.2.2.2.2.2.2.2.2.2.2.2.2.2.2.2.2.2.2.1 k1_t3
theorem k1_off29_inb : ∀ (i : grid1.Coords) (arg8 : BitVec 32) (v25 : BitVec 32) (k1_hw1 : k1_chk1 i arg8 v25) (k1_t3 : Fin (k1_t3_loop i arg8 v25).trips), ∀ a, (k1_off29 i arg8 v25 k1_t3) a + S1x1x1.size a ≤ S1x1x4096.size a := fun i arg8 v25 k1_hw1 k1_t3 => k1_hw1.1.2.2.2.2.2.2.2.2.2.2.2.2.2.2.2.2.2.2.2.2.1 k1_t3
theorem k1_off31_inb : ∀ (i : grid1.Coords) (arg8 : BitVec 32) (v25 : BitVec 32) (k1_hw1 : k1_chk1 i arg8 v25) (k1_t3 : Fin (k1_t3_loop i arg8 v25).trips), ∀ a, (k1_off31 i arg8 v25 k1_t3) a + S1x128.size a ≤ S4096x128.size a := fun i arg8 v25 k1_hw1 k1_t3 => k1_hw1.1.2.2.2.2.2.2.2.2.2.2.2.2.2.2.2.2.2.2.2.2.2.1 k1_t3
theorem k1_off32_inb : ∀ (i : grid1.Coords) (arg8 : BitVec 32) (v25 : BitVec 32) (k1_hw1 : k1_chk1 i arg8 v25) (k1_t3 : Fin (k1_t3_loop i arg8 v25).trips), ∀ a, (k1_off32 i arg8 v25 k1_t3) a + S1x1x1.size a ≤ S1x1x4096.size a := fun i arg8 v25 k1_hw1 k1_t3 => k1_hw1.1.2.2.2.2.2.2.2.2.2.2.2.2.2.2.2.2.2.2.2.2.2.2.1 k1_t3
theorem k1_off34_inb : ∀ (i : grid1.Coords) (arg8 : BitVec 32) (v25 : BitVec 32) (k1_hw1 : k1_chk1 i arg8 v25) (k1_t3 : Fin (k1_t3_loop i arg8 v25).trips), ∀ a, (k1_off34 i arg8 v25 k1_t3) a + S1x128.size a ≤ S4096x128.size a := fun i arg8 v25 k1_hw1 k1_t3 => k1_hw1.1.2.2.2.2.2.2.2.2.2.2.2.2.2.2.2.2.2.2.2.2.2.2.2.1 k1_t3
theorem k1_off35_inb : ∀ (i : grid1.Coords) (arg8 : BitVec 32) (v25 : BitVec 32) (k1_hw1 : k1_chk1 i arg8 v25) (k1_t3 : Fin (k1_t3_loop i arg8 v25).trips), ∀ a, (k1_off35 i arg8 v25 k1_t3) a + S1x1x1.size a ≤ S1x1x4096.size a := fun i arg8 v25 k1_hw1 k1_t3 => k1_hw1.1.2.2.2.2.2.2.2.2.2.2.2.2.2.2.2.2.2.2.2.2.2.2.2.2.1 k1_t3
theorem k1_off37_inb : ∀ (i : grid1.Coords) (arg8 : BitVec 32) (v25 : BitVec 32) (k1_hw1 : k1_chk1 i arg8 v25) (k1_t3 : Fin (k1_t3_loop i arg8 v25).trips), ∀ a, (k1_off37 i arg8 v25 k1_t3) a + S1x128.size a ≤ S4096x128.size a := fun i arg8 v25 k1_hw1 k1_t3 => k1_hw1.1.2.2.2.2.2.2.2.2.2.2.2.2.2.2.2.2.2.2.2.2.2.2.2.2.2.1 k1_t3
theorem k1_off38_inb : ∀ (i : grid1.Coords) (arg8 : BitVec 32) (v25 : BitVec 32) (k1_hw1 : k1_chk1 i arg8 v25) (k1_t3 : Fin (k1_t3_loop i arg8 v25).trips), ∀ a, (k1_off38 i arg8 v25 k1_t3) a + S1x1x1.size a ≤ S1x1x4096.size a := fun i arg8 v25 k1_hw1 k1_t3 => k1_hw1.1.2.2.2.2.2.2.2.2.2.2.2.2.2.2.2.2.2.2.2.2.2.2.2.2.2.2.1 k1_t3
theorem k1_off40_inb : ∀ (i : grid1.Coords) (arg8 : BitVec 32) (v25 : BitVec 32) (k1_hw1 : k1_chk1 i arg8 v25) (k1_t3 : Fin (k1_t3_loop i arg8 v25).trips), ∀ a, (k1_off40 i arg8 v25 k1_t3) a + S1x128.size a ≤ S4096x128.size a := fun i arg8 v25 k1_hw1 k1_t3 => k1_hw1.1.2.2.2.2.2.2.2.2.2.2.2.2.2.2.2.2.2.2.2.2.2.2.2.2.2.2.2.1 k1_t3
theorem k1_off41_inb : ∀ (i : grid1.Coords) (arg8 : BitVec 32) (v25 : BitVec 32) (k1_hw1 : k1_chk1 i arg8 v25) (k1_t3 : Fin (k1_t3_loop i arg8 v25).trips), ∀ a, (k1_off41 i arg8 v25 k1_t3) a + S1x1x1.size a ≤ S1x1x4096.size a := fun i arg8 v25 k1_hw1 k1_t3 => k1_hw1.1.2.2.2.2.2.2.2.2.2.2.2.2.2.2.2.2.2.2.2.2.2.2.2.2.2.2.2.2.1 k1_t3
theorem k1_off43_inb : ∀ (i : grid1.Coords) (arg8 : BitVec 32) (v25 : BitVec 32) (k1_hw1 : k1_chk1 i arg8 v25) (k1_t3 : Fin (k1_t3_loop i arg8 v25).trips), ∀ a, (k1_off43 i arg8 v25 k1_t3) a + S1x128.size a ≤ S4096x128.size a := fun i arg8 v25 k1_hw1 k1_t3 => k1_hw1.1.2.2.2.2.2.2.2.2.2.2.2.2.2.2.2.2.2.2.2.2.2.2.2.2.2.2.2.2.2.1 k1_t3
theorem k1_off44_inb : ∀ (i : grid1.Coords) (arg8 : BitVec 32) (v25 : BitVec 32) (k1_hw1 : k1_chk1 i arg8 v25) (k1_t3 : Fin (k1_t3_loop i arg8 v25).trips), ∀ a, (k1_off44 i arg8 v25 k1_t3) a + S1x1x1.size a ≤ S1x1x4096.size a := fun i arg8 v25 k1_hw1 k1_t3 => k1_hw1.1.2.2.2.2.2.2.2.2.2.2.2.2.2.2.2.2.2.2.2.2.2.2.2.2.2.2.2.2.2.2.1 k1_t3
theorem k1_off46_inb : ∀ (i : grid1.Coords) (arg8 : BitVec 32) (v25 : BitVec 32) (k1_hw1 : k1_chk1 i arg8 v25) (k1_t3 : Fin (k1_t3_loop i arg8 v25).trips), ∀ a, (k1_off46 i arg8 v25 k1_t3) a + S1x128.size a ≤ S4096x128.size a := fun i arg8 v25 k1_hw1 k1_t3 => k1_hw1.1.2.2.2.2.2.2.2.2.2.2.2.2.2.2.2.2.2.2.2.2.2.2.2.2.2.2.2.2.2.2.2 k1_t3
theorem k1_off47_inb : ∀ (i : grid1.Coords) (arg8 : BitVec 32) (v25 : BitVec 32) (k1_hw1 : k1_chk1 i arg8 v25) (k1_t3 : Fin (k1_t3_loop i arg8 v25).trips), ∀ a, (k1_off47 i arg8 v25 k1_t3) a + S1x1x1.size a ≤ S1x1x4096.size a := fun i arg8 v25 k1_hw1 k1_t3 => k1_hw1.2.1 k1_t3
theorem k1_off49_inb : ∀ (i : grid1.Coords) (arg8 : BitVec 32) (v25 : BitVec 32) (k1_hw1 : k1_chk1 i arg8 v25) (k1_t3 : Fin (k1_t3_loop i arg8 v25).trips), ∀ a, (k1_off49 i arg8 v25 k1_t3) a + S1x128.size a ≤ S4096x128.size a := fun i arg8 v25 k1_hw1 k1_t3 => k1_hw1.2.2.1 k1_t3
theorem k1_t4_ok : ∀ (i : grid1.Coords) (arg8 : BitVec 32) (v25 : BitVec 32) (k1_hw1 : k1_chk1 i arg8 v25), (k1_t4_loop i arg8 v25).OK := fun i arg8 v25 k1_hw1 => k1_hw1.2.2.2.1
theorem k1_off50_inb : ∀ (i : grid1.Coords) (arg8 : BitVec 32) (v25 : BitVec 32) (k1_hw1 : k1_chk1 i arg8 v25) (k1_t4 : Fin (k1_t4_loop i arg8 v25).trips), ∀ a, (k1_off50 i arg8 v25 k1_t4) a + S1x1x1.size a ≤ S1x1x4096.size a := fun i arg8 v25 k1_hw1 k1_t4 => k1_hw1.2.2.2.2.1 k1_t4
theorem k1_off52_inb : ∀ (i : grid1.Coords) (arg8 : BitVec 32) (v25 : BitVec 32) (k1_hw1 : k1_chk1 i arg8 v25) (k1_t4 : Fin (k1_t4_loop i arg8 v25).trips), ∀ a, (k1_off52 i arg8 v25 k1_t4) a + S1x128.size a ≤ S4096x128.size a := fun i arg8 v25 k1_hw1 k1_t4 => k1_hw1.2.2.2.2.2.1 k1_t4
theorem k1_t5_ok : ∀ (i : grid1.Coords) (arg8 : BitVec 32) (v25 : BitVec 32) (k1_hw1 : k1_chk1 i arg8 v25), (k1_t5_loop i arg8 v25).OK := fun i arg8 v25 k1_hw1 => k1_hw1.2.2.2.2.2.2.1
theorem k1_off53_inb : ∀ (i : grid1.Coords) (arg8 : BitVec 32) (v25 : BitVec 32) (k1_hw1 : k1_chk1 i arg8 v25) (k1_t5 : Fin (k1_t5_loop i arg8 v25).trips), ∀ a, (k1_off53 i arg8 v25 k1_t5) a + S1x1x1.size a ≤ S1x1x4096.size a := fun i arg8 v25 k1_hw1 k1_t5 => k1_hw1.2.2.2.2.2.2.2.1 k1_t5
theorem k1_off55_inb : ∀ (i : grid1.Coords) (arg8 : BitVec 32) (v25 : BitVec 32) (k1_hw1 : k1_chk1 i arg8 v25) (k1_t5 : Fin (k1_t5_loop i arg8 v25).trips), ∀ a, (k1_off55 i arg8 v25 k1_t5) a + S1x128.size a ≤ S4096x128.size a := fun i arg8 v25 k1_hw1 k1_t5 => k1_hw1.2.2.2.2.2.2.2.2.1 k1_t5
theorem k1_off56_inb : ∀ (i : grid1.Coords) (arg8 : BitVec 32) (v25 : BitVec 32) (k1_hw1 : k1_chk1 i arg8 v25), ∀ (k1_h2 : k1_cond2 i arg8 v25 = 1#1), ∀ a, (k1_off56 i v25) a + S1x1x1.size a ≤ S1x1x4096.size a := fun i arg8 v25 k1_hw1 k1_h2 => k1_hw1.2.2.2.2.2.2.2.2.2 k1_h2

def k1_off57 (v52 : BitVec 32) : Fin 2 → Nat :=
  let v53 : Index := Scalar.indexCast v52
  let c0_31 : Index := 0#32
  ![v53.toNat, 0]

def k1_chk20 (i : grid1.Coords) (arg8 : BitVec 32) (v25 : BitVec 32) (v52 : BitVec 32) : Prop :=
  (∀ (k1_h2 : k1_cond2 i arg8 v25 = 1#1), ∀ a, (k1_off57 v52) a + S1x128.size a ≤ S64x128.size a)
theorem k1_off57_inb : ∀ (i : grid1.Coords) (arg8 : BitVec 32) (v25 : BitVec 32) (v52 : BitVec 32) (k1_hw20 : k1_chk20 i arg8 v25 v52), ∀ (k1_h2 : k1_cond2 i arg8 v25 = 1#1), ∀ a, (k1_off57 v52) a + S1x128.size a ≤ S64x128.size a := fun i arg8 v25 v52 k1_hw20 k1_h2 => k1_hw20 k1_h2

@[reducible] def k1_t6_loop (v4 : BitVec 32) : Scf.Loop 32 :=
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_6 : BitVec 32 := 1#32
  ⟨c0_i32_4, v11, c1_i32_6⟩

def k1_off58 (v4 : BitVec 32) (k1_t6 : Fin (k1_t6_loop v4).trips) : Fin 3 → Nat :=
  let c0 : Index := 0#32
  let c0_17 : Index := 0#32
  let c8_i32_15 : BitVec 32 := 8#32
  let c0_i32_4 : BitVec 32 := 0#32
  let c1_i32_6 : BitVec 32 := 1#32
  let arg7 : BitVec 32 := Scf.iv c0_i32_4 c1_i32_6 k1_t6
  let v24 : BitVec 32 := Scalar.muli c8_i32_15 arg7
  let v25 : BitVec 32 := Scalar.addi v4 v24
  let c0_i32_16 : BitVec 32 := 0#32
  let v26 : BitVec 32 := Scalar.addi v25 c0_i32_16
  let v27 : Index := Scalar.indexCast v26
  ![0, 0, v27.toNat]
def k1_off59 (v28 : BitVec 32) : Fin 2 → Nat :=
  let v29 : Index := Scalar.indexCast v28
  let c0_18 : Index := 0#32
  ![v29.toNat, 0]

def k1_chk22 (v28 : BitVec 32) : Prop :=
  (∀ a, (k1_off59 v28) a + S1x128.size a ≤ S64x128.size a)
theorem k1_off59_inb : ∀ (v28 : BitVec 32) (k1_hw22 : k1_chk22 v28), ∀ a, (k1_off59 v28) a + S1x128.size a ≤ S64x128.size a := fun v28 k1_hw22 => k1_hw22

def k1_off60 (v4 : BitVec 32) (k1_t6 : Fin (k1_t6_loop v4).trips) : Fin 2 → Nat :=
  let c8_i32_15 : BitVec 32 := 8#32
  let c0_i32_4 : BitVec 32 := 0#32
  let c1_i32_6 : BitVec 32 := 1#32
  let arg7 : BitVec 32 := Scf.iv c0_i32_4 c1_i32_6 k1_t6
  let v24 : BitVec 32 := Scalar.muli c8_i32_15 arg7
  let v25 : BitVec 32 := Scalar.addi v4 v24
  let c0_i32_16 : BitVec 32 := 0#32
  let v26 : BitVec 32 := Scalar.addi v25 c0_i32_16
  let v31 : Index := Scalar.indexCast v26
  let c0_19 : Index := 0#32
  ![v31.toNat, 0]
def k1_off61 (v4 : BitVec 32) (k1_t6 : Fin (k1_t6_loop v4).trips) : Fin 3 → Nat :=
  let c0_23 : Index := 0#32
  let c0_24 : Index := 0#32
  let c8_i32_21 : BitVec 32 := 8#32
  let c0_i32_4 : BitVec 32 := 0#32
  let c1_i32_6 : BitVec 32 := 1#32
  let arg7 : BitVec 32 := Scf.iv c0_i32_4 c1_i32_6 k1_t6
  let v38 : BitVec 32 := Scalar.muli c8_i32_21 arg7
  let v39 : BitVec 32 := Scalar.addi v4 v38
  let c1_i32_22 : BitVec 32 := 1#32
  let v40 : BitVec 32 := Scalar.addi v39 c1_i32_22
  let v41 : Index := Scalar.indexCast v40
  ![0, 0, v41.toNat]
def k1_off62 (v42 : BitVec 32) : Fin 2 → Nat :=
  let v43 : Index := Scalar.indexCast v42
  let c0_25 : Index := 0#32
  ![v43.toNat, 0]

def k1_chk23 (v42 : BitVec 32) : Prop :=
  (∀ a, (k1_off62 v42) a + S1x128.size a ≤ S64x128.size a)
theorem k1_off62_inb : ∀ (v42 : BitVec 32) (k1_hw23 : k1_chk23 v42), ∀ a, (k1_off62 v42) a + S1x128.size a ≤ S64x128.size a := fun v42 k1_hw23 => k1_hw23

def k1_off63 (v4 : BitVec 32) (k1_t6 : Fin (k1_t6_loop v4).trips) : Fin 2 → Nat :=
  let c8_i32_21 : BitVec 32 := 8#32
  let c0_i32_4 : BitVec 32 := 0#32
  let c1_i32_6 : BitVec 32 := 1#32
  let arg7 : BitVec 32 := Scf.iv c0_i32_4 c1_i32_6 k1_t6
  let v38 : BitVec 32 := Scalar.muli c8_i32_21 arg7
  let v39 : BitVec 32 := Scalar.addi v4 v38
  let c1_i32_22 : BitVec 32 := 1#32
  let v40 : BitVec 32 := Scalar.addi v39 c1_i32_22
  let v45 : Index := Scalar.indexCast v40
  let c0_26 : Index := 0#32
  ![v45.toNat, 0]
def k1_off64 (v4 : BitVec 32) (k1_t6 : Fin (k1_t6_loop v4).trips) : Fin 3 → Nat :=
  let c0_29 : Index := 0#32
  let c0_30 : Index := 0#32
  let c8_i32_28 : BitVec 32 := 8#32
  let c0_i32_4 : BitVec 32 := 0#32
  let c1_i32_6 : BitVec 32 := 1#32
  let arg7 : BitVec 32 := Scf.iv c0_i32_4 c1_i32_6 k1_t6
  let v52 : BitVec 32 := Scalar.muli c8_i32_28 arg7
  let v53 : BitVec 32 := Scalar.addi v4 v52
  let c2_i32 : BitVec 32 := 2#32
  let v54 : BitVec 32 := Scalar.addi v53 c2_i32
  let v55 : Index := Scalar.indexCast v54
  ![0, 0, v55.toNat]
def k1_off65 (v56 : BitVec 32) : Fin 2 → Nat :=
  let v57 : Index := Scalar.indexCast v56
  let c0_31 : Index := 0#32
  ![v57.toNat, 0]

def k1_chk24 (v56 : BitVec 32) : Prop :=
  (∀ a, (k1_off65 v56) a + S1x128.size a ≤ S64x128.size a)
theorem k1_off65_inb : ∀ (v56 : BitVec 32) (k1_hw24 : k1_chk24 v56), ∀ a, (k1_off65 v56) a + S1x128.size a ≤ S64x128.size a := fun v56 k1_hw24 => k1_hw24

def k1_off66 (v4 : BitVec 32) (k1_t6 : Fin (k1_t6_loop v4).trips) : Fin 2 → Nat :=
  let c8_i32_28 : BitVec 32 := 8#32
  let c0_i32_4 : BitVec 32 := 0#32
  let c1_i32_6 : BitVec 32 := 1#32
  let arg7 : BitVec 32 := Scf.iv c0_i32_4 c1_i32_6 k1_t6
  let v52 : BitVec 32 := Scalar.muli c8_i32_28 arg7
  let v53 : BitVec 32 := Scalar.addi v4 v52
  let c2_i32 : BitVec 32 := 2#32
  let v54 : BitVec 32 := Scalar.addi v53 c2_i32
  let v59 : Index := Scalar.indexCast v54
  let c0_32 : Index := 0#32
  ![v59.toNat, 0]
def k1_off67 (v4 : BitVec 32) (k1_t6 : Fin (k1_t6_loop v4).trips) : Fin 3 → Nat :=
  let c0_36 : Index := 0#32
  let c0_37 : Index := 0#32
  let c8_i32_34 : BitVec 32 := 8#32
  let c0_i32_4 : BitVec 32 := 0#32
  let c1_i32_6 : BitVec 32 := 1#32
  let arg7 : BitVec 32 := Scf.iv c0_i32_4 c1_i32_6 k1_t6
  let v66 : BitVec 32 := Scalar.muli c8_i32_34 arg7
  let v67 : BitVec 32 := Scalar.addi v4 v66
  let c3_i32_35 : BitVec 32 := 3#32
  let v68 : BitVec 32 := Scalar.addi v67 c3_i32_35
  let v69 : Index := Scalar.indexCast v68
  ![0, 0, v69.toNat]
def k1_off68 (v70 : BitVec 32) : Fin 2 → Nat :=
  let v71 : Index := Scalar.indexCast v70
  let c0_38 : Index := 0#32
  ![v71.toNat, 0]

def k1_chk25 (v70 : BitVec 32) : Prop :=
  (∀ a, (k1_off68 v70) a + S1x128.size a ≤ S64x128.size a)
theorem k1_off68_inb : ∀ (v70 : BitVec 32) (k1_hw25 : k1_chk25 v70), ∀ a, (k1_off68 v70) a + S1x128.size a ≤ S64x128.size a := fun v70 k1_hw25 => k1_hw25

def k1_off69 (v4 : BitVec 32) (k1_t6 : Fin (k1_t6_loop v4).trips) : Fin 2 → Nat :=
  let c8_i32_34 : BitVec 32 := 8#32
  let c0_i32_4 : BitVec 32 := 0#32
  let c1_i32_6 : BitVec 32 := 1#32
  let arg7 : BitVec 32 := Scf.iv c0_i32_4 c1_i32_6 k1_t6
  let v66 : BitVec 32 := Scalar.muli c8_i32_34 arg7
  let v67 : BitVec 32 := Scalar.addi v4 v66
  let c3_i32_35 : BitVec 32 := 3#32
  let v68 : BitVec 32 := Scalar.addi v67 c3_i32_35
  let v73 : Index := Scalar.indexCast v68
  let c0_39 : Index := 0#32
  ![v73.toNat, 0]
def k1_off70 (v4 : BitVec 32) (k1_t6 : Fin (k1_t6_loop v4).trips) : Fin 3 → Nat :=
  let c0_42 : Index := 0#32
  let c0_43 : Index := 0#32
  let c8_i32_41 : BitVec 32 := 8#32
  let c0_i32_4 : BitVec 32 := 0#32
  let c1_i32_6 : BitVec 32 := 1#32
  let arg7 : BitVec 32 := Scf.iv c0_i32_4 c1_i32_6 k1_t6
  let v80 : BitVec 32 := Scalar.muli c8_i32_41 arg7
  let v81 : BitVec 32 := Scalar.addi v4 v80
  let c4_i32 : BitVec 32 := 4#32
  let v82 : BitVec 32 := Scalar.addi v81 c4_i32
  let v83 : Index := Scalar.indexCast v82
  ![0, 0, v83.toNat]
def k1_off71 (v84 : BitVec 32) : Fin 2 → Nat :=
  let v85 : Index := Scalar.indexCast v84
  let c0_44 : Index := 0#32
  ![v85.toNat, 0]

def k1_chk26 (v84 : BitVec 32) : Prop :=
  (∀ a, (k1_off71 v84) a + S1x128.size a ≤ S64x128.size a)
theorem k1_off71_inb : ∀ (v84 : BitVec 32) (k1_hw26 : k1_chk26 v84), ∀ a, (k1_off71 v84) a + S1x128.size a ≤ S64x128.size a := fun v84 k1_hw26 => k1_hw26

def k1_off72 (v4 : BitVec 32) (k1_t6 : Fin (k1_t6_loop v4).trips) : Fin 2 → Nat :=
  let c8_i32_41 : BitVec 32 := 8#32
  let c0_i32_4 : BitVec 32 := 0#32
  let c1_i32_6 : BitVec 32 := 1#32
  let arg7 : BitVec 32 := Scf.iv c0_i32_4 c1_i32_6 k1_t6
  let v80 : BitVec 32 := Scalar.muli c8_i32_41 arg7
  let v81 : BitVec 32 := Scalar.addi v4 v80
  let c4_i32 : BitVec 32 := 4#32
  let v82 : BitVec 32 := Scalar.addi v81 c4_i32
  let v87 : Index := Scalar.indexCast v82
  let c0_45 : Index := 0#32
  ![v87.toNat, 0]
def k1_off73 (v4 : BitVec 32) (k1_t6 : Fin (k1_t6_loop v4).trips) : Fin 3 → Nat :=
  let c0_48 : Index := 0#32
  let c0_49 : Index := 0#32
  let c8_i32_47 : BitVec 32 := 8#32
  let c0_i32_4 : BitVec 32 := 0#32
  let c1_i32_6 : BitVec 32 := 1#32
  let arg7 : BitVec 32 := Scf.iv c0_i32_4 c1_i32_6 k1_t6
  let v94 : BitVec 32 := Scalar.muli c8_i32_47 arg7
  let v95 : BitVec 32 := Scalar.addi v4 v94
  let c5_i32 : BitVec 32 := 5#32
  let v96 : BitVec 32 := Scalar.addi v95 c5_i32
  let v97 : Index := Scalar.indexCast v96
  ![0, 0, v97.toNat]
def k1_off74 (v98 : BitVec 32) : Fin 2 → Nat :=
  let v99 : Index := Scalar.indexCast v98
  let c0_50 : Index := 0#32
  ![v99.toNat, 0]

def k1_chk27 (v98 : BitVec 32) : Prop :=
  (∀ a, (k1_off74 v98) a + S1x128.size a ≤ S64x128.size a)
theorem k1_off74_inb : ∀ (v98 : BitVec 32) (k1_hw27 : k1_chk27 v98), ∀ a, (k1_off74 v98) a + S1x128.size a ≤ S64x128.size a := fun v98 k1_hw27 => k1_hw27

def k1_off75 (v4 : BitVec 32) (k1_t6 : Fin (k1_t6_loop v4).trips) : Fin 2 → Nat :=
  let c8_i32_47 : BitVec 32 := 8#32
  let c0_i32_4 : BitVec 32 := 0#32
  let c1_i32_6 : BitVec 32 := 1#32
  let arg7 : BitVec 32 := Scf.iv c0_i32_4 c1_i32_6 k1_t6
  let v94 : BitVec 32 := Scalar.muli c8_i32_47 arg7
  let v95 : BitVec 32 := Scalar.addi v4 v94
  let c5_i32 : BitVec 32 := 5#32
  let v96 : BitVec 32 := Scalar.addi v95 c5_i32
  let v101 : Index := Scalar.indexCast v96
  let c0_51 : Index := 0#32
  ![v101.toNat, 0]
def k1_off76 (v4 : BitVec 32) (k1_t6 : Fin (k1_t6_loop v4).trips) : Fin 3 → Nat :=
  let c0_54 : Index := 0#32
  let c0_55 : Index := 0#32
  let c8_i32_53 : BitVec 32 := 8#32
  let c0_i32_4 : BitVec 32 := 0#32
  let c1_i32_6 : BitVec 32 := 1#32
  let arg7 : BitVec 32 := Scf.iv c0_i32_4 c1_i32_6 k1_t6
  let v108 : BitVec 32 := Scalar.muli c8_i32_53 arg7
  let v109 : BitVec 32 := Scalar.addi v4 v108
  let c6_i32 : BitVec 32 := 6#32
  let v110 : BitVec 32 := Scalar.addi v109 c6_i32
  let v111 : Index := Scalar.indexCast v110
  ![0, 0, v111.toNat]
def k1_off77 (v112 : BitVec 32) : Fin 2 → Nat :=
  let v113 : Index := Scalar.indexCast v112
  let c0_56 : Index := 0#32
  ![v113.toNat, 0]

def k1_chk28 (v112 : BitVec 32) : Prop :=
  (∀ a, (k1_off77 v112) a + S1x128.size a ≤ S64x128.size a)
theorem k1_off77_inb : ∀ (v112 : BitVec 32) (k1_hw28 : k1_chk28 v112), ∀ a, (k1_off77 v112) a + S1x128.size a ≤ S64x128.size a := fun v112 k1_hw28 => k1_hw28

def k1_off78 (v4 : BitVec 32) (k1_t6 : Fin (k1_t6_loop v4).trips) : Fin 2 → Nat :=
  let c8_i32_53 : BitVec 32 := 8#32
  let c0_i32_4 : BitVec 32 := 0#32
  let c1_i32_6 : BitVec 32 := 1#32
  let arg7 : BitVec 32 := Scf.iv c0_i32_4 c1_i32_6 k1_t6
  let v108 : BitVec 32 := Scalar.muli c8_i32_53 arg7
  let v109 : BitVec 32 := Scalar.addi v4 v108
  let c6_i32 : BitVec 32 := 6#32
  let v110 : BitVec 32 := Scalar.addi v109 c6_i32
  let v115 : Index := Scalar.indexCast v110
  let c0_57 : Index := 0#32
  ![v115.toNat, 0]
def k1_off79 (v4 : BitVec 32) (k1_t6 : Fin (k1_t6_loop v4).trips) : Fin 3 → Nat :=
  let c0_60 : Index := 0#32
  let c0_61 : Index := 0#32
  let c8_i32_59 : BitVec 32 := 8#32
  let c0_i32_4 : BitVec 32 := 0#32
  let c1_i32_6 : BitVec 32 := 1#32
  let arg7 : BitVec 32 := Scf.iv c0_i32_4 c1_i32_6 k1_t6
  let v122 : BitVec 32 := Scalar.muli c8_i32_59 arg7
  let v123 : BitVec 32 := Scalar.addi v4 v122
  let c7_i32 : BitVec 32 := 7#32
  let v124 : BitVec 32 := Scalar.addi v123 c7_i32
  let v125 : Index := Scalar.indexCast v124
  ![0, 0, v125.toNat]
def k1_off80 (v126 : BitVec 32) : Fin 2 → Nat :=
  let v127 : Index := Scalar.indexCast v126
  let c0_62 : Index := 0#32
  ![v127.toNat, 0]

def k1_chk29 (v126 : BitVec 32) : Prop :=
  (∀ a, (k1_off80 v126) a + S1x128.size a ≤ S64x128.size a)
theorem k1_off80_inb : ∀ (v126 : BitVec 32) (k1_hw29 : k1_chk29 v126), ∀ a, (k1_off80 v126) a + S1x128.size a ≤ S64x128.size a := fun v126 k1_hw29 => k1_hw29

def k1_off81 (v4 : BitVec 32) (k1_t6 : Fin (k1_t6_loop v4).trips) : Fin 2 → Nat :=
  let c8_i32_59 : BitVec 32 := 8#32
  let c0_i32_4 : BitVec 32 := 0#32
  let c1_i32_6 : BitVec 32 := 1#32
  let arg7 : BitVec 32 := Scf.iv c0_i32_4 c1_i32_6 k1_t6
  let v122 : BitVec 32 := Scalar.muli c8_i32_59 arg7
  let v123 : BitVec 32 := Scalar.addi v4 v122
  let c7_i32 : BitVec 32 := 7#32
  let v124 : BitVec 32 := Scalar.addi v123 c7_i32
  let v129 : Index := Scalar.indexCast v124
  let c0_63 : Index := 0#32
  ![v129.toNat, 0]
@[reducible] def k1_t7_loop (v4 : BitVec 32) : Scf.Loop 32 :=
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let v8 : BitVec 32 := Scalar.addi c0_i32_4 v7
  let c1_i32_7 : BitVec 32 := 1#32
  ⟨v11, v8, c1_i32_7⟩
def k1_off82 (v4 : BitVec 32) (k1_t7 : Fin (k1_t7_loop v4).trips) : Fin 3 → Nat :=
  let c0 : Index := 0#32
  let c0_17 : Index := 0#32
  let c8_i32_15 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v24 : BitVec 32 := Scalar.muli c8_i32_15 arg7
  let v25 : BitVec 32 := Scalar.addi v4 v24
  let c0_i32_16 : BitVec 32 := 0#32
  let v26 : BitVec 32 := Scalar.addi v25 c0_i32_16
  let v27 : Index := Scalar.indexCast v26
  ![0, 0, v27.toNat]
def k1_off83 (v28 : BitVec 32) : Fin 2 → Nat :=
  let v29 : Index := Scalar.indexCast v28
  let c0_18 : Index := 0#32
  ![v29.toNat, 0]

def k1_chk30 (v28 : BitVec 32) : Prop :=
  (∀ a, (k1_off83 v28) a + S1x128.size a ≤ S64x128.size a)
theorem k1_off83_inb : ∀ (v28 : BitVec 32) (k1_hw30 : k1_chk30 v28), ∀ a, (k1_off83 v28) a + S1x128.size a ≤ S64x128.size a := fun v28 k1_hw30 => k1_hw30

def k1_off84 (v4 : BitVec 32) (k1_t7 : Fin (k1_t7_loop v4).trips) : Fin 2 → Nat :=
  let c8_i32_15 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v24 : BitVec 32 := Scalar.muli c8_i32_15 arg7
  let v25 : BitVec 32 := Scalar.addi v4 v24
  let c0_i32_16 : BitVec 32 := 0#32
  let v26 : BitVec 32 := Scalar.addi v25 c0_i32_16
  let v31 : Index := Scalar.indexCast v26
  let c0_19 : Index := 0#32
  ![v31.toNat, 0]
def k1_off85 (v4 : BitVec 32) (k1_t7 : Fin (k1_t7_loop v4).trips) : Fin 3 → Nat :=
  let c0_23 : Index := 0#32
  let c0_24 : Index := 0#32
  let c8_i32_21 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v38 : BitVec 32 := Scalar.muli c8_i32_21 arg7
  let v39 : BitVec 32 := Scalar.addi v4 v38
  let c1_i32_22 : BitVec 32 := 1#32
  let v40 : BitVec 32 := Scalar.addi v39 c1_i32_22
  let v41 : Index := Scalar.indexCast v40
  ![0, 0, v41.toNat]
def k1_off86 (v42 : BitVec 32) : Fin 2 → Nat :=
  let v43 : Index := Scalar.indexCast v42
  let c0_25 : Index := 0#32
  ![v43.toNat, 0]

def k1_chk31 (v42 : BitVec 32) : Prop :=
  (∀ a, (k1_off86 v42) a + S1x128.size a ≤ S64x128.size a)
theorem k1_off86_inb : ∀ (v42 : BitVec 32) (k1_hw31 : k1_chk31 v42), ∀ a, (k1_off86 v42) a + S1x128.size a ≤ S64x128.size a := fun v42 k1_hw31 => k1_hw31

def k1_off87 (v4 : BitVec 32) (k1_t7 : Fin (k1_t7_loop v4).trips) : Fin 2 → Nat :=
  let c8_i32_21 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v38 : BitVec 32 := Scalar.muli c8_i32_21 arg7
  let v39 : BitVec 32 := Scalar.addi v4 v38
  let c1_i32_22 : BitVec 32 := 1#32
  let v40 : BitVec 32 := Scalar.addi v39 c1_i32_22
  let v45 : Index := Scalar.indexCast v40
  let c0_26 : Index := 0#32
  ![v45.toNat, 0]
def k1_off88 (v4 : BitVec 32) (k1_t7 : Fin (k1_t7_loop v4).trips) : Fin 3 → Nat :=
  let c0_29 : Index := 0#32
  let c0_30 : Index := 0#32
  let c8_i32_28 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v52 : BitVec 32 := Scalar.muli c8_i32_28 arg7
  let v53 : BitVec 32 := Scalar.addi v4 v52
  let c2_i32 : BitVec 32 := 2#32
  let v54 : BitVec 32 := Scalar.addi v53 c2_i32
  let v55 : Index := Scalar.indexCast v54
  ![0, 0, v55.toNat]
def k1_off89 (v56 : BitVec 32) : Fin 2 → Nat :=
  let v57 : Index := Scalar.indexCast v56
  let c0_31 : Index := 0#32
  ![v57.toNat, 0]

def k1_chk32 (v56 : BitVec 32) : Prop :=
  (∀ a, (k1_off89 v56) a + S1x128.size a ≤ S64x128.size a)
theorem k1_off89_inb : ∀ (v56 : BitVec 32) (k1_hw32 : k1_chk32 v56), ∀ a, (k1_off89 v56) a + S1x128.size a ≤ S64x128.size a := fun v56 k1_hw32 => k1_hw32

def k1_off90 (v4 : BitVec 32) (k1_t7 : Fin (k1_t7_loop v4).trips) : Fin 2 → Nat :=
  let c8_i32_28 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v52 : BitVec 32 := Scalar.muli c8_i32_28 arg7
  let v53 : BitVec 32 := Scalar.addi v4 v52
  let c2_i32 : BitVec 32 := 2#32
  let v54 : BitVec 32 := Scalar.addi v53 c2_i32
  let v59 : Index := Scalar.indexCast v54
  let c0_32 : Index := 0#32
  ![v59.toNat, 0]
def k1_off91 (v4 : BitVec 32) (k1_t7 : Fin (k1_t7_loop v4).trips) : Fin 3 → Nat :=
  let c0_36 : Index := 0#32
  let c0_37 : Index := 0#32
  let c8_i32_34 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v66 : BitVec 32 := Scalar.muli c8_i32_34 arg7
  let v67 : BitVec 32 := Scalar.addi v4 v66
  let c3_i32_35 : BitVec 32 := 3#32
  let v68 : BitVec 32 := Scalar.addi v67 c3_i32_35
  let v69 : Index := Scalar.indexCast v68
  ![0, 0, v69.toNat]
def k1_off92 (v70 : BitVec 32) : Fin 2 → Nat :=
  let v71 : Index := Scalar.indexCast v70
  let c0_38 : Index := 0#32
  ![v71.toNat, 0]

def k1_chk33 (v70 : BitVec 32) : Prop :=
  (∀ a, (k1_off92 v70) a + S1x128.size a ≤ S64x128.size a)
theorem k1_off92_inb : ∀ (v70 : BitVec 32) (k1_hw33 : k1_chk33 v70), ∀ a, (k1_off92 v70) a + S1x128.size a ≤ S64x128.size a := fun v70 k1_hw33 => k1_hw33

def k1_off93 (v4 : BitVec 32) (k1_t7 : Fin (k1_t7_loop v4).trips) : Fin 2 → Nat :=
  let c8_i32_34 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v66 : BitVec 32 := Scalar.muli c8_i32_34 arg7
  let v67 : BitVec 32 := Scalar.addi v4 v66
  let c3_i32_35 : BitVec 32 := 3#32
  let v68 : BitVec 32 := Scalar.addi v67 c3_i32_35
  let v73 : Index := Scalar.indexCast v68
  let c0_39 : Index := 0#32
  ![v73.toNat, 0]
def k1_off94 (v4 : BitVec 32) (k1_t7 : Fin (k1_t7_loop v4).trips) : Fin 3 → Nat :=
  let c0_42 : Index := 0#32
  let c0_43 : Index := 0#32
  let c8_i32_41 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v80 : BitVec 32 := Scalar.muli c8_i32_41 arg7
  let v81 : BitVec 32 := Scalar.addi v4 v80
  let c4_i32 : BitVec 32 := 4#32
  let v82 : BitVec 32 := Scalar.addi v81 c4_i32
  let v83 : Index := Scalar.indexCast v82
  ![0, 0, v83.toNat]
def k1_off95 (v84 : BitVec 32) : Fin 2 → Nat :=
  let v85 : Index := Scalar.indexCast v84
  let c0_44 : Index := 0#32
  ![v85.toNat, 0]

def k1_chk34 (v84 : BitVec 32) : Prop :=
  (∀ a, (k1_off95 v84) a + S1x128.size a ≤ S64x128.size a)
theorem k1_off95_inb : ∀ (v84 : BitVec 32) (k1_hw34 : k1_chk34 v84), ∀ a, (k1_off95 v84) a + S1x128.size a ≤ S64x128.size a := fun v84 k1_hw34 => k1_hw34

def k1_off96 (v4 : BitVec 32) (k1_t7 : Fin (k1_t7_loop v4).trips) : Fin 2 → Nat :=
  let c8_i32_41 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v80 : BitVec 32 := Scalar.muli c8_i32_41 arg7
  let v81 : BitVec 32 := Scalar.addi v4 v80
  let c4_i32 : BitVec 32 := 4#32
  let v82 : BitVec 32 := Scalar.addi v81 c4_i32
  let v87 : Index := Scalar.indexCast v82
  let c0_45 : Index := 0#32
  ![v87.toNat, 0]
def k1_off97 (v4 : BitVec 32) (k1_t7 : Fin (k1_t7_loop v4).trips) : Fin 3 → Nat :=
  let c0_48 : Index := 0#32
  let c0_49 : Index := 0#32
  let c8_i32_47 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v94 : BitVec 32 := Scalar.muli c8_i32_47 arg7
  let v95 : BitVec 32 := Scalar.addi v4 v94
  let c5_i32 : BitVec 32 := 5#32
  let v96 : BitVec 32 := Scalar.addi v95 c5_i32
  let v97 : Index := Scalar.indexCast v96
  ![0, 0, v97.toNat]
def k1_off98 (v98 : BitVec 32) : Fin 2 → Nat :=
  let v99 : Index := Scalar.indexCast v98
  let c0_50 : Index := 0#32
  ![v99.toNat, 0]

def k1_chk35 (v98 : BitVec 32) : Prop :=
  (∀ a, (k1_off98 v98) a + S1x128.size a ≤ S64x128.size a)
theorem k1_off98_inb : ∀ (v98 : BitVec 32) (k1_hw35 : k1_chk35 v98), ∀ a, (k1_off98 v98) a + S1x128.size a ≤ S64x128.size a := fun v98 k1_hw35 => k1_hw35

def k1_off99 (v4 : BitVec 32) (k1_t7 : Fin (k1_t7_loop v4).trips) : Fin 2 → Nat :=
  let c8_i32_47 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v94 : BitVec 32 := Scalar.muli c8_i32_47 arg7
  let v95 : BitVec 32 := Scalar.addi v4 v94
  let c5_i32 : BitVec 32 := 5#32
  let v96 : BitVec 32 := Scalar.addi v95 c5_i32
  let v101 : Index := Scalar.indexCast v96
  let c0_51 : Index := 0#32
  ![v101.toNat, 0]
def k1_off100 (v4 : BitVec 32) (k1_t7 : Fin (k1_t7_loop v4).trips) : Fin 3 → Nat :=
  let c0_54 : Index := 0#32
  let c0_55 : Index := 0#32
  let c8_i32_53 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v108 : BitVec 32 := Scalar.muli c8_i32_53 arg7
  let v109 : BitVec 32 := Scalar.addi v4 v108
  let c6_i32 : BitVec 32 := 6#32
  let v110 : BitVec 32 := Scalar.addi v109 c6_i32
  let v111 : Index := Scalar.indexCast v110
  ![0, 0, v111.toNat]
def k1_off101 (v112 : BitVec 32) : Fin 2 → Nat :=
  let v113 : Index := Scalar.indexCast v112
  let c0_56 : Index := 0#32
  ![v113.toNat, 0]

def k1_chk36 (v112 : BitVec 32) : Prop :=
  (∀ a, (k1_off101 v112) a + S1x128.size a ≤ S64x128.size a)
theorem k1_off101_inb : ∀ (v112 : BitVec 32) (k1_hw36 : k1_chk36 v112), ∀ a, (k1_off101 v112) a + S1x128.size a ≤ S64x128.size a := fun v112 k1_hw36 => k1_hw36

def k1_off102 (v4 : BitVec 32) (k1_t7 : Fin (k1_t7_loop v4).trips) : Fin 2 → Nat :=
  let c8_i32_53 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v108 : BitVec 32 := Scalar.muli c8_i32_53 arg7
  let v109 : BitVec 32 := Scalar.addi v4 v108
  let c6_i32 : BitVec 32 := 6#32
  let v110 : BitVec 32 := Scalar.addi v109 c6_i32
  let v115 : Index := Scalar.indexCast v110
  let c0_57 : Index := 0#32
  ![v115.toNat, 0]
def k1_off103 (v4 : BitVec 32) (k1_t7 : Fin (k1_t7_loop v4).trips) : Fin 3 → Nat :=
  let c0_60 : Index := 0#32
  let c0_61 : Index := 0#32
  let c8_i32_59 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v122 : BitVec 32 := Scalar.muli c8_i32_59 arg7
  let v123 : BitVec 32 := Scalar.addi v4 v122
  let c7_i32 : BitVec 32 := 7#32
  let v124 : BitVec 32 := Scalar.addi v123 c7_i32
  let v125 : Index := Scalar.indexCast v124
  ![0, 0, v125.toNat]
def k1_off104 (v126 : BitVec 32) : Fin 2 → Nat :=
  let v127 : Index := Scalar.indexCast v126
  let c0_62 : Index := 0#32
  ![v127.toNat, 0]

def k1_chk37 (v126 : BitVec 32) : Prop :=
  (∀ a, (k1_off104 v126) a + S1x128.size a ≤ S64x128.size a)
theorem k1_off104_inb : ∀ (v126 : BitVec 32) (k1_hw37 : k1_chk37 v126), ∀ a, (k1_off104 v126) a + S1x128.size a ≤ S64x128.size a := fun v126 k1_hw37 => k1_hw37

def k1_off105 (v4 : BitVec 32) (k1_t7 : Fin (k1_t7_loop v4).trips) : Fin 2 → Nat :=
  let c8_i32_59 : BitVec 32 := 8#32
  let c0_i32_4 : BitVec 32 := 0#32
  let c4096_i32 : BitVec 32 := 4096#32
  let v5 : BitVec 32 := Scalar.subi c4096_i32 v4
  let c8_i32 : BitVec 32 := 8#32
  let v6 : BitVec 32 := Scalar.divsi v5 c8_i32
  let v7 : BitVec 32 := Scalar.subi v6 c0_i32_4
  let c1_i32_5 : BitVec 32 := 1#32
  let v9 : BitVec 32 := Scalar.divsi v7 c1_i32_5
  let v10 : BitVec 32 := Scalar.muli v9 c1_i32_5
  let v11 : BitVec 32 := Scalar.addi c0_i32_4 v10
  let c1_i32_7 : BitVec 32 := 1#32
  let arg7 : BitVec 32 := Scf.iv v11 c1_i32_7 k1_t7
  let v122 : BitVec 32 := Scalar.muli c8_i32_59 arg7
  let v123 : BitVec 32 := Scalar.addi v4 v122
  let c7_i32 : BitVec 32 := 7#32
  let v124 : BitVec 32 := Scalar.addi v123 c7_i32
  let v129 : Index := Scalar.indexCast v124
  let c0_63 : Index := 0#32
  ![v129.toNat, 0]
@[reducible] def k1_t8_loop (v4 : BitVec 32) : Scf.Loop 32 :=
  let c8_i32_8 : BitVec 32 := 8#32
  let c4096_i32 : BitVec 32 := 4096#32
  let v5 : BitVec 32 := Scalar.subi c4096_i32 v4
  let c8_i32 : BitVec 32 := 8#32
  let v6 : BitVec 32 := Scalar.divsi v5 c8_i32
  let v12 : BitVec 32 := Scalar.muli c8_i32_8 v6
  let v13 : BitVec 32 := Scalar.addi v4 v12
  let c4096_i32_9 : BitVec 32 := 4096#32
  let v14 : BitVec 32 := Scalar.subi c4096_i32_9 v13
  let c1_i32_11 : BitVec 32 := 1#32
  let v16 : BitVec 32 := Scalar.divsi v14 c1_i32_11
  let v17 : BitVec 32 := Scalar.muli v16 c1_i32_11
  let v18 : BitVec 32 := Scalar.addi v13 v17
  let c1_i32_12 : BitVec 32 := 1#32
  ⟨v13, v18, c1_i32_12⟩
def k1_off106 (v4 : BitVec 32) (k1_t8 : Fin (k1_t8_loop v4).trips) : Fin 3 → Nat :=
  let c0 : Index := 0#32
  let c0_15 : Index := 0#32
  let c8_i32_8 : BitVec 32 := 8#32
  let c4096_i32 : BitVec 32 := 4096#32
  let v5 : BitVec 32 := Scalar.subi c4096_i32 v4
  let c8_i32 : BitVec 32 := 8#32
  let v6 : BitVec 32 := Scalar.divsi v5 c8_i32
  let v12 : BitVec 32 := Scalar.muli c8_i32_8 v6
  let v13 : BitVec 32 := Scalar.addi v4 v12
  let c1_i32_12 : BitVec 32 := 1#32
  let arg7 : BitVec 32 := Scf.iv v13 c1_i32_12 k1_t8
  let v24 : Index := Scalar.indexCast arg7
  ![0, 0, v24.toNat]
def k1_off107 (v25 : BitVec 32) : Fin 2 → Nat :=
  let v26 : Index := Scalar.indexCast v25
  let c0_16 : Index := 0#32
  ![v26.toNat, 0]

def k1_chk38 (v25 : BitVec 32) : Prop :=
  (∀ a, (k1_off107 v25) a + S1x128.size a ≤ S64x128.size a)
theorem k1_off107_inb : ∀ (v25 : BitVec 32) (k1_hw38 : k1_chk38 v25), ∀ a, (k1_off107 v25) a + S1x128.size a ≤ S64x128.size a := fun v25 k1_hw38 => k1_hw38

def k1_off108 (v4 : BitVec 32) (k1_t8 : Fin (k1_t8_loop v4).trips) : Fin 2 → Nat :=
  let c8_i32_8 : BitVec 32 := 8#32
  let c4096_i32 : BitVec 32 := 4096#32
  let v5 : BitVec 32 := Scalar.subi c4096_i32 v4
  let c8_i32 : BitVec 32 := 8#32
  let v6 : BitVec 32 := Scalar.divsi v5 c8_i32
  let v12 : BitVec 32 := Scalar.muli c8_i32_8 v6
  let v13 : BitVec 32 := Scalar.addi v4 v12
  let c1_i32_12 : BitVec 32 := 1#32
  let arg7 : BitVec 32 := Scf.iv v13 c1_i32_12 k1_t8
  let v28 : Index := Scalar.indexCast arg7
  let c0_17 : Index := 0#32
  ![v28.toNat, 0]
@[reducible] def k1_t9_loop (v4 : BitVec 32) : Scf.Loop 32 :=
  let c8_i32_8 : BitVec 32 := 8#32
  let c4096_i32 : BitVec 32 := 4096#32
  let v5 : BitVec 32 := Scalar.subi c4096_i32 v4
  let c8_i32 : BitVec 32 := 8#32
  let v6 : BitVec 32 := Scalar.divsi v5 c8_i32
  let v12 : BitVec 32 := Scalar.muli c8_i32_8 v6
  let v13 : BitVec 32 := Scalar.addi v4 v12
  let c4096_i32_9 : BitVec 32 := 4096#32
  let v14 : BitVec 32 := Scalar.subi c4096_i32_9 v13
  let c1_i32_11 : BitVec 32 := 1#32
  let v16 : BitVec 32 := Scalar.divsi v14 c1_i32_11
  let v17 : BitVec 32 := Scalar.muli v16 c1_i32_11
  let v18 : BitVec 32 := Scalar.addi v13 v17
  let v15 : BitVec 32 := Scalar.addi v13 v14
  let c1_i32_13 : BitVec 32 := 1#32
  ⟨v18, v15, c1_i32_13⟩
def k1_off109 (v4 : BitVec 32) (k1_t9 : Fin (k1_t9_loop v4).trips) : Fin 3 → Nat :=
  let c0 : Index := 0#32
  let c0_15 : Index := 0#32
  let c8_i32_8 : BitVec 32 := 8#32
  let c4096_i32 : BitVec 32 := 4096#32
  let v5 : BitVec 32 := Scalar.subi c4096_i32 v4
  let c8_i32 : BitVec 32 := 8#32
  let v6 : BitVec 32 := Scalar.divsi v5 c8_i32
  let v12 : BitVec 32 := Scalar.muli c8_i32_8 v6
  let v13 : BitVec 32 := Scalar.addi v4 v12
  let c4096_i32_9 : BitVec 32 := 4096#32
  let v14 : BitVec 32 := Scalar.subi c4096_i32_9 v13
  let c1_i32_11 : BitVec 32 := 1#32
  let v16 : BitVec 32 := Scalar.divsi v14 c1_i32_11
  let v17 : BitVec 32 := Scalar.muli v16 c1_i32_11
  let v18 : BitVec 32 := Scalar.addi v13 v17
  let c1_i32_13 : BitVec 32 := 1#32
  let arg7 : BitVec 32 := Scf.iv v18 c1_i32_13 k1_t9
  let v24 : Index := Scalar.indexCast arg7
  ![0, 0, v24.toNat]
def k1_off110 (v25 : BitVec 32) : Fin 2 → Nat :=
  let v26 : Index := Scalar.indexCast v25
  let c0_16 : Index := 0#32
  ![v26.toNat, 0]

def k1_chk39 (v25 : BitVec 32) : Prop :=
  (∀ a, (k1_off110 v25) a + S1x128.size a ≤ S64x128.size a)
theorem k1_off110_inb : ∀ (v25 : BitVec 32) (k1_hw39 : k1_chk39 v25), ∀ a, (k1_off110 v25) a + S1x128.size a ≤ S64x128.size a := fun v25 k1_hw39 => k1_hw39

def k1_off111 (v4 : BitVec 32) (k1_t9 : Fin (k1_t9_loop v4).trips) : Fin 2 → Nat :=
  let c8_i32_8 : BitVec 32 := 8#32
  let c4096_i32 : BitVec 32 := 4096#32
  let v5 : BitVec 32 := Scalar.subi c4096_i32 v4
  let c8_i32 : BitVec 32 := 8#32
  let v6 : BitVec 32 := Scalar.divsi v5 c8_i32
  let v12 : BitVec 32 := Scalar.muli c8_i32_8 v6
  let v13 : BitVec 32 := Scalar.addi v4 v12
  let c4096_i32_9 : BitVec 32 := 4096#32
  let v14 : BitVec 32 := Scalar.subi c4096_i32_9 v13
  let c1_i32_11 : BitVec 32 := 1#32
  let v16 : BitVec 32 := Scalar.divsi v14 c1_i32_11
  let v17 : BitVec 32 := Scalar.muli v16 c1_i32_11
  let v18 : BitVec 32 := Scalar.addi v13 v17
  let c1_i32_13 : BitVec 32 := 1#32
  let arg7 : BitVec 32 := Scf.iv v18 c1_i32_13 k1_t9
  let v28 : Index := Scalar.indexCast arg7
  let c0_17 : Index := 0#32
  ![v28.toNat, 0]

def k1_chk21_0 (v4 : BitVec 32) : Prop :=
  ((k1_t6_loop v4).OK) ∧
  (∀ k1_t6 : Fin (k1_t6_loop v4).trips, ∀ a, (k1_off58 v4 k1_t6) a + S1x1x1.size a ≤ S1x1x4096.size a) ∧
  (∀ k1_t6 : Fin (k1_t6_loop v4).trips, ∀ a, (k1_off60 v4 k1_t6) a + S1x128.size a ≤ S4096x128.size a) ∧
  (∀ k1_t6 : Fin (k1_t6_loop v4).trips, ∀ a, (k1_off61 v4 k1_t6) a + S1x1x1.size a ≤ S1x1x4096.size a) ∧
  (∀ k1_t6 : Fin (k1_t6_loop v4).trips, ∀ a, (k1_off63 v4 k1_t6) a + S1x128.size a ≤ S4096x128.size a) ∧
  (∀ k1_t6 : Fin (k1_t6_loop v4).trips, ∀ a, (k1_off64 v4 k1_t6) a + S1x1x1.size a ≤ S1x1x4096.size a) ∧
  (∀ k1_t6 : Fin (k1_t6_loop v4).trips, ∀ a, (k1_off66 v4 k1_t6) a + S1x128.size a ≤ S4096x128.size a) ∧
  (∀ k1_t6 : Fin (k1_t6_loop v4).trips, ∀ a, (k1_off67 v4 k1_t6) a + S1x1x1.size a ≤ S1x1x4096.size a) ∧
  (∀ k1_t6 : Fin (k1_t6_loop v4).trips, ∀ a, (k1_off69 v4 k1_t6) a + S1x128.size a ≤ S4096x128.size a) ∧
  (∀ k1_t6 : Fin (k1_t6_loop v4).trips, ∀ a, (k1_off70 v4 k1_t6) a + S1x1x1.size a ≤ S1x1x4096.size a) ∧
  (∀ k1_t6 : Fin (k1_t6_loop v4).trips, ∀ a, (k1_off72 v4 k1_t6) a + S1x128.size a ≤ S4096x128.size a) ∧
  (∀ k1_t6 : Fin (k1_t6_loop v4).trips, ∀ a, (k1_off73 v4 k1_t6) a + S1x1x1.size a ≤ S1x1x4096.size a) ∧
  (∀ k1_t6 : Fin (k1_t6_loop v4).trips, ∀ a, (k1_off75 v4 k1_t6) a + S1x128.size a ≤ S4096x128.size a) ∧
  (∀ k1_t6 : Fin (k1_t6_loop v4).trips, ∀ a, (k1_off76 v4 k1_t6) a + S1x1x1.size a ≤ S1x1x4096.size a) ∧
  (∀ k1_t6 : Fin (k1_t6_loop v4).trips, ∀ a, (k1_off78 v4 k1_t6) a + S1x128.size a ≤ S4096x128.size a) ∧
  (∀ k1_t6 : Fin (k1_t6_loop v4).trips, ∀ a, (k1_off79 v4 k1_t6) a + S1x1x1.size a ≤ S1x1x4096.size a) ∧
  (∀ k1_t6 : Fin (k1_t6_loop v4).trips, ∀ a, (k1_off81 v4 k1_t6) a + S1x128.size a ≤ S4096x128.size a) ∧
  ((k1_t7_loop v4).OK) ∧
  (∀ k1_t7 : Fin (k1_t7_loop v4).trips, ∀ a, (k1_off82 v4 k1_t7) a + S1x1x1.size a ≤ S1x1x4096.size a) ∧
  (∀ k1_t7 : Fin (k1_t7_loop v4).trips, ∀ a, (k1_off84 v4 k1_t7) a + S1x128.size a ≤ S4096x128.size a) ∧
  (∀ k1_t7 : Fin (k1_t7_loop v4).trips, ∀ a, (k1_off85 v4 k1_t7) a + S1x1x1.size a ≤ S1x1x4096.size a) ∧
  (∀ k1_t7 : Fin (k1_t7_loop v4).trips, ∀ a, (k1_off87 v4 k1_t7) a + S1x128.size a ≤ S4096x128.size a) ∧
  (∀ k1_t7 : Fin (k1_t7_loop v4).trips, ∀ a, (k1_off88 v4 k1_t7) a + S1x1x1.size a ≤ S1x1x4096.size a) ∧
  (∀ k1_t7 : Fin (k1_t7_loop v4).trips, ∀ a, (k1_off90 v4 k1_t7) a + S1x128.size a ≤ S4096x128.size a) ∧
  (∀ k1_t7 : Fin (k1_t7_loop v4).trips, ∀ a, (k1_off91 v4 k1_t7) a + S1x1x1.size a ≤ S1x1x4096.size a) ∧
  (∀ k1_t7 : Fin (k1_t7_loop v4).trips, ∀ a, (k1_off93 v4 k1_t7) a + S1x128.size a ≤ S4096x128.size a) ∧
  (∀ k1_t7 : Fin (k1_t7_loop v4).trips, ∀ a, (k1_off94 v4 k1_t7) a + S1x1x1.size a ≤ S1x1x4096.size a) ∧
  (∀ k1_t7 : Fin (k1_t7_loop v4).trips, ∀ a, (k1_off96 v4 k1_t7) a + S1x128.size a ≤ S4096x128.size a) ∧
  (∀ k1_t7 : Fin (k1_t7_loop v4).trips, ∀ a, (k1_off97 v4 k1_t7) a + S1x1x1.size a ≤ S1x1x4096.size a) ∧
  (∀ k1_t7 : Fin (k1_t7_loop v4).trips, ∀ a, (k1_off99 v4 k1_t7) a + S1x128.size a ≤ S4096x128.size a) ∧
  (∀ k1_t7 : Fin (k1_t7_loop v4).trips, ∀ a, (k1_off100 v4 k1_t7) a + S1x1x1.size a ≤ S1x1x4096.size a) ∧
  (∀ k1_t7 : Fin (k1_t7_loop v4).trips, ∀ a, (k1_off102 v4 k1_t7) a + S1x128.size a ≤ S4096x128.size a)
def k1_chk21_1 (v4 : BitVec 32) : Prop :=
  (∀ k1_t7 : Fin (k1_t7_loop v4).trips, ∀ a, (k1_off103 v4 k1_t7) a + S1x1x1.size a ≤ S1x1x4096.size a) ∧
  (∀ k1_t7 : Fin (k1_t7_loop v4).trips, ∀ a, (k1_off105 v4 k1_t7) a + S1x128.size a ≤ S4096x128.size a) ∧
  ((k1_t8_loop v4).OK) ∧
  (∀ k1_t8 : Fin (k1_t8_loop v4).trips, ∀ a, (k1_off106 v4 k1_t8) a + S1x1x1.size a ≤ S1x1x4096.size a) ∧
  (∀ k1_t8 : Fin (k1_t8_loop v4).trips, ∀ a, (k1_off108 v4 k1_t8) a + S1x128.size a ≤ S4096x128.size a) ∧
  ((k1_t9_loop v4).OK) ∧
  (∀ k1_t9 : Fin (k1_t9_loop v4).trips, ∀ a, (k1_off109 v4 k1_t9) a + S1x1x1.size a ≤ S1x1x4096.size a) ∧
  (∀ k1_t9 : Fin (k1_t9_loop v4).trips, ∀ a, (k1_off111 v4 k1_t9) a + S1x128.size a ≤ S4096x128.size a)
def k1_chk21 (v4 : BitVec 32) : Prop :=
  k1_chk21_0 v4 ∧
  k1_chk21_1 v4
theorem k1_t6_ok : ∀ (v4 : BitVec 32) (k1_hw21 : k1_chk21 v4), (k1_t6_loop v4).OK := fun v4 k1_hw21 => k1_hw21.1.1
theorem k1_off58_inb : ∀ (v4 : BitVec 32) (k1_hw21 : k1_chk21 v4) (k1_t6 : Fin (k1_t6_loop v4).trips), ∀ a, (k1_off58 v4 k1_t6) a + S1x1x1.size a ≤ S1x1x4096.size a := fun v4 k1_hw21 k1_t6 => k1_hw21.1.2.1 k1_t6
theorem k1_off60_inb : ∀ (v4 : BitVec 32) (k1_hw21 : k1_chk21 v4) (k1_t6 : Fin (k1_t6_loop v4).trips), ∀ a, (k1_off60 v4 k1_t6) a + S1x128.size a ≤ S4096x128.size a := fun v4 k1_hw21 k1_t6 => k1_hw21.1.2.2.1 k1_t6
theorem k1_off61_inb : ∀ (v4 : BitVec 32) (k1_hw21 : k1_chk21 v4) (k1_t6 : Fin (k1_t6_loop v4).trips), ∀ a, (k1_off61 v4 k1_t6) a + S1x1x1.size a ≤ S1x1x4096.size a := fun v4 k1_hw21 k1_t6 => k1_hw21.1.2.2.2.1 k1_t6
theorem k1_off63_inb : ∀ (v4 : BitVec 32) (k1_hw21 : k1_chk21 v4) (k1_t6 : Fin (k1_t6_loop v4).trips), ∀ a, (k1_off63 v4 k1_t6) a + S1x128.size a ≤ S4096x128.size a := fun v4 k1_hw21 k1_t6 => k1_hw21.1.2.2.2.2.1 k1_t6
theorem k1_off64_inb : ∀ (v4 : BitVec 32) (k1_hw21 : k1_chk21 v4) (k1_t6 : Fin (k1_t6_loop v4).trips), ∀ a, (k1_off64 v4 k1_t6) a + S1x1x1.size a ≤ S1x1x4096.size a := fun v4 k1_hw21 k1_t6 => k1_hw21.1.2.2.2.2.2.1 k1_t6
theorem k1_off66_inb : ∀ (v4 : BitVec 32) (k1_hw21 : k1_chk21 v4) (k1_t6 : Fin (k1_t6_loop v4).trips), ∀ a, (k1_off66 v4 k1_t6) a + S1x128.size a ≤ S4096x128.size a := fun v4 k1_hw21 k1_t6 => k1_hw21.1.2.2.2.2.2.2.1 k1_t6
theorem k1_off67_inb : ∀ (v4 : BitVec 32) (k1_hw21 : k1_chk21 v4) (k1_t6 : Fin (k1_t6_loop v4).trips), ∀ a, (k1_off67 v4 k1_t6) a + S1x1x1.size a ≤ S1x1x4096.size a := fun v4 k1_hw21 k1_t6 => k1_hw21.1.2.2.2.2.2.2.2.1 k1_t6
theorem k1_off69_inb : ∀ (v4 : BitVec 32) (k1_hw21 : k1_chk21 v4) (k1_t6 : Fin (k1_t6_loop v4).trips), ∀ a, (k1_off69 v4 k1_t6) a + S1x128.size a ≤ S4096x128.size a := fun v4 k1_hw21 k1_t6 => k1_hw21.1.2.2.2.2.2.2.2.2.1 k1_t6
theorem k1_off70_inb : ∀ (v4 : BitVec 32) (k1_hw21 : k1_chk21 v4) (k1_t6 : Fin (k1_t6_loop v4).trips), ∀ a, (k1_off70 v4 k1_t6) a + S1x1x1.size a ≤ S1x1x4096.size a := fun v4 k1_hw21 k1_t6 => k1_hw21.1.2.2.2.2.2.2.2.2.2.1 k1_t6
theorem k1_off72_inb : ∀ (v4 : BitVec 32) (k1_hw21 : k1_chk21 v4) (k1_t6 : Fin (k1_t6_loop v4).trips), ∀ a, (k1_off72 v4 k1_t6) a + S1x128.size a ≤ S4096x128.size a := fun v4 k1_hw21 k1_t6 => k1_hw21.1.2.2.2.2.2.2.2.2.2.2.1 k1_t6
theorem k1_off73_inb : ∀ (v4 : BitVec 32) (k1_hw21 : k1_chk21 v4) (k1_t6 : Fin (k1_t6_loop v4).trips), ∀ a, (k1_off73 v4 k1_t6) a + S1x1x1.size a ≤ S1x1x4096.size a := fun v4 k1_hw21 k1_t6 => k1_hw21.1.2.2.2.2.2.2.2.2.2.2.2.1 k1_t6
theorem k1_off75_inb : ∀ (v4 : BitVec 32) (k1_hw21 : k1_chk21 v4) (k1_t6 : Fin (k1_t6_loop v4).trips), ∀ a, (k1_off75 v4 k1_t6) a + S1x128.size a ≤ S4096x128.size a := fun v4 k1_hw21 k1_t6 => k1_hw21.1.2.2.2.2.2.2.2.2.2.2.2.2.1 k1_t6
theorem k1_off76_inb : ∀ (v4 : BitVec 32) (k1_hw21 : k1_chk21 v4) (k1_t6 : Fin (k1_t6_loop v4).trips), ∀ a, (k1_off76 v4 k1_t6) a + S1x1x1.size a ≤ S1x1x4096.size a := fun v4 k1_hw21 k1_t6 => k1_hw21.1.2.2.2.2.2.2.2.2.2.2.2.2.2.1 k1_t6
theorem k1_off78_inb : ∀ (v4 : BitVec 32) (k1_hw21 : k1_chk21 v4) (k1_t6 : Fin (k1_t6_loop v4).trips), ∀ a, (k1_off78 v4 k1_t6) a + S1x128.size a ≤ S4096x128.size a := fun v4 k1_hw21 k1_t6 => k1_hw21.1.2.2.2.2.2.2.2.2.2.2.2.2.2.2.1 k1_t6
theorem k1_off79_inb : ∀ (v4 : BitVec 32) (k1_hw21 : k1_chk21 v4) (k1_t6 : Fin (k1_t6_loop v4).trips), ∀ a, (k1_off79 v4 k1_t6) a + S1x1x1.size a ≤ S1x1x4096.size a := fun v4 k1_hw21 k1_t6 => k1_hw21.1.2.2.2.2.2.2.2.2.2.2.2.2.2.2.2.1 k1_t6
theorem k1_off81_inb : ∀ (v4 : BitVec 32) (k1_hw21 : k1_chk21 v4) (k1_t6 : Fin (k1_t6_loop v4).trips), ∀ a, (k1_off81 v4 k1_t6) a + S1x128.size a ≤ S4096x128.size a := fun v4 k1_hw21 k1_t6 => k1_hw21.1.2.2.2.2.2.2.2.2.2.2.2.2.2.2.2.2.1 k1_t6
theorem k1_t7_ok : ∀ (v4 : BitVec 32) (k1_hw21 : k1_chk21 v4), (k1_t7_loop v4).OK := fun v4 k1_hw21 => k1_hw21.1.2.2.2.2.2.2.2.2.2.2.2.2.2.2.2.2.2.1
theorem k1_off82_inb : ∀ (v4 : BitVec 32) (k1_hw21 : k1_chk21 v4) (k1_t7 : Fin (k1_t7_loop v4).trips), ∀ a, (k1_off82 v4 k1_t7) a + S1x1x1.size a ≤ S1x1x4096.size a := fun v4 k1_hw21 k1_t7 => k1_hw21.1.2.2.2.2.2.2.2.2.2.2.2.2.2.2.2.2.2.2.1 k1_t7
theorem k1_off84_inb : ∀ (v4 : BitVec 32) (k1_hw21 : k1_chk21 v4) (k1_t7 : Fin (k1_t7_loop v4).trips), ∀ a, (k1_off84 v4 k1_t7) a + S1x128.size a ≤ S4096x128.size a := fun v4 k1_hw21 k1_t7 => k1_hw21.1.2.2.2.2.2.2.2.2.2.2.2.2.2.2.2.2.2.2.2.1 k1_t7
theorem k1_off85_inb : ∀ (v4 : BitVec 32) (k1_hw21 : k1_chk21 v4) (k1_t7 : Fin (k1_t7_loop v4).trips), ∀ a, (k1_off85 v4 k1_t7) a + S1x1x1.size a ≤ S1x1x4096.size a := fun v4 k1_hw21 k1_t7 => k1_hw21.1.2.2.2.2.2.2.2.2.2.2.2.2.2.2.2.2.2.2.2.2.1 k1_t7
theorem k1_off87_inb : ∀ (v4 : BitVec 32) (k1_hw21 : k1_chk21 v4) (k1_t7 : Fin (k1_t7_loop v4).trips), ∀ a, (k1_off87 v4 k1_t7) a + S1x128.size a ≤ S4096x128.size a := fun v4 k1_hw21 k1_t7 => k1_hw21.1.2.2.2.2.2.2.2.2.2.2.2.2.2.2.2.2.2.2.2.2.2.1 k1_t7
theorem k1_off88_inb : ∀ (v4 : BitVec 32) (k1_hw21 : k1_chk21 v4) (k1_t7 : Fin (k1_t7_loop v4).trips), ∀ a, (k1_off88 v4 k1_t7) a + S1x1x1.size a ≤ S1x1x4096.size a := fun v4 k1_hw21 k1_t7 => k1_hw21.1.2.2.2.2.2.2.2.2.2.2.2.2.2.2.2.2.2.2.2.2.2.2.1 k1_t7
theorem k1_off90_inb : ∀ (v4 : BitVec 32) (k1_hw21 : k1_chk21 v4) (k1_t7 : Fin (k1_t7_loop v4).trips), ∀ a, (k1_off90 v4 k1_t7) a + S1x128.size a ≤ S4096x128.size a := fun v4 k1_hw21 k1_t7 => k1_hw21.1.2.2.2.2.2.2.2.2.2.2.2.2.2.2.2.2.2.2.2.2.2.2.2.1 k1_t7
theorem k1_off91_inb : ∀ (v4 : BitVec 32) (k1_hw21 : k1_chk21 v4) (k1_t7 : Fin (k1_t7_loop v4).trips), ∀ a, (k1_off91 v4 k1_t7) a + S1x1x1.size a ≤ S1x1x4096.size a := fun v4 k1_hw21 k1_t7 => k1_hw21.1.2.2.2.2.2.2.2.2.2.2.2.2.2.2.2.2.2.2.2.2.2.2.2.2.1 k1_t7
theorem k1_off93_inb : ∀ (v4 : BitVec 32) (k1_hw21 : k1_chk21 v4) (k1_t7 : Fin (k1_t7_loop v4).trips), ∀ a, (k1_off93 v4 k1_t7) a + S1x128.size a ≤ S4096x128.size a := fun v4 k1_hw21 k1_t7 => k1_hw21.1.2.2.2.2.2.2.2.2.2.2.2.2.2.2.2.2.2.2.2.2.2.2.2.2.2.1 k1_t7
theorem k1_off94_inb : ∀ (v4 : BitVec 32) (k1_hw21 : k1_chk21 v4) (k1_t7 : Fin (k1_t7_loop v4).trips), ∀ a, (k1_off94 v4 k1_t7) a + S1x1x1.size a ≤ S1x1x4096.size a := fun v4 k1_hw21 k1_t7 => k1_hw21.1.2.2.2.2.2.2.2.2.2.2.2.2.2.2.2.2.2.2.2.2.2.2.2.2.2.2.1 k1_t7
theorem k1_off96_inb : ∀ (v4 : BitVec 32) (k1_hw21 : k1_chk21 v4) (k1_t7 : Fin (k1_t7_loop v4).trips), ∀ a, (k1_off96 v4 k1_t7) a + S1x128.size a ≤ S4096x128.size a := fun v4 k1_hw21 k1_t7 => k1_hw21.1.2.2.2.2.2.2.2.2.2.2.2.2.2.2.2.2.2.2.2.2.2.2.2.2.2.2.2.1 k1_t7
theorem k1_off97_inb : ∀ (v4 : BitVec 32) (k1_hw21 : k1_chk21 v4) (k1_t7 : Fin (k1_t7_loop v4).trips), ∀ a, (k1_off97 v4 k1_t7) a + S1x1x1.size a ≤ S1x1x4096.size a := fun v4 k1_hw21 k1_t7 => k1_hw21.1.2.2.2.2.2.2.2.2.2.2.2.2.2.2.2.2.2.2.2.2.2.2.2.2.2.2.2.2.1 k1_t7
theorem k1_off99_inb : ∀ (v4 : BitVec 32) (k1_hw21 : k1_chk21 v4) (k1_t7 : Fin (k1_t7_loop v4).trips), ∀ a, (k1_off99 v4 k1_t7) a + S1x128.size a ≤ S4096x128.size a := fun v4 k1_hw21 k1_t7 => k1_hw21.1.2.2.2.2.2.2.2.2.2.2.2.2.2.2.2.2.2.2.2.2.2.2.2.2.2.2.2.2.2.1 k1_t7
theorem k1_off100_inb : ∀ (v4 : BitVec 32) (k1_hw21 : k1_chk21 v4) (k1_t7 : Fin (k1_t7_loop v4).trips), ∀ a, (k1_off100 v4 k1_t7) a + S1x1x1.size a ≤ S1x1x4096.size a := fun v4 k1_hw21 k1_t7 => k1_hw21.1.2.2.2.2.2.2.2.2.2.2.2.2.2.2.2.2.2.2.2.2.2.2.2.2.2.2.2.2.2.2.1 k1_t7
theorem k1_off102_inb : ∀ (v4 : BitVec 32) (k1_hw21 : k1_chk21 v4) (k1_t7 : Fin (k1_t7_loop v4).trips), ∀ a, (k1_off102 v4 k1_t7) a + S1x128.size a ≤ S4096x128.size a := fun v4 k1_hw21 k1_t7 => k1_hw21.1.2.2.2.2.2.2.2.2.2.2.2.2.2.2.2.2.2.2.2.2.2.2.2.2.2.2.2.2.2.2.2 k1_t7
theorem k1_off103_inb : ∀ (v4 : BitVec 32) (k1_hw21 : k1_chk21 v4) (k1_t7 : Fin (k1_t7_loop v4).trips), ∀ a, (k1_off103 v4 k1_t7) a + S1x1x1.size a ≤ S1x1x4096.size a := fun v4 k1_hw21 k1_t7 => k1_hw21.2.1 k1_t7
theorem k1_off105_inb : ∀ (v4 : BitVec 32) (k1_hw21 : k1_chk21 v4) (k1_t7 : Fin (k1_t7_loop v4).trips), ∀ a, (k1_off105 v4 k1_t7) a + S1x128.size a ≤ S4096x128.size a := fun v4 k1_hw21 k1_t7 => k1_hw21.2.2.1 k1_t7
theorem k1_t8_ok : ∀ (v4 : BitVec 32) (k1_hw21 : k1_chk21 v4), (k1_t8_loop v4).OK := fun v4 k1_hw21 => k1_hw21.2.2.2.1
theorem k1_off106_inb : ∀ (v4 : BitVec 32) (k1_hw21 : k1_chk21 v4) (k1_t8 : Fin (k1_t8_loop v4).trips), ∀ a, (k1_off106 v4 k1_t8) a + S1x1x1.size a ≤ S1x1x4096.size a := fun v4 k1_hw21 k1_t8 => k1_hw21.2.2.2.2.1 k1_t8
theorem k1_off108_inb : ∀ (v4 : BitVec 32) (k1_hw21 : k1_chk21 v4) (k1_t8 : Fin (k1_t8_loop v4).trips), ∀ a, (k1_off108 v4 k1_t8) a + S1x128.size a ≤ S4096x128.size a := fun v4 k1_hw21 k1_t8 => k1_hw21.2.2.2.2.2.1 k1_t8
theorem k1_t9_ok : ∀ (v4 : BitVec 32) (k1_hw21 : k1_chk21 v4), (k1_t9_loop v4).OK := fun v4 k1_hw21 => k1_hw21.2.2.2.2.2.2.1
theorem k1_off109_inb : ∀ (v4 : BitVec 32) (k1_hw21 : k1_chk21 v4) (k1_t9 : Fin (k1_t9_loop v4).trips), ∀ a, (k1_off109 v4 k1_t9) a + S1x1x1.size a ≤ S1x1x4096.size a := fun v4 k1_hw21 k1_t9 => k1_hw21.2.2.2.2.2.2.2.1 k1_t9
theorem k1_off111_inb : ∀ (v4 : BitVec 32) (k1_hw21 : k1_chk21 v4) (k1_t9 : Fin (k1_t9_loop v4).trips), ∀ a, (k1_off111 v4 k1_t9) a + S1x128.size a ≤ S4096x128.size a := fun v4 k1_hw21 k1_t9 => k1_hw21.2.2.2.2.2.2.2.2 k1_t9

def k1_cond3 (i : grid1.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_14 : BitVec 32 := 0#32
  let v23 : BitVec 1 := Scalar.cmpi .ne v22 c0_i32_14
  v23

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .smem S1x1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S1x64 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

@[reducible] def k2_t1_loop : Scf.Loop 32 :=
  let c0_i32 : BitVec 32 := 0#32
  let c4_i32 : BitVec 32 := 4#32
  let v63 : BitVec 32 := Scalar.addi c0_i32 c4_i32
  let c1_i32 : BitVec 32 := 1#32
  ⟨c0_i32, v63, c1_i32⟩
def k2_off1 (k2_t1 : Fin k2_t1_loop.trips) : Fin 2 → Nat :=
  let c0_i32 : BitVec 32 := 0#32
  let c1_i32 : BitVec 32 := 1#32
  let arg5 : BitVec 32 := Scf.iv c0_i32 c1_i32 k2_t1
  let c4096_i32 : BitVec 32 := 4096#32
  let v64 : BitVec 32 := Scalar.muli arg5 c4096_i32
  let v65 : Index := Scalar.indexCast v64
  let c0_8 : Index := 0#32
  ![v65.toNat, 0]
abbrev stage2_0 : Fin 1 → Memref sig .tc .vmem S16384x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16384x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
-- ==== ReferenceIdeal.lean ====
abbrev S16384x128 : Shape := ⟨2, ![16384, 128]⟩
abbrev S_ : Shape := ⟨0, ![]⟩
abbrev S64x128 : Shape := ⟨2, ![64, 128]⟩
abbrev S16384 : Shape := ⟨1, ![16384]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S128x64 : Shape := ⟨2, ![128, 64]⟩
abbrev S64x1 : Shape := ⟨2, ![64, 1]⟩
abbrev S16384x2 : Shape := ⟨2, ![16384, 2]⟩

abbrev nBuf : Space → Nat
  | .hbm => 89
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S_, .i32⟩
  | .hbm, ⟨2, _⟩ => ⟨S64x128, .f32⟩
  | .hbm, ⟨3, _⟩ => ⟨S_, .i32⟩
  | .hbm, ⟨4, _⟩ => ⟨S16384x128, .f32⟩
  | .hbm, ⟨5, _⟩ => ⟨S_, .i32⟩
  | .hbm, ⟨6, _⟩ => ⟨S64x128, .f32⟩
  | .hbm, ⟨7, _⟩ => ⟨S_, .i32⟩
  | .hbm, ⟨8, _⟩ => ⟨S_, .i1⟩
  | .hbm, ⟨9, _⟩ => ⟨S16384x128, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S1x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S128x64, .f32⟩
  | .hbm, ⟨21, _⟩ => ⟨S16384x64, .f32⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .i32⟩
  | .hbm, ⟨27, _⟩ => ⟨S_, .f32⟩
  | .hbm, ⟨28, _⟩ => ⟨S_, .i32⟩
  | .hbm, ⟨29, _⟩ => ⟨S16384, .f32⟩
  | .hbm, ⟨30, _⟩ => ⟨S16384, .i32⟩
  | .hbm, ⟨31, _⟩ => ⟨S_, .f32⟩
  | .hbm, ⟨32, _⟩ => ⟨S64x128, .f32⟩
  | .hbm, ⟨33, _⟩ => ⟨S16384x1, .i32⟩
  | .hbm, ⟨34, _⟩ => ⟨S64x128, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S64, .f32⟩
  | .hbm, ⟨39, _⟩ => ⟨S16384x1, .i32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .i1⟩
  | .hbm, ⟨44, _⟩ => ⟨S64x1, .i1⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64x1, .f32⟩
  | .hbm, ⟨49, _⟩ => ⟨S64x128, .f32⟩
  | .hbm, ⟨50, _⟩ => ⟨S64x128, .f32⟩
  | .hbm, ⟨51, _⟩ => ⟨S64x128, .i1⟩
  | .hbm, ⟨52, _⟩ => ⟨S64x128, .f32⟩
  | .hbm, ⟨53, _⟩ => ⟨S_, .i32⟩
  | .hbm, ⟨54, _⟩ => ⟨S_, .i32⟩
  | .hbm, ⟨55, _⟩ => ⟨S16384x128, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S64x128, .f32⟩
  | .hbm, ⟨60, _⟩ => ⟨S_, .f32⟩
  | .hbm, ⟨61, _⟩ => ⟨S64, .f32⟩
  | .hbm, ⟨62, _⟩ => ⟨S1x64, .f32⟩
  | .hbm, ⟨63, _⟩ => ⟨S16384x64, .f32⟩
  | .hbm, ⟨64, _⟩ => ⟨S16384x64, .f32⟩
  | .hbm, ⟨65, _⟩ => ⟨S16384x64, .f32⟩
  | .hbm, ⟨66, _⟩ => ⟨S128x64, .f32⟩
  | .hbm, ⟨67, _⟩ => ⟨S16384x64, .f32⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x64, .f32⟩
  | .hbm, ⟨72, _⟩ => ⟨S_, .f32⟩
  | .hbm, ⟨73, _⟩ => ⟨S16384x64, .f32⟩
  | .hbm, ⟨74, _⟩ => ⟨S16384x64, .f32⟩
  | .hbm, ⟨75, _⟩ => ⟨S16384x64, .f32⟩
  | .hbm, ⟨76, _⟩ => ⟨S16384x2, .f32⟩
  | .hbm, ⟨77, _⟩ => ⟨S16384x2, .i32⟩
  | .hbm, ⟨78, _⟩ => ⟨S16384x1, .i32⟩
  | .hbm, ⟨79, _⟩ => ⟨S16384, .i32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_while0c_c_7 : Ref sig .tc := ⟨.hbm, 7, rfl⟩
abbrev main_while0c_v28 : Ref sig .tc := ⟨.hbm, 8, rfl⟩
abbrev main_while0b_v28 : Ref sig .tc := ⟨.hbm, 9, rfl⟩
abbrev main_while0b_cst_7 : Ref sig .tc := ⟨.hbm, 10, rfl⟩
abbrev main_while0b_v29 : Ref sig .tc := ⟨.hbm, 11, rfl⟩
abbrev main_while0b_v30 : Ref sig .tc := ⟨.hbm, 12, rfl⟩
abbrev main_while0b_v31 : Ref sig .tc := ⟨.hbm, 13, rfl⟩
abbrev main_while0b_cst_8 : Ref sig .tc := ⟨.hbm, 14, rfl⟩
abbrev main_while0b_v32 : Ref sig .tc := ⟨.hbm, 15, rfl⟩
abbrev main_while0b_v33 : Ref sig .tc := ⟨.hbm, 16, rfl⟩
abbrev main_while0b_v34 : Ref sig .tc := ⟨.hbm, 17, rfl⟩
abbrev main_while0b_v35 : Ref sig .tc := ⟨.hbm, 18, rfl⟩
abbrev main_while0b_v36 : Ref sig .tc := ⟨.hbm, 19, rfl⟩
abbrev main_while0b_v37 : Ref sig .tc := ⟨.hbm, 20, rfl⟩
abbrev main_while0b_v38 : Ref sig .tc := ⟨.hbm, 21, rfl⟩
abbrev main_while0b_cst_9 : Ref sig .tc := ⟨.hbm, 22, rfl⟩
abbrev main_while0b_v39 : Ref sig .tc := ⟨.hbm, 23, rfl⟩
abbrev main_while0b_v40 : Ref sig .tc := ⟨.hbm, 24, rfl⟩
abbrev main_while0b_v41 : Ref sig .tc := ⟨.hbm, 25, rfl⟩
abbrev main_while0b_call0_v0 : Ref sig .tc := ⟨.hbm, 26, rfl⟩
abbrev main_while0b_call0_cst : Ref sig .tc := ⟨.hbm, 27, rfl⟩
abbrev main_while0b_call0_c : Ref sig .tc := ⟨.hbm, 28, rfl⟩
abbrev main_while0b_call0_v1_0 : Ref sig .tc := ⟨.hbm, 29, rfl⟩
abbrev main_while0b_v42 : Ref sig .tc := ⟨.hbm, 30, rfl⟩
abbrev main_while0b_cst_10 : Ref sig .tc := ⟨.hbm, 31, rfl⟩
abbrev main_while0b_v43 : Ref sig .tc := ⟨.hbm, 32, rfl⟩
abbrev main_while0b_v44 : Ref sig .tc := ⟨.hbm, 33, rfl⟩
abbrev main_while0b_v45 : Ref sig .tc := ⟨.hbm, 34, rfl⟩
abbrev main_while0b_cst_11 : Ref sig .tc := ⟨.hbm, 35, rfl⟩
abbrev main_while0b_v46 : Ref sig .tc := ⟨.hbm, 36, rfl⟩
abbrev main_while0b_cst_12 : Ref sig .tc := ⟨.hbm, 37, rfl⟩
abbrev main_while0b_v47 : Ref sig .tc := ⟨.hbm, 38, rfl⟩
abbrev main_while0b_v48 : Ref sig .tc := ⟨.hbm, 39, rfl⟩
abbrev main_while0b_v49 : Ref sig .tc := ⟨.hbm, 40, rfl⟩
abbrev main_while0b_cst_13 : Ref sig .tc := ⟨.hbm, 41, rfl⟩
abbrev main_while0b_v50 : Ref sig .tc := ⟨.hbm, 42, rfl⟩
abbrev main_while0b_v51 : Ref sig .tc := ⟨.hbm, 43, rfl⟩
abbrev main_while0b_v52 : Ref sig .tc := ⟨.hbm, 44, rfl⟩
abbrev main_while0b_cst_14 : Ref sig .tc := ⟨.hbm, 45, rfl⟩
abbrev main_while0b_v53 : Ref sig .tc := ⟨.hbm, 46, rfl⟩
abbrev main_while0b_v54 : Ref sig .tc := ⟨.hbm, 47, rfl⟩
abbrev main_while0b_v55 : Ref sig .tc := ⟨.hbm, 48, rfl⟩
abbrev main_while0b_v56 : Ref sig .tc := ⟨.hbm, 49, rfl⟩
abbrev main_while0b_v57 : Ref sig .tc := ⟨.hbm, 50, rfl⟩
abbrev main_while0b_call1_v0 : Ref sig .tc := ⟨.hbm, 51, rfl⟩
abbrev main_while0b_v58 : Ref sig .tc := ⟨.hbm, 52, rfl⟩
abbrev main_while0b_c_15 : Ref sig .tc := ⟨.hbm, 53, rfl⟩
abbrev main_while0b_v59 : Ref sig .tc := ⟨.hbm, 54, rfl⟩
abbrev main_v2 : Ref sig .tc := ⟨.hbm, 55, rfl⟩
abbrev main_cst : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_cst_0 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_cst_1 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_cst_2 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_values : Ref sig .tc := ⟨.hbm, 76, rfl⟩
abbrev main_indices : Ref sig .tc := ⟨.hbm, 77, rfl⟩
abbrev main_v19 : Ref sig .tc := ⟨.hbm, 78, rfl⟩
abbrev main_v20 : Ref sig .tc := ⟨.hbm, 79, rfl⟩
abbrev main_c_3 : Ref sig .tc := ⟨.hbm, 80, rfl⟩
abbrev main_v21 : Ref sig .tc := ⟨.hbm, 81, rfl⟩
abbrev main_v22 : Ref sig .tc := ⟨.hbm, 82, rfl⟩
abbrev main_c_4 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩

abbrev nD : Nat := 1
abbrev τ : Topo := Topo.v7x

variable {F : FTy → Type} [FloatOps F]

abbrev main_while0_count : Scf.Loop 32 := ⟨0#32, 25#32, 1#32⟩
-- ==== Proof.Base.lean ====
/-
  What every file on the kernel's run shares: the resource algebra of the whole program, and one memref's buffer
  held whole.
-/
module

public import proofs.«01_k».proof.Proof.Gen.KernelIdeal.Launch
public import proofs.«01_k».proof.Proof.Gen.KernelIdeal.Loops
public import Idealize.ShloMosaic.Lib.Pipeline.RegionsLoop
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The launches of a kernel: the last one, and for each trip of the host loop one of either kernel. -/
abbrev Tick : Type := Option (Fin 25 × Bool)

/-- The resource algebra of the whole program: one copy of the pipeline's algebra for each of the 51 kernel launches
    (25 rounds of two, and the last call), beside the counters of the transfers. -/
abbrev UU : Type := IProdConst Tick (UR sig nD τ) × Counters

local notation "𝕄" => MT nD τ sig Unit (Elt F) ℕ UU ℕ

/-- The contents of memref `M`'s buffer on core `c`. -/
abbrev Bf (F : FTy → Type) (c : Dev nD) {sp : Space} {S : Shape} {e : EltTy} (M : Memref sig .tc sp S e) : Type :=
  Buf (Elt F) (M.view.loc (c : Thread nD τ))

/-- Memref `M`'s buffer on core `c`, held whole at `f`. -/
abbrev pt (c : Dev nD) {sp : Space} {S : Shape} {e : EltTy} (M : Memref sig .tc sp S e) (f : Bf F c M) : sProp 𝕄 :=
  M.view.loc (c : Thread nD τ) ↦{fullShare} f

/-- Memref `M`'s buffer held whole at contents that read, through the memref, as `x`. -/
abbrev ptR (c : Dev nD) {sp : Space} {S : Shape} {e : EltTy} (M : Memref sig .tc sp S e) (x : S.Idx → Elt F e) : sProp 𝕄 :=
  iprop(∃ f : Bf F c M, pt c M f ∗ ⌜M.view.read (Elt F) f = x⌝)

/-- Memref `M`'s buffer held whole at contents whose reading satisfies `P`. -/
abbrev ptP (c : Dev nD) {sp : Space} {S : Shape} {e : EltTy} (M : Memref sig .tc sp S e) (P : (S.Idx → Elt F e) → Prop) : sProp 𝕄 :=
  iprop(∃ f : Bf F c M, pt c M f ∗ ⌜P (M.view.read (Elt F) f)⌝)

end Cert.Proof
-- ==== Proof.Tiles.lean ====
/-
  Arrays of whole-row tiles: reading a tile of rows out of an array, an array given tile by tile, and what one more
  stored tile makes of an array written so far.
-/
module

public import proofs.«01_k».proof.Proof.Base
public import Idealize.ShloMosaic.Lib.WritesUnit
public import Idealize.ShloMosaic.Lib.VecWindow
public import Idealize.ShloMosaic.Lib.ValueIdx
public import Idealize.ShloMosaic.Lib.ValueIdxCoords

@[expose] public section

noncomputable section

namespace Cert.Proof

open Idealize.ShloMosaic Idealize.ShloMosaic.ValueIdx

variable {α : Type}

/-- Rows `o, o + 1, …` of an array, `b` of them. -/
def rowsAt {N d : ℕ} [NeZero N] (b : ℕ) (x : (⟨2, ![N, d]⟩ : Shape).Idx → α) (o : ℕ) : (⟨2, ![b, d]⟩ : Shape).Idx → α :=
  fun j => x (ix2 (Fin.ofNat N (o + (j 0).val)) (j 1))

/-- The array whose tile `k` of `b` rows is `g k`. -/
def tiles {d : ℕ} (N b : ℕ) [NeZero b] (g : ℕ → (⟨2, ![b, d]⟩ : Shape).Idx → α) : (⟨2, ![N, d]⟩ : Shape).Idx → α :=
  fun y => g ((y 0).val / b) (ix2 (Fin.ofNat b (y 0).val) (y 1))

variable {sig : RefSig} {κ : Kind} {sp : Space} {e : EltTy} {Val : EltTy → Type} {N d : ℕ}

/-- A load of whole rows reads those rows. -/
theorem readAt_rows [NeZero N] {b : ℕ} (v : View sig κ sp (⟨2, ![N, d]⟩ : Shape) e) (f : v.ty.Contents Val) {off : Fin 2 → ℕ} {o : ℕ}
    (inb : ∀ a : Fin 2, off a + (![b, d] : Fin 2 → ℕ) a ≤ (![N, d] : Fin 2 → ℕ) a) (hoff : off = ![o, 0]) :
    v.readAt Val (Rect.unit (s := ⟨2, ![N, d]⟩) off ![b, d] inb).toLoadRect f = rowsAt b (v.read Val f) o := by
  subst hoff
  funext j
  rw [View.readAt_apply]
  refine congrArg (v.read Val f) (funext fun a => Fin.ext ?_)
  have h0 : o + b ≤ N := inb 0
  have hj : (j 0).val < b := (j 0).isLt
  match a with
  | ⟨0, _⟩ =>
    show o + 1 * (j 0).val = (o + (j 0).val) % N
    rw [Nat.mod_eq_of_lt (by omega)]; omega
  | ⟨1, _⟩ =>
    show 0 + 1 * (j 1).val = (j 1).val
    omega

/-- Storing tile `k` after the tiles before it leaves the tiles up to it. -/
theorem tiles_step {b : ℕ} [NeZero b] (v : View sig κ sp (⟨2, ![N, d]⟩ : Shape) e) (f : v.ty.Contents Val) {off : Fin 2 → ℕ} {k : ℕ}
    (inb : ∀ a : Fin 2, off a + (![b, d] : Fin 2 → ℕ) a ≤ (![N, d] : Fin 2 → ℕ) a) (hoff : off = ![b * k, 0])
    (g : ℕ → (⟨2, ![b, d]⟩ : Shape).Idx → Val e)
    (hf : ∀ y : (⟨2, ![N, d]⟩ : Shape).Idx, (y 0).val < b * k → v.read Val f y = tiles N b g y) :
    ∀ y : (⟨2, ![N, d]⟩ : Shape).Idx, (y 0).val < b * (k + 1) →
      v.read Val (v.writes Val f [(⟨Rect.unit (s := ⟨2, ![N, d]⟩) off ![b, d] inb, g k⟩ : View.Piece Val (⟨2, ![N, d]⟩ : Shape) e)]) y
        = tiles N b g y := by
  intro y hy
  have hb : 0 < b := Nat.pos_of_ne_zero (NeZero.ne b)
  rw [Nat.mul_succ] at hy
  by_cases h : (y 0).val < b * k
  · rw [View.read_writes_cons_rows_of_not_mem v f inb (g k) [] y hoff (W := b) rfl (Or.inl h), View.writes_nil]
    exact hf y h
  · have hq : (y 0).val / b = k := by
      rw [Nat.div_eq_iff hb]
      have := Nat.mul_comm b k
      omega
    have hr : (y 0).val % b = (y 0).val - b * k := by
      have := Nat.div_add_mod (y 0).val b
      rw [hq] at this; omega
    unfold tiles
    rw [hq]
    exact View.read_writes_cons_rows_of_mem v f inb (g k) [] y _ hoff
      (show (y 0).val = b * k + (y 0).val % b by omega) rfl

/-- An array cut into its tiles and put together again is itself. -/
theorem tiles_rowsAt [NeZero N] {b : ℕ} [NeZero b] (x : (⟨2, ![N, d]⟩ : Shape).Idx → α) :
    tiles N b (fun k => rowsAt b x (b * k)) = x := by
  funext y
  show x (ix2 (Fin.ofNat N (b * ((y 0).val / b) + (y 0).val % b)) (y 1)) = x y
  refine congrArg x (funext fun a => ?_)
  match a with
  | ⟨0, _⟩ => exact Fin.ext ((congrArg (· % N) (Nat.div_add_mod (y 0).val b)).trans (Nat.mod_eq_of_lt (y 0).isLt))
  | ⟨1, _⟩ => rfl

end Cert.Proof
-- ==== Proof.FinalBody.lean ====
/-
  The last call's body: it stores, tile by tile of 4096 rows, the second-farthest centroid of each row. Here what the
  output buffer holds after it, as the tiles of the generated payloads at the staged inputs.
-/
module

public import proofs.«01_k».proof.Proof.Tiles

@[expose] public section

set_option maxRecDepth 16384

noncomputable section

namespace Cert.Proof.Final

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The loop runs over four tiles. -/
theorem trips_eq : k2_t1_loop.trips = 4 := by decide +kernel

/-- Tile `k` of the output, from the values computed before the loop and the rows. -/
def outTile (v14 : FVec F S64x128 .f32) (v15 : IVec S1x64 32) (v20 : FVec F S64x64 .f32) (v50 v51 : FVec F S64x8 .f32)
    (x : S16384x128.Idx → Elt F .f32) (k : ℕ) : FVec F S4096x128 .f32 :=
  k2_pay2 v14 v15 (k2_pay3 v14 (k2_pay1 v20 v50 v51) (rowsAt 4096 x (4096 * k)))

/-- The whole output, from the rows, the sums, the counts and the previous centroids. -/
def out (x : S16384x128.Idx → Elt F .f32) (s : S64x128.Idx → Elt F .f32) (n : S64x1.Idx → Elt F .f32) (p : S64x128.Idx → Elt F .f32) :
    S16384x128.Idx → Elt F .f32 :=
  tiles 16384 4096 (outTile (k2_pay4 s n p) (iota .tc S1x64 32 [1] iota_S1x64_d1_w32) k2_pay5 (k2_pay7 s n p) (k2_pay8 s n p) x)

variable (c : Dev nD) (M0 : Memref sig .tc .vmem S16384x128 .f32) (h0 : M0.IsWhole) (M1 : Memref sig .tc .vmem S64x128 .f32) (h1 : M1.IsWhole)
  (M2 : Memref sig .tc .vmem S64x1 .f32) (h2 : M2.IsWhole) (M3 : Memref sig .tc .vmem S64x128 .f32) (h3 : M3.IsWhole)
  (M4 : Memref sig .tc .vmem S16384x128 .f32) (h4 : M4.IsWhole)

/-- The rectangle of tile `k`. -/
abbrev rect (k : Fin k2_t1_loop.trips) : Rect S16384x128 := Rect.unit (s := S16384x128) (k2_off1 k) S4096x128.size (k2_off1_inb k)

/-- One trip stores one tile. -/
theorem trip (v14 : FVec F S64x128 .f32) (v15 : IVec S1x64 32) (v20 : FVec F S64x64 .f32) (v50 v51 : FVec F S64x8 .f32)
    (k : Fin k2_t1_loop.trips) (X : Bf F c M0) (f : Bf F c M4) (E : Set ℕ) :
    iprop(pt c M0 X ∗ pt c M4 f) ⊢ wp frame (wpE (defs₀ (F := F)) Variants.none (c : Thread nD τ) none) E
      (k2_t1_body (F := F) M0 h0 M1 h1 M2 h2 M3 h3 M4 h4 v14 v15 v20 v50 v51 k ())
      (fun _ => iprop(pt c M0 X ∗ pt c M4 (M4.view.writes (Elt F) f
        [⟨rect k, k2_pay2 v14 v15 (k2_pay3 v14 (k2_pay1 v20 v50 v51) (M0.view.readAt (Elt F) (rect k).toLoadRect X))⟩]))) := by
  unfold k2_t1_body
  iintro ⟨H0, H4⟩
  sl_exec
  sl_step
  isplitl [H0]; · iexact H0
  iexact H4

/-- What the output holds before trip `k`: the tiles before `k`. -/
abbrev upTo (g : ℕ → FVec F S4096x128 .f32) (k : ℕ) (o : S16384x128.Idx → Elt F .f32) : Prop :=
  ∀ y : S16384x128.Idx, (y 0).val < 4096 * k → o y = tiles 16384 4096 g y

set_option warn.classDefReducibility false in
/-- The loop over the tiles, by its invariant. -/
@[sl_loop] def loopInv (E : Set ℕ) (v14 : FVec F S64x128 .f32) (v15 : IVec S1x64 32) (v20 : FVec F S64x64 .f32) (v50 v51 : FVec F S64x8 .f32) (X : Bf F c M0) :
    LoopInvTy_k2_t1 (F := F) Unit ℕ UU ℕ Variants.none c none E M0 h0 M1 h1 M2 h2 M3 h3 M4 h4 v14 v15 v20 v50 v51 where
  inv k _ := iprop(pt c M0 X ∗ ptP c M4 (upTo (outTile v14 v15 v20 v50 v51 (M0.view.read (Elt F) X)) k))
  step k _ := by
    iintro ⟨H0, %f, H4, %hf⟩
    iapply (wp_wand_r Idealize.ShloMosaic.frame (wpE (defs₀ (F := F)) Variants.none (c : Thread nD τ) none) E)
    isplitl [H0 H4]
    · iapply (trip c M0 h0 M1 h1 M2 h2 M3 h3 M4 h4 v14 v15 v20 v50 v51 k X f E)
      isplitl [H0]; · iexact H0
      iexact H4
    · iintro %_ ⟨H0, H4⟩
      isplitl [H0]; · iexact H0
      iexists _
      isplitl [H4]; · iexact H4
      ipureintro
      rw [readAt_rows M0.view X (k2_off1_inb k) (k2_off1_eq k)]
      exact tiles_step M4.view f (k2_off1_inb k) (k2_off1_eq k) (outTile v14 v15 v20 v50 v51 (M0.view.read (Elt F) X)) hf

/-- The body: from the four inputs' buffers and the output's at anything, to the output's holding `out`. -/
theorem body (X0 : Bf F c M0) (X1 : Bf F c M1) (X2 : Bf F c M2) (X3 : Bf F c M3) (f : Bf F c M4) (E : Set ℕ) :
    iprop(pt c M0 X0 ∗ pt c M1 X1 ∗ pt c M2 X2 ∗ pt c M3 X3 ∗ pt c M4 f) ⊢ wp frame (wpE (defs₀ (F := F)) Variants.none (c : Thread nD τ) none) E
      (cc2__final_kernel (F := F) M0 h0 M1 h1 M2 h2 M3 h3 M4 h4)
      (fun _ => iprop(pt c M0 X0 ∗ pt c M1 X1 ∗ pt c M2 X2 ∗ pt c M3 X3 ∗ ptR c M4 (out (M0.view.read (Elt F) X0) (M1.view.read (Elt F) X1) (M2.view.read (Elt F) X2) (M3.view.read (Elt F) X3)))) := by
  iintro ⟨H0, H1, H2, H3, H4⟩
  sl_exec!
  sl_step
  revert hL2
  sl_unfold_words
  intro hL2
  isplitl [H0]; · iexact H0
  isplitl [H1]; · iexact H1
  isplitl [H2]; · iexact H2
  isplitl [H3]; · iexact H3
  iexists _
  isplitl [H4]; · iexact H4
  ipureintro
  funext y
  have hlt : (y 0).val < 16384 := (y 0).isLt
  have hT : Scf.trips k2_t1_loop.lb k2_t1_loop.ub k2_t1_loop.st = 4 := trips_eq
  rw [hT, View.readAt_full M1.view X1 inb_S64x128_S64x128_0_0, View.readAt_full M2.view X2 inb_S64x1_S64x1_0_0,
    View.readAt_full M3.view X3 inb_S64x128_S64x128_0_0] at hL2
  exact hL2 y (by omega)

end Cert.Proof.Final
-- ==== Proof.AssignBody.lean ====
/-
  The assignment call's body: it stores the centroids, each row's nearest centroid, the counts, and words that only
  steer the order of the next call. Here what each output buffer holds after it, in the generated payloads.
-/
module

public import proofs.«01_k».proof.Proof.FinalBody

@[expose] public section

set_option maxRecDepth 16384

noncomputable section

namespace Cert.Proof.Assign

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The first loop runs over four tiles. -/
theorem trips1_eq : k0_t1_loop.trips = 4 := by decide +kernel

/-- The second loop runs over 32 groups of 512 rows. -/
theorem trips2_eq : k0_t2_loop.trips = 32 := by decide +kernel

/-! ## What the loops compute -/

/-- Tile `k` of the nearest centroids. -/
def aminTile (v14 : FVec F S64x128 .f32) (v16 : IVec S1x64 32) (v64 : FVec F S1x64 .f32) (x : S16384x128.Idx → Elt F .f32) (k : ℕ) : IVec S4096x1 32 :=
  k0_pay13 v16 (k0_pay2 v14 v64 (rowsAt 4096 x (4096 * k))) (k0_pay3 v14 v64 (rowsAt 4096 x (4096 * k)))

/-- Tile `k` of the counts by groups of 512 rows. -/
def grpTile (v14 : FVec F S64x128 .f32) (v16 : IVec S1x64 32) (v64 : FVec F S1x64 .f32) (v98 : FVec F S8x4096 .f32) (x : S16384x128.Idx → Elt F .f32) (k : ℕ) : FVec F S8x64 .f32 :=
  k0_pay16 v16 v98 (k0_pay2 v14 v64 (rowsAt 4096 x (4096 * k))) (k0_pay3 v14 v64 (rowsAt 4096 x (4096 * k)))

/-- The counts over the tiles before `k`. -/
def cntAcc (v14 : FVec F S64x128 .f32) (v16 : IVec S1x64 32) (v64 : FVec F S1x64 .f32) (z : FVec F S1x64 .f32) (x : S16384x128.Idx → Elt F .f32) : ℕ → FVec F S1x64 .f32
  | 0 => z
  | k + 1 => k0_pay15 v16 (cntAcc v14 v16 v64 z x k) (k0_pay2 v14 v64 (rowsAt 4096 x (4096 * k))) (k0_pay3 v14 v64 (rowsAt 4096 x (4096 * k)))

/-- The carried row of the second loop before trip `k`. -/
def evAcc (v17 : IVec S512x64 32) (v69 : FVec F S512x512 .f32) (v101 v119 z : FVec F S1x64 .f32) (a : S16384x1.Idx → Elt F .i32) (g : S32x64.Idx → Elt F .f32) :
    ℕ → FVec F S1x64 .f32
  | 0 => z
  | k + 1 => if h : k < k0_t2_loop.trips then
      k0_pay19 v17 v69 v101 v119 ⟨k, h⟩ (evAcc v17 v69 v101 v119 z a g k) (rowsAt 512 a (512 * k)) (rowsAt 1 g k)
    else z

/-! ## The loops -/

variable (c : Dev nD) (M0 : Memref sig .tc .vmem S16384x128 .f32) (h0 : M0.IsWhole) (M1 : Memref sig .tc .vmem S64x128 .f32) (h1 : M1.IsWhole)
  (M2 : Memref sig .tc .vmem S64x1 .f32) (h2 : M2.IsWhole) (M3 : Memref sig .tc .vmem S64x128 .f32) (h3 : M3.IsWhole)
  (M4 : Memref sig .tc .vmem S1x64 .f32) (h4 : M4.IsWhole) (M5 : Memref sig .tc .vmem S16384x1 .i32) (h5 : M5.IsWhole)
  (M6 : Memref sig .tc .vmem S1x64 .f32) (h6 : M6.IsWhole) (M7 : Memref sig .tc .vmem S64x128 .f32) (h7 : M7.IsWhole)
  (M8 : Memref sig .tc .vmem S1x64 .i32) (h8 : M8.IsWhole) (M9 : Memref sig .tc .vmem S16384x1 .i32) (h9 : M9.IsWhole)
  (M10 : Memref sig .tc .vmem S32x64 .f32) (h10 : M10.IsWhole)

/-- The rows that trip `k` of the first loop reads. -/
abbrev rect1 (k : Fin k0_t1_loop.trips) : Rect S16384x128 := Rect.unit (s := S16384x128) (k0_off1 k) S4096x128.size (k0_off1_inb k)

/-- Where trip `k` of the first loop writes its words. -/
abbrev rect2 (k : Fin k0_t1_loop.trips) : Rect S16384x1 := Rect.unit (s := S16384x1) (k0_off2 k) S4096x1.size (k0_off2_inb k)

/-- Where trip `k` of the first loop writes its counts by groups. -/
abbrev rect3 (k : Fin k0_t1_loop.trips) : Rect S32x64 := Rect.unit (s := S32x64) (k0_off3 k) S8x64.size (k0_off3_inb k)

/-- The words that trip `k` of the second loop reads. -/
abbrev rect4 (k : Fin k0_t2_loop.trips) : Rect S16384x1 := Rect.unit (s := S16384x1) (k0_off4 k) S512x1.size (k0_off4_inb k)

/-- The counts that trip `k` of the second loop reads. -/
abbrev rect5 (k : Fin k0_t2_loop.trips) : Rect S32x64 := Rect.unit (s := S32x64) (k0_off5 k) S1x64.size (k0_off5_inb k)

/-- One trip of the first loop. -/
theorem trip1 (v14 : FVec F S64x128 .f32) (v16 : IVec S1x64 32) (v17 : IVec S512x64 32) (v64 : FVec F S1x64 .f32) (v69 : FVec F S512x512 .f32)
    (v98 : FVec F S8x4096 .f32) (v99 : FVec F S1x64 .f32) (acc : FVec F S1x64 .f32)
    (k : Fin k0_t1_loop.trips) (X : Bf F c M0) (f9 : Bf F c M9) (f10 : Bf F c M10) (E : Set ℕ) :
    iprop(pt c M0 X ∗ pt c M9 f9 ∗ pt c M10 f10) ⊢ wp frame (wpE (defs₀ (F := F)) Variants.none (c : Thread nD τ) none) E
      (k0_t1_body (F := F) M0 h0 M1 h1 M2 h2 M3 h3 M4 h4 M5 h5 M6 h6 M7 h7 M8 h8 M9 h9 M10 h10 v14 v16 v17 v64 v69 v98 v99 k acc)
      (fun r => iprop(⌜r = k0_pay15 v16 acc (k0_pay2 v14 v64 (M0.view.readAt (Elt F) (rect1 k).toLoadRect X)) (k0_pay3 v14 v64 (M0.view.readAt (Elt F) (rect1 k).toLoadRect X))⌝
        ∗ pt c M0 X
        ∗ pt c M9 (M9.view.writes (Elt F) f9 [⟨rect2 k, k0_pay13 v16 (k0_pay2 v14 v64 (M0.view.readAt (Elt F) (rect1 k).toLoadRect X)) (k0_pay3 v14 v64 (M0.view.readAt (Elt F) (rect1 k).toLoadRect X))⟩])
        ∗ pt c M10 (M10.view.writes (Elt F) f10 [⟨rect3 k, k0_pay16 v16 v98 (k0_pay2 v14 v64 (M0.view.readAt (Elt F) (rect1 k).toLoadRect X)) (k0_pay3 v14 v64 (M0.view.readAt (Elt F) (rect1 k).toLoadRect X))⟩]))) := by
  unfold k0_t1_body
  iintro ⟨H0, H9, H10⟩
  sl_exec
  sl_step
  isplitr; · ipureintro; rfl
  isplitl [H0]; · iexact H0
  isplitl [H9]; · iexact H9
  iexact H10

/-- One trip of the second loop. -/
theorem trip2 (v14 : FVec F S64x128 .f32) (v16 : IVec S1x64 32) (v17 : IVec S512x64 32) (v64 : FVec F S1x64 .f32) (v69 : FVec F S512x512 .f32)
    (v98 : FVec F S8x4096 .f32) (v99 v101 v119 : FVec F S1x64 .f32) (acc : FVec F S1x64 .f32)
    (k : Fin k0_t2_loop.trips) (f5 : Bf F c M5) (f9 : Bf F c M9) (f10 : Bf F c M10) (E : Set ℕ) :
    iprop(pt c M5 f5 ∗ pt c M9 f9 ∗ pt c M10 f10) ⊢ wp frame (wpE (defs₀ (F := F)) Variants.none (c : Thread nD τ) none) E
      (k0_t2_body (F := F) M0 h0 M1 h1 M2 h2 M3 h3 M4 h4 M5 h5 M6 h6 M7 h7 M8 h8 M9 h9 M10 h10 v14 v16 v17 v64 v69 v98 v99 v101 v119 k acc)
      (fun r => iprop(⌜r = k0_pay19 v17 v69 v101 v119 k acc (M9.view.readAt (Elt F) (rect4 k).toLoadRect f9) (M10.view.readAt (Elt F) (rect5 k).toLoadRect f10)⌝
        ∗ pt c M5 (M5.view.writes (Elt F) f5 [⟨rect4 k, M9.view.readAt (Elt F) (rect4 k).toLoadRect f9⟩])
        ∗ pt c M9 f9 ∗ pt c M10 f10)) := by
  unfold k0_t2_body
  iintro ⟨H5, H9, H10⟩
  sl_exec
  sl_step
  isplitr; · ipureintro; rfl
  isplitl [H5]; · iexact H5
  isplitl [H9]; · iexact H9
  iexact H10

/-- What an array of tiles holds before tile `k` is stored: the tiles before it. -/
abbrev upTo {e : EltTy} {N b d : ℕ} [NeZero b] (g : ℕ → (⟨2, ![b, d]⟩ : Shape).Idx → Elt F e) (k : ℕ) (o : (⟨2, ![N, d]⟩ : Shape).Idx → Elt F e) : Prop :=
  ∀ y : (⟨2, ![N, d]⟩ : Shape).Idx, (y 0).val < b * k → o y = tiles N b g y

set_option warn.classDefReducibility false in
/-- The first loop, by its invariant. -/
@[sl_loop] def loopInv1 (E : Set ℕ) (v14 : FVec F S64x128 .f32) (v16 : IVec S1x64 32) (v17 : IVec S512x64 32) (v64 : FVec F S1x64 .f32) (v69 : FVec F S512x512 .f32)
    (v98 : FVec F S8x4096 .f32) (v99 z : FVec F S1x64 .f32) (X : Bf F c M0) :
    LoopInvTy_k0_t1 (F := F) Unit ℕ UU ℕ Variants.none c none E M0 h0 M1 h1 M2 h2 M3 h3 M4 h4 M5 h5 M6 h6 M7 h7 M8 h8 M9 h9 M10 h10 v14 v16 v17 v64 v69 v98 v99 z where
  inv k acc := iprop(⌜acc = cntAcc v14 v16 v64 z (M0.view.read (Elt F) X) k⌝ ∗ pt c M0 X
    ∗ ptP c M9 (upTo (aminTile v14 v16 v64 (M0.view.read (Elt F) X)) k)
    ∗ ptP c M10 (upTo (grpTile v14 v16 v64 v98 (M0.view.read (Elt F) X)) k))
  step k acc := by
    iintro ⟨%ha, H0, ⟨%f9, H9, %hf9⟩, ⟨%f10, H10, %hf10⟩⟩
    iapply (wp_wand_r Idealize.ShloMosaic.frame (wpE (defs₀ (F := F)) Variants.none (c : Thread nD τ) none) E)
    isplitl [H0 H9 H10]
    · iapply (trip1 c M0 h0 M1 h1 M2 h2 M3 h3 M4 h4 M5 h5 M6 h6 M7 h7 M8 h8 M9 h9 M10 h10 v14 v16 v17 v64 v69 v98 v99 acc k X f9 f10 E)
      isplitl [H0]; · iexact H0
      isplitl [H9]; · iexact H9
      iexact H10
    · iintro %r ⟨%hr, H0, H9, H10⟩
      isplitr
      · ipureintro
        rw [readAt_rows M0.view X (k0_off1_inb k) (k0_off1_eq k)] at hr
        rw [hr, ha]; rfl
      isplitl [H0]; · iexact H0
      isplitl [H9]
      · iexists _
        isplitl [H9]; · iexact H9
        ipureintro
        rw [readAt_rows M0.view X (k0_off1_inb k) (k0_off1_eq k)]
        exact tiles_step M9.view f9 (k0_off2_inb k) (k0_off2_eq k) (aminTile v14 v16 v64 (M0.view.read (Elt F) X)) hf9
      · iexists _
        isplitl [H10]; · iexact H10
        ipureintro
        rw [readAt_rows M0.view X (k0_off1_inb k) (k0_off1_eq k)]
        exact tiles_step M10.view f10 (k0_off3_inb k) (k0_off3_eq k) (grpTile v14 v16 v64 v98 (M0.view.read (Elt F) X)) hf10

set_option warn.classDefReducibility false in
/-- The second loop, by its invariant. -/
@[sl_loop] def loopInv2 (E : Set ℕ) (v14 : FVec F S64x128 .f32) (v16 : IVec S1x64 32) (v17 : IVec S512x64 32) (v64 : FVec F S1x64 .f32) (v69 : FVec F S512x512 .f32)
    (v98 : FVec F S8x4096 .f32) (v99 v101 v119 z : FVec F S1x64 .f32) (f9 : Bf F c M9) (f10 : Bf F c M10) :
    LoopInvTy_k0_t2 (F := F) Unit ℕ UU ℕ Variants.none c none E M0 h0 M1 h1 M2 h2 M3 h3 M4 h4 M5 h5 M6 h6 M7 h7 M8 h8 M9 h9 M10 h10 v14 v16 v17 v64 v69 v98 v99 v101 v119 z where
  inv k acc := iprop(⌜acc = evAcc v17 v69 v101 v119 z (M9.view.read (Elt F) f9) (M10.view.read (Elt F) f10) k⌝
    ∗ ptP c M5 (upTo (fun k => rowsAt 512 (M9.view.read (Elt F) f9) (512 * k)) k) ∗ pt c M9 f9 ∗ pt c M10 f10)
  step k acc := by
    iintro ⟨%ha, ⟨%f5, H5, %hf5⟩, H9, H10⟩
    iapply (wp_wand_r Idealize.ShloMosaic.frame (wpE (defs₀ (F := F)) Variants.none (c : Thread nD τ) none) E)
    isplitl [H5 H9 H10]
    · iapply (trip2 c M0 h0 M1 h1 M2 h2 M3 h3 M4 h4 M5 h5 M6 h6 M7 h7 M8 h8 M9 h9 M10 h10 v14 v16 v17 v64 v69 v98 v99 v101 v119 acc k f5 f9 f10 E)
      isplitl [H5]; · iexact H5
      isplitl [H9]; · iexact H9
      iexact H10
    · iintro %r ⟨%hr, H5, H9, H10⟩
      isplitr
      · ipureintro
        rw [readAt_rows M9.view f9 (k0_off4_inb k) (k0_off4_eq k), readAt_rows M10.view f10 (k0_off5_inb k) (k0_off5_eq k)] at hr
        rw [hr, ha, evAcc, dif_pos k.isLt]
      isplitl [H5]
      · iexists _
        isplitl [H5]; · iexact H5
        ipureintro
        rw [readAt_rows M9.view f9 (k0_off4_inb k) (k0_off4_eq k)]
        exact tiles_step M5.view f5 (k0_off4_inb k) (k0_off4_eq k) (fun k => rowsAt 512 (M9.view.read (Elt F) f9) (512 * k)) hf5
      isplitl [H9]; · iexact H9
      iexact H10

/-! ## What the body leaves -/

section Spec

variable (x : S16384x128.Idx → Elt F .f32) (s : S64x128.Idx → Elt F .f32) (n : S64x1.Idx → Elt F .f32) (p : S64x128.Idx → Elt F .f32) (w : S1x64.Idx → Elt F .f32)

/-- The row of squared lengths of the centroids. -/
abbrev c2 : FVec F S1x64 .f32 := k0_pay8 k0_pay5 (k0_pay6 s n p) (k0_pay7 s n p)
/-- Each row's nearest centroid. -/
def amin : S16384x1.Idx → Elt F .i32 := tiles 16384 4096 (aminTile (k0_pay4 s n p) (iota .tc S1x64 32 [1] iota_S1x64_d1_w32) (c2 s n p) x)
/-- The counts. -/
def cnt : S1x64.Idx → Elt F .f32 := cntAcc (k0_pay4 s n p) (iota .tc S1x64 32 [1] iota_S1x64_d1_w32) (c2 s n p) k0_pay11 x 4
/-- The counts by groups, as the second loop reads them. -/
def grp : S32x64.Idx → Elt F .f32 :=
  k0_pay17 (tiles 32 8 (grpTile (k0_pay4 s n p) (iota .tc S1x64 32 [1] iota_S1x64_d1_w32) (c2 s n p) k0_pay10 x))
/-- The words that steer the next call. -/
def ev : S1x64.Idx → Elt F .i32 :=
  k0_pay1 k0_pay5 k0_pay20 (k0_pay21 w)
    (k0_pay22 w (evAcc (iota .tc S512x64 32 [1] iota_S512x64_d1_w32) k0_pay9 (cnt x s n p) w k0_pay18 (amin x s n p) (grp x s n p) 32)) k0_pay23

end Spec

/-- The body: from the inputs' buffers and everything else at anything, to the outputs' at their values. -/
theorem body (X0 : Bf F c M0) (X1 : Bf F c M1) (X2 : Bf F c M2) (X3 : Bf F c M3) (X4 : Bf F c M4) (f5 : Bf F c M5) (f6 : Bf F c M6) (f7 : Bf F c M7)
    (f8 : Bf F c M8) (f9 : Bf F c M9) (f10 : Bf F c M10) (E : Set ℕ) :
    iprop(pt c M0 X0 ∗ pt c M1 X1 ∗ pt c M2 X2 ∗ pt c M3 X3 ∗ pt c M4 X4 ∗ pt c M5 f5 ∗ pt c M6 f6 ∗ pt c M7 f7 ∗ pt c M8 f8 ∗ pt c M9 f9 ∗ pt c M10 f10)
    ⊢ wp frame (wpE (defs₀ (F := F)) Variants.none (c : Thread nD τ) none) E
      (cc0__assign_kernel (F := F) M0 h0 M1 h1 M2 h2 M3 h3 M4 h4 M5 h5 M6 h6 M7 h7 M8 h8 M9 h9 M10 h10)
      (fun _ => iprop(pt c M0 X0 ∗ pt c M1 X1 ∗ pt c M2 X2 ∗ pt c M3 X3 ∗ pt c M4 X4
        ∗ ptR c M5 (amin (M0.view.read (Elt F) X0) (M1.view.read (Elt F) X1) (M2.view.read (Elt F) X2) (M3.view.read (Elt F) X3))
        ∗ ptR c M6 (cnt (M0.view.read (Elt F) X0) (M1.view.read (Elt F) X1) (M2.view.read (Elt F) X2) (M3.view.read (Elt F) X3))
        ∗ ptR c M7 (k0_pay4 (M1.view.read (Elt F) X1) (M2.view.read (Elt F) X2) (M3.view.read (Elt F) X3))
        ∗ ptR c M8 (ev (M0.view.read (Elt F) X0) (M1.view.read (Elt F) X1) (M2.view.read (Elt F) X2) (M3.view.read (Elt F) X3) (M4.view.read (Elt F) X4))
        ∗ (∃ f, pt c M9 f) ∗ ∃ f, pt c M10 f)) := by
  iintro ⟨H0, H1, H2, H3, H4, H5, H6, H7, H8, H9, H10⟩
  sl_exec!
  sl_step
  revert hL3 hL5 hL8
  sl_unfold_words
  rw [View.readAt_full M1.view X1 inb_S64x128_S64x128_0_0, View.readAt_full M2.view X2 inb_S64x1_S64x1_0_0,
    View.readAt_full M3.view X3 inb_S64x128_S64x128_0_0, View.readAt_full M4.view X4 inb_S1x64_S1x64_0_0]
  rw [show Scf.trips k0_t1_loop.lb k0_t1_loop.ub k0_t1_loop.st = 4 from trips1_eq, show Scf.trips k0_t2_loop.lb k0_t2_loop.ub k0_t2_loop.st = 32 from trips2_eq]
  intro hL3 hL5 hL8
  have e9 : M9.view.read (Elt F) fL0 = amin (M0.view.read (Elt F) X0) (M1.view.read (Elt F) X1) (M2.view.read (Elt F) X2) (M3.view.read (Elt F) X3) :=
    funext fun y => hL3 y (by have : (y 0).val < 16384 := (y 0).isLt; omega)
  have e10 : k0_pay17 (M10.view.read (Elt F) fL1) = grp (M0.view.read (Elt F) X0) (M1.view.read (Elt F) X1) (M2.view.read (Elt F) X2) (M3.view.read (Elt F) X3) :=
    congrArg k0_pay17 (funext fun y => hL5 y (by have : (y 0).val < 32 := (y 0).isLt; omega))
  have e5 : M5.view.read (Elt F) fL2 = _ := (funext fun y => hL8 y (by have : (y 0).val < 16384 := (y 0).isLt; omega) : _ = tiles 16384 512 _).trans (tiles_rowsAt (b := 512) _)
  isplitl [H0]; · iexact H0
  isplitl [H1]; · iexact H1
  isplitl [H2]; · iexact H2
  isplitl [H3]; · iexact H3
  isplitl [H4]; · iexact H4
  isplitl [H5]
  · iexists _
    isplitl [H5]; · iexact H5
    ipureintro
    exact e5.trans e9
  isplitl [H6]
  · iexists _
    isplitl [H6]; · iexact H6
    ipureintro
    exact View.read_writes_full M6.view _ inb_S1x64_S1x64_0_0 _ []
  isplitl [H7]
  · iexists _
    isplitl [H7]; · iexact H7
    ipureintro
    exact View.read_writes_full M7.view _ inb_S64x128_S64x128_0_0 _ []
  isplitl [H8]
  · iexists _
    isplitl [H8]; · iexact H8
    ipureintro
    refine (View.read_writes_full M8.view _ inb_S1x64_S1x64_0_0 _ []).trans ?_
    rw [View.read_writes_full M10.view _ inb_S32x64_S32x64_0_0 _ [], View.readAt_full M10.view fL1 inb_S32x64_S32x64_0_0, e9, e10]
    rfl
  isplitl [H9]; · iexists _; iexact H9
  iexists _; iexact H10

end Cert.Proof.Assign
-- ==== Proof.ScatterWords.lean ====
module

public import proofs.«01_k».proof.Proof.AssignBody

/-! The index words of the scatter kernel.

A pass over the rows of a block runs from a local row `P` to a local row `H`, both held in 32-bit words: first in
groups of eight rows, then one row at a time. All the words are read as integers here. -/

@[expose] public section

set_option maxRecDepth 16384

noncomputable section

namespace Cert.Proof.Scatter

open Cert.KernelIdeal Cert.KernelIdeal.Gen
open Idealize.ShloMosaic Idealize.ShloMosaic.Affine

/-- Where the pass of one trip ends: the event row of the word `v` in this block, kept between `ptr` and 4096. -/
def stop (i : grid1.Coords) (ptr v : BitVec 32) : BitVec 32 :=
  Scalar.minsi 4096#32 (Scalar.maxsi ptr (Scalar.subi v (Scalar.muli (BitVec.ofNat 32 (i 0).val) 4096#32)))

/-- The number of whole groups of eight rows. -/
def groups (hi ptr : BitVec 32) : BitVec 32 := Scalar.divsi (Scalar.subi hi ptr) 8#32

/-- The first row after the whole groups. -/
def tailRow (hi ptr : BitVec 32) : BitVec 32 := Scalar.addi ptr (Scalar.muli 8#32 (groups hi ptr))

/-- The loop over the groups of eight. -/
def groupLoop (hi ptr : BitVec 32) : Scf.Loop 32 :=
  ⟨0#32, Scalar.addi 0#32 (Scalar.muli (Scalar.divsi (Scalar.subi (groups hi ptr) 0#32) 1#32) 1#32), 1#32⟩

/-- The remainder of the loop over the groups, which has nothing left to do. -/
def groupRest (hi ptr : BitVec 32) : Scf.Loop 32 :=
  ⟨Scalar.addi 0#32 (Scalar.muli (Scalar.divsi (Scalar.subi (groups hi ptr) 0#32) 1#32) 1#32),
    Scalar.addi 0#32 (Scalar.subi (groups hi ptr) 0#32), 1#32⟩

/-- The end of the loop over single rows. -/
def tailEnd (hi ptr : BitVec 32) : BitVec 32 :=
  Scalar.addi (tailRow hi ptr) (Scalar.muli (Scalar.divsi (Scalar.subi hi (tailRow hi ptr)) 1#32) 1#32)

/-- The loop over the rows after the groups. -/
def tailLoop (hi ptr : BitVec 32) : Scf.Loop 32 := ⟨tailRow hi ptr, tailEnd hi ptr, 1#32⟩

/-- The remainder of the loop over single rows, which has nothing left to do. -/
def tailRest (hi ptr : BitVec 32) : Scf.Loop 32 :=
  ⟨tailEnd hi ptr, Scalar.addi (tailRow hi ptr) (Scalar.subi hi (tailRow hi ptr)), 1#32⟩

/-- Row `j` of group `k`. -/
def groupRow (ptr : BitVec 32) (k : ℕ) (j : BitVec 32) : BitVec 32 :=
  Scalar.indexCast (Scalar.addi (Scalar.addi ptr (Scalar.muli 8#32 (Scf.iv 0#32 1#32 k))) j)

/-- Single row `k` after the groups. -/
def singleRow (hi ptr : BitVec 32) (k : ℕ) : BitVec 32 := Scalar.indexCast (Scf.iv (tailRow hi ptr) 1#32 k)

/-- A literal word is its number. -/
theorem isInt_lit (n : ℕ) (h : n < 2 ^ 31) : IsInt (BitVec.ofNat 32 n) (n : ℤ) := Affine.ofNat n ⟨rfl, h⟩

section
variable {i : grid1.Coords} {ptr hi v : BitVec 32} {P H : ℕ}

/-- The end of a trip's pass lies between its start and 4096, whatever the event word. -/
theorem stop_isInt (hp : IsInt ptr P) (hP : P ≤ 4096) : ∃ H : ℕ, IsInt (stop i ptr v) H ∧ P ≤ H ∧ H ≤ 4096 := by
  have hw := Affine.word (Scalar.subi v (Scalar.muli (BitVec.ofNat 32 (i 0).val) 4096#32))
  generalize hv : Scalar.subi v (Scalar.muli (BitVec.ofNat 32 (i 0).val) 4096#32) = w at hw
  refine ⟨(min 4096 (max (P : ℤ) w.toInt)).toNat, ?_, by omega, by omega⟩
  unfold stop
  rw [hv]
  exact Affine.minsi (isInt_lit 4096 (by norm_num)) (Affine.maxsi hp hw rfl) (by push_cast; omega)

variable (hp : IsInt ptr P) (hh : IsInt hi H) (hPH : P ≤ H) (hH : H ≤ 4096)
include hp hh hPH hH

/-- The number of whole groups of eight rows. -/
theorem groups_isInt : IsInt (groups hi ptr) (((H - P) / 8 : ℕ) : ℤ) :=
  Affine.divsi (Affine.subi hh hp (e := ((H - P : ℕ) : ℤ)) (by omega)) (isInt_lit 8 (by norm_num)) (by omega)

/-- The first row after the whole groups. -/
theorem tailRow_isInt : IsInt (tailRow hi ptr) ((P + 8 * ((H - P) / 8) : ℕ) : ℤ) :=
  Affine.addi hp (Affine.muli (isInt_lit 8 (by norm_num)) (groups_isInt hp hh hPH hH) (e := ((8 * ((H - P) / 8) : ℕ) : ℤ))
    (by push_cast; omega)) (by push_cast; omega)

/-- The end of the loop over the groups. -/
theorem groupEnd_isInt : IsInt (groupLoop hi ptr).ub (((H - P) / 8 : ℕ) : ℤ) := by
  have hg := groups_isInt hp hh hPH hH
  exact Affine.addi (isInt_lit 0 (by norm_num)) (Affine.muli (Affine.divsi
    (Affine.subi hg (isInt_lit 0 (by norm_num)) (e := (((H - P) / 8 : ℕ) : ℤ)) (by omega)) (isInt_lit 1 (by norm_num))
    (e := (((H - P) / 8 : ℕ) : ℤ)) (by omega)) (isInt_lit 1 (by norm_num)) (e := (((H - P) / 8 : ℕ) : ℤ)) (by omega)) (by omega)

/-- The end of the loop over the single rows. -/
theorem tailEnd_isInt : IsInt (tailEnd hi ptr) (H : ℤ) := by
  have ht := tailRow_isInt hp hh hPH hH
  have hs : IsInt (Scalar.subi hi (tailRow hi ptr)) ((H - (P + 8 * ((H - P) / 8)) : ℕ) : ℤ) := Affine.subi hh ht (by omega)
  exact Affine.addi ht (Affine.muli (Affine.divsi hs (isInt_lit 1 (by norm_num))
    (e := ((H - (P + 8 * ((H - P) / 8)) : ℕ) : ℤ)) (by omega)) (isInt_lit 1 (by norm_num))
    (e := ((H - (P + 8 * ((H - P) / 8)) : ℕ) : ℤ)) (by omega)) (by omega)

/-- The loop over the groups runs once for each. -/
theorem group_trips : (groupLoop hi ptr).trips = (H - P) / 8 :=
  Affine.trips_eq (isInt_lit 0 (by norm_num)) (groupEnd_isInt hp hh hPH hH) (isInt_lit 1 (by norm_num)) _ (by omega)

/-- The loop over the groups does not overflow. -/
theorem group_ok : (groupLoop hi ptr).OK :=
  Affine.ok (isInt_lit 0 (by norm_num)) (groupEnd_isInt hp hh hPH hH) (isInt_lit 1 (by norm_num)) (by omega)

/-- The end of the loop over what is left of the groups. -/
theorem groupRest_isInt : IsInt (groupRest hi ptr).ub (((H - P) / 8 : ℕ) : ℤ) :=
  Affine.addi (isInt_lit 0 (by norm_num)) (Affine.subi (groups_isInt hp hh hPH hH) (isInt_lit 0 (by norm_num))
    (e := (((H - P) / 8 : ℕ) : ℤ)) (by omega)) (by omega)

/-- Nothing is left of the groups. -/
theorem groupRest_trips : (groupRest hi ptr).trips = 0 :=
  Affine.trips_eq (groupEnd_isInt hp hh hPH hH) (groupRest_isInt hp hh hPH hH) (isInt_lit 1 (by norm_num)) _ (by omega)

/-- The loop over what is left of the groups does not overflow. -/
theorem groupRest_ok : (groupRest hi ptr).OK :=
  Affine.ok (groupEnd_isInt hp hh hPH hH) (groupRest_isInt hp hh hPH hH) (isInt_lit 1 (by norm_num)) (by omega)

/-- The loop over the single rows runs once for each. -/
theorem tail_trips : (tailLoop hi ptr).trips = (H - P) % 8 :=
  Affine.trips_eq (tailRow_isInt hp hh hPH hH) (tailEnd_isInt hp hh hPH hH) (isInt_lit 1 (by norm_num)) _ (by omega)

/-- The loop over the single rows does not overflow. -/
theorem tail_ok : (tailLoop hi ptr).OK :=
  Affine.ok (tailRow_isInt hp hh hPH hH) (tailEnd_isInt hp hh hPH hH) (isInt_lit 1 (by norm_num)) (by omega)

/-- The end of the loop over what is left of the single rows. -/
theorem tailRest_isInt : IsInt (tailRest hi ptr).ub (H : ℤ) := by
  have ht := tailRow_isInt hp hh hPH hH
  exact Affine.addi ht (Affine.subi hh ht (e := ((H - (P + 8 * ((H - P) / 8)) : ℕ) : ℤ)) (by omega)) (by omega)

/-- Nothing is left of the single rows. -/
theorem tailRest_trips : (tailRest hi ptr).trips = 0 :=
  Affine.trips_eq (tailEnd_isInt hp hh hPH hH) (tailRest_isInt hp hh hPH hH) (isInt_lit 1 (by norm_num)) _ (by omega)

/-- The loop over what is left of the single rows does not overflow. -/
theorem tailRest_ok : (tailRest hi ptr).OK :=
  Affine.ok (tailEnd_isInt hp hh hPH hH) (tailRest_isInt hp hh hPH hH) (isInt_lit 1 (by norm_num)) (by omega)

/-- Row `j` of group `k` as a number, before the end of the pass. -/
theorem groupRow_isInt {k j : ℕ} (hk : k < (groupLoop hi ptr).trips) (hj : j < 8) :
    IsInt (groupRow ptr k (BitVec.ofNat 32 j)) ((P + 8 * k + j : ℕ) : ℤ) ∧ P + 8 * k + j < H := by
  rw [group_trips hp hh hPH hH] at hk
  have h : P + 8 * k + j < H := by omega
  refine ⟨Affine.indexCast (Affine.addi (Affine.addi hp (Affine.muli (isInt_lit 8 (by norm_num)) (Affine.iv (isInt_lit 0 (by norm_num))
    (isInt_lit 1 (by norm_num)) k (e := (k : ℤ)) (by omega)) (e := ((8 * k : ℕ) : ℤ)) (by push_cast; omega))
    (e := ((P + 8 * k : ℕ) : ℤ)) (by push_cast; omega)) (isInt_lit j (by omega)) (by push_cast; omega)), h⟩

/-- Single row `k` as a number, before the end of the pass. -/
theorem singleRow_isInt {k : ℕ} (hk : k < (tailLoop hi ptr).trips) :
    IsInt (singleRow hi ptr k) ((P + 8 * ((H - P) / 8) + k : ℕ) : ℤ) ∧ P + 8 * ((H - P) / 8) + k < H := by
  rw [tail_trips hp hh hPH hH] at hk
  have h : P + 8 * ((H - P) / 8) + k < H := by omega
  exact ⟨Affine.indexCast (Affine.iv (tailRow_isInt hp hh hPH hH) (isInt_lit 1 (by norm_num)) k (by omega)), h⟩

/-- Row `j` of group `k` as an index. -/
theorem groupRow_toNat {k j : ℕ} (hk : k < (groupLoop hi ptr).trips) (hj : j < 8) :
    (groupRow ptr k (BitVec.ofNat 32 j)).toNat = P + 8 * k + j :=
  Affine.nat_eq (groupRow_isInt hp hh hPH hH hk hj).1 _ rfl

/-- Single row `k` as an index. -/
theorem singleRow_toNat {k : ℕ} (hk : k < (tailLoop hi ptr).trips) :
    (singleRow hi ptr k).toNat = P + 8 * ((H - P) / 8) + k :=
  Affine.nat_eq (singleRow_isInt hp hh hPH hH hk).1 _ rfl

end

/-- A word below 4096 is an index of the row of words. -/
theorem inb_word {x : BitVec 32} {n : ℕ} (hx : x.toNat = n) (hn : n < 4096) :
    ∀ a, (![0, 0, x.toNat] : Fin 3 → ℕ) a + S1x1x1.size a ≤ S1x1x4096.size a := by
  intro a
  match a with
  | ⟨0, _⟩ => exact Nat.le_refl 1
  | ⟨1, _⟩ => exact Nat.le_refl 1
  | ⟨2, _⟩ => show x.toNat + 1 ≤ 4096; omega

/-- A word below 4096 is a row of the block of points. -/
theorem inb_row {x : BitVec 32} {n : ℕ} (hx : x.toNat = n) (hn : n < 4096) :
    ∀ a, (![x.toNat, 0] : Fin 2 → ℕ) a + S1x128.size a ≤ S4096x128.size a := by
  intro a
  match a with
  | ⟨0, _⟩ => show x.toNat + 1 ≤ 4096; omega
  | ⟨1, _⟩ => exact Nat.le_refl 128

/-- A word below 64 is a row of the sums. -/
theorem inb_seg {x : BitVec 32} (hx : x.toNat < 64) :
    ∀ a, (![x.toNat, 0] : Fin 2 → ℕ) a + S1x128.size a ≤ S64x128.size a := by
  intro a
  match a with
  | ⟨0, _⟩ => show x.toNat + 1 ≤ 64; omega
  | ⟨1, _⟩ => exact Nat.le_refl 128

section
variable {ptr hi : BitVec 32} {P H : ℕ} (hp : IsInt ptr P) (hh : IsInt hi H) (hPH : P ≤ H) (hH : H ≤ 4096)
include hp hh hPH hH

/-- The word of row `j` of group `k` is inside the row of words. -/
theorem word8 (j : ℕ) (hj : j < 8) (k : Fin (groupLoop hi ptr).trips) :
    ∀ a, (![0, 0, (groupRow ptr k (BitVec.ofNat 32 j)).toNat] : Fin 3 → ℕ) a + S1x1x1.size a ≤ S1x1x4096.size a :=
  inb_word (groupRow_toNat hp hh hPH hH k.2 hj) (lt_of_lt_of_le (groupRow_isInt hp hh hPH hH k.2 hj).2 hH)

/-- Row `j` of group `k` is inside the block of points. -/
theorem row8 (j : ℕ) (hj : j < 8) (k : Fin (groupLoop hi ptr).trips) :
    ∀ a, (![(groupRow ptr k (BitVec.ofNat 32 j)).toNat, 0] : Fin 2 → ℕ) a + S1x128.size a ≤ S4096x128.size a :=
  inb_row (groupRow_toNat hp hh hPH hH k.2 hj) (lt_of_lt_of_le (groupRow_isInt hp hh hPH hH k.2 hj).2 hH)

/-- The word of single row `k` is inside the row of words. -/
theorem word1 (k : Fin (tailLoop hi ptr).trips) :
    ∀ a, (![0, 0, (singleRow hi ptr k).toNat] : Fin 3 → ℕ) a + S1x1x1.size a ≤ S1x1x4096.size a :=
  inb_word (singleRow_toNat hp hh hPH hH k.2) (lt_of_lt_of_le (singleRow_isInt hp hh hPH hH k.2).2 hH)

/-- Single row `k` is inside the block of points. -/
theorem row1 (k : Fin (tailLoop hi ptr).trips) :
    ∀ a, (![(singleRow hi ptr k).toNat, 0] : Fin 2 → ℕ) a + S1x128.size a ≤ S4096x128.size a :=
  inb_row (singleRow_toNat hp hh hPH hH k.2) (lt_of_lt_of_le (singleRow_isInt hp hh hPH hH k.2).2 hH)

end

/-- When the event row lies in the rest of the block, its index is in bounds. -/
theorem event_inb {i : grid1.Coords} {ptr v : BitVec 32} {P : ℕ} (hp : IsInt ptr P) (h : k1_cond2 i ptr v = 1#1) :
    ∀ a, (k1_off56 i v) a + S1x1x1.size a ≤ S1x1x4096.size a := by
  have hw := Affine.word (Scalar.subi v (Scalar.muli (BitVec.ofNat 32 (i 0).val) 4096#32))
  have hlt : (P : ℤ) ≤ (Scalar.subi v (Scalar.muli (BitVec.ofNat 32 (i 0).val) 4096#32)).toInt
      ∧ (Scalar.subi v (Scalar.muli (BitVec.ofNat 32 (i 0).val) 4096#32)).toInt < 4096 := by
    by_contra hc
    rw [not_and_or] at hc
    refine absurd h (Affine.ne_fails (ea := 0) (eb := 0) (Affine.extui_fails ?_ rfl) (isInt_lit 0 (by norm_num)) rfl)
    rcases hc with hc | hc
    · exact Affine.andi_fails_left (Affine.sge_fails hw hp hc) trivial
    · exact Affine.andi_fails_right trivial (Affine.slt_fails hw (isInt_lit 4096 (by norm_num)) hc)
  exact inb_word (x := Scalar.subi v (Scalar.muli (BitVec.ofNat 32 (i 0).val) 4096#32))
    (Affine.nat_eq hw _ (Int.toNat_of_nonneg (by omega)).symm) (by omega)

/-- The bounds one trip asks for, whatever its event word. -/
theorem chk1 (i : grid1.Coords) {ptr : BitVec 32} {P : ℕ} (hp : IsInt ptr P) (hP : P ≤ 4096) (v : BitVec 32) : k1_chk1 i ptr v := by
  obtain ⟨H, hh, hPH, hH⟩ := stop_isInt (i := i) (v := v) hp hP
  have z3 := groupRest_trips hp hh hPH hH
  have z5 := tailRest_trips hp hh hPH hH
  exact ⟨⟨group_ok hp hh hPH hH, word8 hp hh hPH hH 0 (by norm_num), row8 hp hh hPH hH 0 (by norm_num), word8 hp hh hPH hH 1 (by norm_num), row8 hp hh hPH hH 1 (by norm_num), word8 hp hh hPH hH 2 (by norm_num), row8 hp hh hPH hH 2 (by norm_num), word8 hp hh hPH hH 3 (by norm_num), row8 hp hh hPH hH 3 (by norm_num), word8 hp hh hPH hH 4 (by norm_num), row8 hp hh hPH hH 4 (by norm_num), word8 hp hh hPH hH 5 (by norm_num), row8 hp hh hPH hH 5 (by norm_num), word8 hp hh hPH hH 6 (by norm_num), row8 hp hh hPH hH 6 (by norm_num), word8 hp hh hPH hH 7 (by norm_num), row8 hp hh hPH hH 7 (by norm_num),
    groupRest_ok hp hh hPH hH, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0⟩,
    fun k => (Fin.cast z3 k).elim0, fun k => (Fin.cast z3 k).elim0,
    tail_ok hp hh hPH hH, word1 hp hh hPH hH, row1 hp hh hPH hH,
    tailRest_ok hp hh hPH hH, fun k => (Fin.cast z5 k).elim0, fun k => (Fin.cast z5 k).elim0, event_inb hp⟩

/-- The bounds the last pass asks for. -/
theorem chk21 {ptr : BitVec 32} {P : ℕ} (hp : IsInt ptr P) (hP : P ≤ 4096) : k1_chk21 ptr := by
  have hh : IsInt 4096#32 ((4096 : ℕ) : ℤ) := isInt_lit 4096 (by norm_num)
  have hPH := hP
  have hH : (4096 : ℕ) ≤ 4096 := Nat.le_refl _
  have z3 := groupRest_trips hp hh hPH hH
  have z5 := tailRest_trips hp hh hPH hH
  exact ⟨⟨group_ok hp hh hPH hH, word8 hp hh hPH hH 0 (by norm_num), row8 hp hh hPH hH 0 (by norm_num), word8 hp hh hPH hH 1 (by norm_num), row8 hp hh hPH hH 1 (by norm_num), word8 hp hh hPH hH 2 (by norm_num), row8 hp hh hPH hH 2 (by norm_num), word8 hp hh hPH hH 3 (by norm_num), row8 hp hh hPH hH 3 (by norm_num), word8 hp hh hPH hH 4 (by norm_num), row8 hp hh hPH hH 4 (by norm_num), word8 hp hh hPH hH 5 (by norm_num), row8 hp hh hPH hH 5 (by norm_num), word8 hp hh hPH hH 6 (by norm_num), row8 hp hh hPH hH 6 (by norm_num), word8 hp hh hPH hH 7 (by norm_num), row8 hp hh hPH hH 7 (by norm_num),
    groupRest_ok hp hh hPH hH, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0, fun k => (Fin.cast z3 k).elim0⟩,
    fun k => (Fin.cast z3 k).elim0, fun k => (Fin.cast z3 k).elim0,
    tail_ok hp hh hPH hH, word1 hp hh hPH hH, row1 hp hh hPH hH,
    tailRest_ok hp hh hPH hH, fun k => (Fin.cast z5 k).elim0, fun k => (Fin.cast z5 k).elim0⟩

end Cert.Proof.Scatter
-- ==== Proof.ScatterTrips.lean ====
module

public import proofs.«01_k».proof.Proof.ScatterWords

/-! One trip of each of the scatter kernel's row loops.

Every row of the block is added to the row of the partial sums that its label names. What the loops keep is stated
for any property `Φ n p` of the partial sums `p` after `n` rows that one such addition carries from `n` to `n + 1`. -/

@[expose] public section

set_option maxRecDepth 16384

noncomputable section

namespace Cert.Proof.Scatter

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-- The label of row `n` of the block. -/
def label (x1 : S1x1x4096.Idx → BitVec 32) (n : ℕ) : BitVec 32 := x1 (ix3 0 0 (Fin.ofNat 4096 n))

/-- The partial sums with row `e` added to row `w`. -/
def rowAdd (w : ℕ) (e : Vec F S1x128 .f32) (p : S64x128.Idx → Elt F .f32) : S64x128.Idx → Elt F .f32 :=
  fun y => if (y 0).val = w then k1_pay5 (rowsAt 1 p w) e (ix2 0 (y 1)) else p y

/-- One more row carries `Φ` on. -/
def Steps (x1 : S1x1x4096.Idx → BitVec 32) (x3 : S4096x128.Idx → Elt F .f32) (Φ : ℕ → (S64x128.Idx → Elt F .f32) → Prop) : Prop :=
  ∀ n p, n < 4096 → Φ n p → Φ (n + 1) (rowAdd (label x1 n).toNat (rowsAt 1 x3 n) p)

/-- The word a load of one word reads. -/
theorem word_read {κ : Kind} (v : View sig κ .smem S1x1x4096 .i32) (X : v.ty.Contents (Elt F)) {off : Fin 3 → ℕ} {n : ℕ}
    (inb : ∀ a, off a + S1x1x1.size a ≤ S1x1x4096.size a) (hoff : off = ![0, 0, n]) (j : S1x1x1.Idx) :
    v.readAt (Elt F) (Rect.unit (s := S1x1x4096) off S1x1x1.size inb).toLoadRect X j = label (v.read (Elt F) X) n := by
  subst hoff
  rw [View.readAt_apply]
  unfold label
  refine congrArg (v.read (Elt F) X) (funext fun a => Fin.ext ?_)
  match a with
  | ⟨0, _⟩ => exact Nat.lt_one_iff.mp (Fin.isLt _)
  | ⟨1, _⟩ => exact Nat.lt_one_iff.mp (Fin.isLt _)
  | ⟨2, _⟩ =>
    have h2 : n + 1 ≤ 4096 := inb 2
    have hj : (j 2).val < 1 := (j 2).isLt
    show n + 1 * (j 2).val = n % 4096
    rw [Nat.mod_eq_of_lt (by omega)]; omega

/-- The row of the sums a loaded label names. -/
theorem off_label {κ : Kind} (v : View sig κ .smem S1x1x4096 .i32) (X : v.ty.Contents (Elt F)) {x : BitVec 32} {n : ℕ} (hx : x.toNat = n)
    (inb : ∀ a, (![0, 0, x.toNat] : Fin 3 → ℕ) a + S1x1x1.size a ≤ S1x1x4096.size a) (j : S1x1x1.Idx) :
    (![(v.readAt (Elt F) (Rect.unit (s := S1x1x4096) ![0, 0, x.toNat] S1x1x1.size inb).toLoadRect X j : BitVec 32).toNat, 0] : Fin 2 → ℕ)
      = ![(label (v.read (Elt F) X) n).toNat, 0] :=
  congrArg (fun w : BitVec 32 => (![w.toNat, 0] : Fin 2 → ℕ)) (word_read v X inb (congrArg (fun w : ℕ => (![0, 0, w] : Fin 3 → ℕ)) hx) j)

/-- The row of the block a row word names. -/
theorem off_row {x : BitVec 32} {n : ℕ} (hx : x.toNat = n) : (![x.toNat, 0] : Fin 2 → ℕ) = ![n, 0] :=
  congrArg (fun w : ℕ => (![w, 0] : Fin 2 → ℕ)) hx

/-- A row stored into the sums replaces that row. -/
theorem row_store {κ : Kind} (v : View sig κ .vmem S64x128 .f32) (f : v.ty.Contents (Elt F)) (L : List (View.Piece (Elt F) S64x128 .f32))
    {off : Fin 2 → ℕ} {w : ℕ} (inb : ∀ a, off a + S1x128.size a ≤ S64x128.size a) (hoff : off = ![w, 0]) (u : Vec F S1x128 .f32) :
    v.read (Elt F) (v.writes (Elt F) f ((⟨Rect.unit (s := S64x128) off S1x128.size inb, u⟩ : View.Piece (Elt F) S64x128 .f32) :: L))
      = fun y => if (y 0).val = w then u (ix2 0 (y 1)) else v.read (Elt F) (v.writes (Elt F) f L) y := by
  funext y
  by_cases h : (y 0).val = w
  · rw [if_pos h]
    exact View.read_writes_cons_rows_of_mem v f inb u L y (ix2 0 (y 1)) hoff (show (y 0).val = w + 0 by omega) rfl
  · rw [if_neg h]
    exact View.read_writes_cons_rows_of_not_mem v f inb u L y hoff (W := 1) rfl (by omega)

/-- One row added, as the program stores it. -/
theorem put {x1 : S1x1x4096.Idx → BitVec 32} {κ κ' : Kind} {v : View sig κ .vmem S64x128 .f32} {v3 : View sig κ' .vmem S4096x128 .f32}
    {X3 : v3.ty.Contents (Elt F)} {Φ : ℕ → (S64x128.Idx → Elt F .f32) → Prop} (hΦ : Steps x1 (v3.read (Elt F) X3) Φ) {n : ℕ} (hn : n < 4096)
    {f : v.ty.Contents (Elt F)} {L : List (View.Piece (Elt F) S64x128 .f32)} {off offE : Fin 2 → ℕ}
    {inb : ∀ a, off a + S1x128.size a ≤ S64x128.size a} {inbE : ∀ a, offE a + S1x128.size a ≤ S4096x128.size a} {u : Vec F S1x128 .f32}
    (hoff : off = ![(label x1 n).toNat, 0]) (hoffE : offE = ![n, 0])
    (hu : u = k1_pay5 (v.readAt (Elt F) (Rect.unit (s := S64x128) off S1x128.size inb).toLoadRect (v.writes (Elt F) f L))
      (v3.readAt (Elt F) (Rect.unit (s := S4096x128) offE S1x128.size inbE).toLoadRect X3))
    (h : Φ n (v.read (Elt F) (v.writes (Elt F) f L))) :
    Φ (n + 1) (v.read (Elt F) (v.writes (Elt F) f ((⟨Rect.unit (s := S64x128) off S1x128.size inb, u⟩ : View.Piece (Elt F) S64x128 .f32) :: L))) := by
  rw [row_store v f L inb hoff u, hu]
  have e1 := readAt_rows (N := 64) (b := 1) v (v.writes (Elt F) f L) inb hoff
  have e2 := readAt_rows (N := 4096) (b := 1) v3 X3 inbE hoffE
  have := hΦ n _ hn h
  unfold rowAdd at this
  rw [← e1, ← e2] at this
  exact this

variable (c : Dev nD) (i : grid1.Coords) (M1 : Memref sig .tc .smem S1x1x4096 .i32) (h1 : M1.IsWhole) (M2 : Memref sig .tc .smem S1x64 .i32) (h2 : M2.IsWhole)
  (M3 : Memref sig .tc .vmem S4096x128 .f32) (h3 : M3.IsWhole) (M4 : Memref sig .tc .vmem S64x128 .f32) (h4 : M4.IsWhole)
  (M5 : Memref sig .tc .vmem S64x128 .f32) (h5 : M5.IsWhole) (M6 : Memref sig .tc .vmem S64x128 .f32) (h6 : M6.IsWhole)

/-- One trip of the loop over groups of eight rows. -/
theorem trip2 {ptr v25 : BitVec 32} {P H : ℕ} (hp : Affine.IsInt ptr P) (hh : Affine.IsInt (stop i ptr v25) H) (hPH : P ≤ H) (hH : H ≤ 4096)
    (hw1 : k1_chk1 i ptr v25) (k : Fin (k1_t2_loop i ptr v25).trips)
    (X1 : Bf F c M1) (X3 : Bf F c M3) (f : Bf F c M5) (hw : ∀ j, (M1.view.read (Elt F) X1 j : BitVec 32).toNat < 64)
    (Φ : ℕ → (S64x128.Idx → Elt F .f32) → Prop) (hΦ : Steps (M1.view.read (Elt F) X1) (M3.view.read (Elt F) X3) Φ)
    (h : Φ (P + 8 * k) (M5.view.read (Elt F) f)) (E : Set ℕ) :
    iprop(pt c M1 X1 ∗ pt c M3 X3 ∗ pt c M5 f) ⊢ wp frame (wpE (defs₀ (F := F)) Variants.none (c : Thread nD τ) none) E
      (k1_t2_body (F := F) i M1 h1 M2 h2 M3 h3 M4 h4 M5 h5 M6 h6 ptr v25 hw1 k ())
      (fun _ => iprop(pt c M1 X1 ∗ pt c M3 X3 ∗ ptP c M5 (Φ (P + 8 * (k + 1))))) := by
  have hw2 : ∀ j, k1_chk2 (M1.view.read (Elt F) X1 j) := fun j => inb_seg (hw j)
  have hw3 : ∀ j, k1_chk3 (M1.view.read (Elt F) X1 j) := fun j => inb_seg (hw j)
  have hw4 : ∀ j, k1_chk4 (M1.view.read (Elt F) X1 j) := fun j => inb_seg (hw j)
  have hw5 : ∀ j, k1_chk5 (M1.view.read (Elt F) X1 j) := fun j => inb_seg (hw j)
  have hw6 : ∀ j, k1_chk6 (M1.view.read (Elt F) X1 j) := fun j => inb_seg (hw j)
  have hw7 : ∀ j, k1_chk7 (M1.view.read (Elt F) X1 j) := fun j => inb_seg (hw j)
  have hw8 : ∀ j, k1_chk8 (M1.view.read (Elt F) X1 j) := fun j => inb_seg (hw j)
  have hw9 : ∀ j, k1_chk9 (M1.view.read (Elt F) X1 j) := fun j => inb_seg (hw j)
  have hr (j : ℕ) (hj : j < 8) := groupRow_toNat hp hh hPH hH k.2 hj
  have hl (j : ℕ) (hj : j < 8) := lt_of_lt_of_le (groupRow_isInt hp hh hPH hH k.2 hj).2 hH
  unfold k1_t2_body
  iintro ⟨H1, H3, H5⟩
  sl_exec
  sl_step
  isplitl [H1]; · iexact H1
  isplitl [H3]; · iexact H3
  iexists _
  isplitl [H5]; · iexact H5
  ipureintro
  refine put hΦ (n := P + 8 * k + 7) (hl 7 (by norm_num)) (off_label M1.view X1 (hr 7 (by norm_num)) _ _) (off_row (hr 7 (by norm_num))) rfl ?_
  refine put hΦ (n := P + 8 * k + 6) (hl 6 (by norm_num)) (off_label M1.view X1 (hr 6 (by norm_num)) _ _) (off_row (hr 6 (by norm_num))) rfl ?_
  refine put hΦ (n := P + 8 * k + 5) (hl 5 (by norm_num)) (off_label M1.view X1 (hr 5 (by norm_num)) _ _) (off_row (hr 5 (by norm_num))) rfl ?_
  refine put hΦ (n := P + 8 * k + 4) (hl 4 (by norm_num)) (off_label M1.view X1 (hr 4 (by norm_num)) _ _) (off_row (hr 4 (by norm_num))) rfl ?_
  refine put hΦ (n := P + 8 * k + 3) (hl 3 (by norm_num)) (off_label M1.view X1 (hr 3 (by norm_num)) _ _) (off_row (hr 3 (by norm_num))) rfl ?_
  refine put hΦ (n := P + 8 * k + 2) (hl 2 (by norm_num)) (off_label M1.view X1 (hr 2 (by norm_num)) _ _) (off_row (hr 2 (by norm_num))) rfl ?_
  refine put hΦ (n := P + 8 * k + 1) (hl 1 (by norm_num)) (off_label M1.view X1 (hr 1 (by norm_num)) _ _) (off_row (hr 1 (by norm_num))) rfl ?_
  refine put hΦ (n := P + 8 * k + 0) (hl 0 (by norm_num)) (off_label M1.view X1 (hr 0 (by norm_num)) _ _) (off_row (hr 0 (by norm_num))) rfl h

/-- One trip of the loop over single rows. -/
theorem trip4 {ptr v25 : BitVec 32} {P H : ℕ} (hp : Affine.IsInt ptr P) (hh : Affine.IsInt (stop i ptr v25) H) (hPH : P ≤ H) (hH : H ≤ 4096)
    (hw1 : k1_chk1 i ptr v25) (k : Fin (k1_t4_loop i ptr v25).trips) (acc : BitVec 32)
    (X1 : Bf F c M1) (X3 : Bf F c M3) (f : Bf F c M5) (hw : ∀ j, (M1.view.read (Elt F) X1 j : BitVec 32).toNat < 64)
    (Φ : ℕ → (S64x128.Idx → Elt F .f32) → Prop) (hΦ : Steps (M1.view.read (Elt F) X1) (M3.view.read (Elt F) X3) Φ)
    (h : Φ (P + 8 * ((H - P) / 8) + k) (M5.view.read (Elt F) f)) (E : Set ℕ) :
    iprop(pt c M1 X1 ∗ pt c M3 X3 ∗ pt c M5 f) ⊢ wp frame (wpE (defs₀ (F := F)) Variants.none (c : Thread nD τ) none) E
      (k1_t4_body (F := F) i M1 h1 M2 h2 M3 h3 M4 h4 M5 h5 M6 h6 ptr v25 hw1 k acc)
      (fun _ => iprop(pt c M1 X1 ∗ pt c M3 X3 ∗ ptP c M5 (Φ (P + 8 * ((H - P) / 8) + (k + 1))))) := by
  have hw18 : ∀ j, k1_chk18 (M1.view.read (Elt F) X1 j) := fun j => inb_seg (hw j)
  have hr := singleRow_toNat hp hh hPH hH k.2
  have hl := lt_of_lt_of_le (singleRow_isInt hp hh hPH hH k.2).2 hH
  unfold k1_t4_body
  iintro ⟨H1, H3, H5⟩
  sl_exec
  sl_step
  isplitl [H1]; · iexact H1
  isplitl [H3]; · iexact H3
  iexists _
  isplitl [H5]; · iexact H5
  ipureintro
  exact put hΦ (n := P + 8 * ((H - P) / 8) + k) hl (off_label M1.view X1 hr _ _) (off_row hr) rfl h

/-- One trip of the last pass's loop over groups of eight rows. -/
theorem trip6 {ptr : BitVec 32} {P : ℕ} (hp : Affine.IsInt ptr P) (hP : P ≤ 4096)
    (hw21 : k1_chk21 ptr) (k : Fin (k1_t6_loop ptr).trips)
    (X1 : Bf F c M1) (X3 : Bf F c M3) (f : Bf F c M5) (hw : ∀ j, (M1.view.read (Elt F) X1 j : BitVec 32).toNat < 64)
    (Φ : ℕ → (S64x128.Idx → Elt F .f32) → Prop) (hΦ : Steps (M1.view.read (Elt F) X1) (M3.view.read (Elt F) X3) Φ)
    (h : Φ (P + 8 * k) (M5.view.read (Elt F) f)) (E : Set ℕ) :
    iprop(pt c M1 X1 ∗ pt c M3 X3 ∗ pt c M5 f) ⊢ wp frame (wpE (defs₀ (F := F)) Variants.none (c : Thread nD τ) none) E
      (k1_t6_body (F := F) i M1 h1 M2 h2 M3 h3 M4 h4 M5 h5 M6 h6 ptr hw21 k ())
      (fun _ => iprop(pt c M1 X1 ∗ pt c M3 X3 ∗ ptP c M5 (Φ (P + 8 * (k + 1))))) := by
  have hw22 : ∀ j, k1_chk22 (M1.view.read (Elt F) X1 j) := fun j => inb_seg (hw j)
  have hw23 : ∀ j, k1_chk23 (M1.view.read (Elt F) X1 j) := fun j => inb_seg (hw j)
  have hw24 : ∀ j, k1_chk24 (M1.view.read (Elt F) X1 j) := fun j => inb_seg (hw j)
  have hw25 : ∀ j, k1_chk25 (M1.view.read (Elt F) X1 j) := fun j => inb_seg (hw j)
  have hw26 : ∀ j, k1_chk26 (M1.view.read (Elt F) X1 j) := fun j => inb_seg (hw j)
  have hw27 : ∀ j, k1_chk27 (M1.view.read (Elt F) X1 j) := fun j => inb_seg (hw j)
  have hw28 : ∀ j, k1_chk28 (M1.view.read (Elt F) X1 j) := fun j => inb_seg (hw j)
  have hw29 : ∀ j, k1_chk29 (M1.view.read (Elt F) X1 j) := fun j => inb_seg (hw j)
  have hh : Affine.IsInt 4096#32 ((4096 : ℕ) : ℤ) := isInt_lit 4096 (by norm_num)
  have hr (j : ℕ) (hj : j < 8) := groupRow_toNat hp hh hP le_rfl k.2 hj
  have hl (j : ℕ) (hj : j < 8) := (groupRow_isInt hp hh hP le_rfl k.2 hj).2
  unfold k1_t6_body
  iintro ⟨H1, H3, H5⟩
  sl_exec
  sl_step
  isplitl [H1]; · iexact H1
  isplitl [H3]; · iexact H3
  iexists _
  isplitl [H5]; · iexact H5
  ipureintro
  refine put hΦ (n := P + 8 * k + 7) (hl 7 (by norm_num)) (off_label M1.view X1 (hr 7 (by norm_num)) _ _) (off_row (hr 7 (by norm_num))) rfl ?_
  refine put hΦ (n := P + 8 * k + 6) (hl 6 (by norm_num)) (off_label M1.view X1 (hr 6 (by norm_num)) _ _) (off_row (hr 6 (by norm_num))) rfl ?_
  refine put hΦ (n := P + 8 * k + 5) (hl 5 (by norm_num)) (off_label M1.view X1 (hr 5 (by norm_num)) _ _) (off_row (hr 5 (by norm_num))) rfl ?_
  refine put hΦ (n := P + 8 * k + 4) (hl 4 (by norm_num)) (off_label M1.view X1 (hr 4 (by norm_num)) _ _) (off_row (hr 4 (by norm_num))) rfl ?_
  refine put hΦ (n := P + 8 * k + 3) (hl 3 (by norm_num)) (off_label M1.view X1 (hr 3 (by norm_num)) _ _) (off_row (hr 3 (by norm_num))) rfl ?_
  refine put hΦ (n := P + 8 * k + 2) (hl 2 (by norm_num)) (off_label M1.view X1 (hr 2 (by norm_num)) _ _) (off_row (hr 2 (by norm_num))) rfl ?_
  refine put hΦ (n := P + 8 * k + 1) (hl 1 (by norm_num)) (off_label M1.view X1 (hr 1 (by norm_num)) _ _) (off_row (hr 1 (by norm_num))) rfl ?_
  refine put hΦ (n := P + 8 * k + 0) (hl 0 (by norm_num)) (off_label M1.view X1 (hr 0 (by norm_num)) _ _) (off_row (hr 0 (by norm_num))) rfl h

/-- One trip of the last pass's loop over single rows. -/
theorem trip8 {ptr : BitVec 32} {P : ℕ} (hp : Affine.IsInt ptr P) (hP : P ≤ 4096)
    (hw21 : k1_chk21 ptr) (k : Fin (k1_t8_loop ptr).trips) (acc : BitVec 32)
    (X1 : Bf F c M1) (X3 : Bf F c M3) (f : Bf F c M5) (hw : ∀ j, (M1.view.read (Elt F) X1 j : BitVec 32).toNat < 64)
    (Φ : ℕ → (S64x128.Idx → Elt F .f32) → Prop) (hΦ : Steps (M1.view.read (Elt F) X1) (M3.view.read (Elt F) X3) Φ)
    (h : Φ (P + 8 * ((4096 - P) / 8) + k) (M5.view.read (Elt F) f)) (E : Set ℕ) :
    iprop(pt c M1 X1 ∗ pt c M3 X3 ∗ pt c M5 f) ⊢ wp frame (wpE (defs₀ (F := F)) Variants.none (c : Thread nD τ) none) E
      (k1_t8_body (F := F) i M1 h1 M2 h2 M3 h3 M4 h4 M5 h5 M6 h6 ptr hw21 k acc)
      (fun _ => iprop(pt c M1 X1 ∗ pt c M3 X3 ∗ ptP c M5 (Φ (P + 8 * ((4096 - P) / 8) + (k + 1))))) := by
  have hw38 : ∀ j, k1_chk38 (M1.view.read (Elt F) X1 j) := fun j => inb_seg (hw j)
  have hh : Affine.IsInt 4096#32 ((4096 : ℕ) : ℤ) := isInt_lit 4096 (by norm_num)
  have hr := singleRow_toNat hp hh hP le_rfl k.2
  have hl := (singleRow_isInt hp hh hP le_rfl k.2).2
  unfold k1_t8_body
  iintro ⟨H1, H3, H5⟩
  sl_exec
  sl_step
  isplitl [H1]; · iexact H1
  isplitl [H3]; · iexact H3
  iexists _
  isplitl [H5]; · iexact H5
  ipureintro
  exact put hΦ (n := P + 8 * ((4096 - P) / 8) + k) hl (off_label M1.view X1 hr _ _) (off_row hr) rfl h

end Cert.Proof.Scatter
-- ==== Proof.ScatterBody.lean ====
module

public import proofs.«01_k».proof.Proof.ScatterTrips
public import Idealize.ShloMosaic.Lib.LoopRemainder

/-! What one block of the scatter kernel leaves. -/

@[expose] public section

set_option maxRecDepth 16384

noncomputable section

namespace Cert.Proof.Scatter

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-- `Φ` holds of the partial sums after `n` rows. -/
def Holds (Φ : ℕ → (S64x128.Idx → Elt F .f32) → Prop) (n : ℕ) (p : S64x128.Idx → Elt F .f32) : Prop := Φ n p

/-- The word `ptr` is the row `P` of the block, or the block's end. -/
def At (ptr : BitVec 32) (P : ℕ) : Prop := Affine.IsInt ptr P ∧ P ≤ 4096

variable (c : Dev nD) (i : grid1.Coords) (M1 : Memref sig .tc .smem S1x1x4096 .i32) (h1 : M1.IsWhole) (M2 : Memref sig .tc .smem S1x64 .i32) (h2 : M2.IsWhole)
  (M3 : Memref sig .tc .vmem S4096x128 .f32) (h3 : M3.IsWhole) (M4 : Memref sig .tc .vmem S64x128 .f32) (h4 : M4.IsWhole)
  (M5 : Memref sig .tc .vmem S64x128 .f32) (h5 : M5.IsWhole) (M6 : Memref sig .tc .vmem S64x128 .f32) (h6 : M6.IsWhole)

set_option warn.classDefReducibility false in
/-- The loop over groups of eight rows, by its invariant. -/
@[sl_loop] def loopInv2 (E : Set ℕ) (ptr v25 : BitVec 32) (hw1 : k1_chk1 i ptr v25) (X1 : Bf F c M1) (X3 : Bf F c M3)
    (Φ : ℕ → (S64x128.Idx → Elt F .f32) → Prop) (P : ℕ) (hp : At ptr P)
    (hw : ∀ j, (M1.view.read (Elt F) X1 j : BitVec 32).toNat < 64)
    (hΦ : Steps (M1.view.read (Elt F) X1) (M3.view.read (Elt F) X3) Φ) :
    LoopInvTy_k1_t2 (F := F) Unit ℕ UU ℕ Variants.none c none E i M1 h1 M2 h2 M3 h3 M4 h4 M5 h5 M6 h6 ptr v25 hw1 where
  inv k _ := iprop(pt c M1 X1 ∗ pt c M3 X3 ∗ ptP c M5 (Holds Φ (P + 8 * k)))
  step k _ := by
    obtain ⟨H, hh, hPH, hH⟩ := stop_isInt (i := i) (v := v25) hp.1 hp.2
    iintro ⟨H1, H3, ⟨%f5, H5, %hf5⟩⟩
    iapply (trip2 c i M1 h1 M2 h2 M3 h3 M4 h4 M5 h5 M6 h6 hp.1 hh hPH hH hw1 k X1 X3 f5 hw Φ hΦ hf5 E)
    isplitl [H1]; · iexact H1
    isplitl [H3]; · iexact H3
    iexact H5

set_option warn.classDefReducibility false in
/-- The loop over single rows, by its invariant. -/
@[sl_loop] def loopInv4 (E : Set ℕ) (ptr v25 z : BitVec 32) (hw1 : k1_chk1 i ptr v25) (X1 : Bf F c M1) (X3 : Bf F c M3)
    (Φ : ℕ → (S64x128.Idx → Elt F .f32) → Prop) (P : ℕ) (hp : At ptr P)
    (hw : ∀ j, (M1.view.read (Elt F) X1 j : BitVec 32).toNat < 64)
    (hΦ : Steps (M1.view.read (Elt F) X1) (M3.view.read (Elt F) X3) Φ) :
    LoopInvTy_k1_t4 (F := F) Unit ℕ UU ℕ Variants.none c none E i M1 h1 M2 h2 M3 h3 M4 h4 M5 h5 M6 h6 ptr v25 hw1 z where
  inv k _ := iprop(pt c M1 X1 ∗ pt c M3 X3 ∗ ptP c M5 (Holds Φ (P + 8 * (k1_t2_loop i ptr v25).trips + k)))
  step k acc := by
    obtain ⟨H, hh, hPH, hH⟩ := stop_isInt (i := i) (v := v25) hp.1 hp.2
    rw [show (k1_t2_loop i ptr v25).trips = (H - P) / 8 from group_trips hp.1 hh hPH hH]
    iintro ⟨H1, H3, ⟨%f5, H5, %hf5⟩⟩
    iapply (trip4 c i M1 h1 M2 h2 M3 h3 M4 h4 M5 h5 M6 h6 hp.1 hh hPH hH hw1 k acc X1 X3 f5 hw Φ hΦ hf5 E)
    isplitl [H1]; · iexact H1
    isplitl [H3]; · iexact H3
    iexact H5

/-- The total with the partial sum of row `w` added to it. -/
def flushT (w : ℕ) (t p : S64x128.Idx → Elt F .f32) : S64x128.Idx → Elt F .f32 :=
  fun y => if (y 0).val = w then k1_pay7 (rowsAt 1 t w) (rowsAt 1 p w) (ix2 0 (y 1)) else t y

/-- The partial sums with row `w` cleared. -/
def flushP (w : ℕ) (p : S64x128.Idx → Elt F .f32) : S64x128.Idx → Elt F .f32 :=
  fun y => if (y 0).val = w then k1_pay8 (F := F) (ix2 0 (y 1)) else p y

/-- What holds of the total and the partial sums after `n` rows is carried on by one more row, and kept when a partial
    sum moves into the total. -/
structure Keeps (x1 : S1x1x4096.Idx → BitVec 32) (x3 : S4096x128.Idx → Elt F .f32)
    (Ψ : ℕ → (S64x128.Idx → Elt F .f32) → (S64x128.Idx → Elt F .f32) → Prop) : Prop where
  row : ∀ t, Steps x1 x3 (fun n p => Ψ n t p)
  flush : ∀ n t p w, Ψ n t p → Ψ n (flushT w t p) (flushP w p)

/-- The two stores of a flush. -/
theorem flushed {x1 : S1x1x4096.Idx → BitVec 32} {x3 : S4096x128.Idx → Elt F .f32}
    {Ψ : ℕ → (S64x128.Idx → Elt F .f32) → (S64x128.Idx → Elt F .f32) → Prop} (hΨ : Keeps x1 x3 Ψ) {κ κ' : Kind}
    {v6 : View sig κ .vmem S64x128 .f32} {v5 : View sig κ' .vmem S64x128 .f32} {f6 : v6.ty.Contents (Elt F)} {f5 : v5.ty.Contents (Elt F)}
    {n w : ℕ} {off : Fin 2 → ℕ} {inb : ∀ a, off a + S1x128.size a ≤ S64x128.size a} (hoff : off = ![w, 0]) {u6 : Vec F S1x128 .f32}
    (hu : u6 = k1_pay7 (v6.readAt (Elt F) (Rect.unit (s := S64x128) off S1x128.size inb).toLoadRect f6)
      (v5.readAt (Elt F) (Rect.unit (s := S64x128) off S1x128.size inb).toLoadRect f5))
    (h : Ψ n (v6.read (Elt F) f6) (v5.read (Elt F) f5)) :
    Ψ n (v6.read (Elt F) (v6.writes (Elt F) f6 [(⟨Rect.unit (s := S64x128) off S1x128.size inb, u6⟩ : View.Piece (Elt F) S64x128 .f32)]))
      (v5.read (Elt F) (v5.writes (Elt F) f5 [(⟨Rect.unit (s := S64x128) off S1x128.size inb, k1_pay8 (F := F)⟩ : View.Piece (Elt F) S64x128 .f32)])) := by
  rw [row_store v6 f6 [] inb hoff u6, row_store v5 f5 [] inb hoff, hu]
  have e6 := readAt_rows (N := 64) (b := 1) v6 f6 inb hoff
  have e5 := readAt_rows (N := 64) (b := 1) v5 f5 inb hoff
  have := hΨ.flush n _ _ w h
  unfold flushT at this
  rw [← e6, ← e5] at this
  exact this

/-- Two values chosen by the same condition satisfy a relation that both choices satisfy. -/
theorem dite_pair {C : Prop} [Decidable C] {α β : Type} {R : α → β → Prop} {a : C → α} {b : C → β} {a' : α} {b' : β}
    (h : ∀ hc, R (a hc) (b hc)) (h' : R a' b') : R (if hc : C then a hc else a') (if hc : C then b hc else b') := by
  by_cases hc : C
  · rw [dif_pos hc, dif_pos hc]; exact h hc
  · rw [dif_neg hc, dif_neg hc]; exact h'

/-- After the two loops of a pass the rows up to its end are done. -/
theorem after {i : grid1.Coords} {ptr v : BitVec 32} {P : ℕ} (hp : At ptr P) {Φ : ℕ → (S64x128.Idx → Elt F .f32) → Prop}
    {p : S64x128.Idx → Elt F .f32} (h : Holds Φ (P + 8 * (k1_t2_loop i ptr v).trips + (k1_t4_loop i ptr v).trips) p) :
    ∃ H : ℕ, At (stop i ptr v) H ∧ Φ H p := by
  obtain ⟨H, hh, hPH, hH⟩ := stop_isInt (i := i) (v := v) hp.1 hp.2
  rw [show (k1_t2_loop i ptr v).trips = (H - P) / 8 from group_trips hp.1 hh hPH hH,
    show (k1_t4_loop i ptr v).trips = (H - P) % 8 from tail_trips hp.1 hh hPH hH,
    show P + 8 * ((H - P) / 8) + (H - P) % 8 = H by omega] at h
  exact ⟨H, ⟨hh, hH⟩, h⟩

/-- After the last pass every row is done. -/
theorem after_last {ptr : BitVec 32} {P : ℕ} (hp : At ptr P) {Φ : ℕ → (S64x128.Idx → Elt F .f32) → Prop}
    {p : S64x128.Idx → Elt F .f32} (h : Holds Φ (P + 8 * (k1_t6_loop ptr).trips + (k1_t8_loop ptr).trips) p) : Φ 4096 p := by
  have hh : Affine.IsInt 4096#32 ((4096 : ℕ) : ℤ) := isInt_lit 4096 (by norm_num)
  have hP := hp.2
  rw [show (k1_t6_loop ptr).trips = (4096 - P) / 8 from group_trips hp.1 hh hp.2 le_rfl,
    show (k1_t8_loop ptr).trips = (4096 - P) % 8 from tail_trips hp.1 hh hp.2 le_rfl,
    show P + 8 * ((4096 - P) / 8) + (4096 - P) % 8 = 4096 by omega] at h
  exact h

set_option maxHeartbeats 2000000 in
/-- One trip over the events: the rows up to the event's, and the flush of the row it names. -/
theorem trip1 (ptr : BitVec 32) (P : ℕ) (hp : At ptr P) (k : Fin k1_t1_loop.trips)
    (X1 : Bf F c M1) (X2 : Bf F c M2) (X3 : Bf F c M3) (f5 : Bf F c M5) (f6 : Bf F c M6) (hw : ∀ j, (M1.view.read (Elt F) X1 j : BitVec 32).toNat < 64)
    (Ψ : ℕ → (S64x128.Idx → Elt F .f32) → (S64x128.Idx → Elt F .f32) → Prop)
    (hΨ : Keeps (M1.view.read (Elt F) X1) (M3.view.read (Elt F) X3) Ψ)
    (h : Ψ P (M6.view.read (Elt F) f6) (M5.view.read (Elt F) f5)) (E : Set ℕ) :
    iprop(pt c M1 X1 ∗ pt c M2 X2 ∗ pt c M3 X3 ∗ pt c M5 f5 ∗ pt c M6 f6) ⊢ wp frame (wpE (defs₀ (F := F)) Variants.none (c : Thread nD τ) none) E
      (k1_t1_body (F := F) i M1 h1 M2 h2 M3 h3 M4 h4 M5 h5 M6 h6 (BitVec.ofNat 32 (i 0).val) k ptr)
      (fun r => iprop(∃ P' : ℕ, ⌜At r P'⌝ ∗ pt c M1 X1 ∗ pt c M2 X2 ∗ pt c M3 X3
        ∗ ∃ f5 : Bf F c M5, ∃ f6 : Bf F c M6, pt c M5 f5 ∗ pt c M6 f6 ∗ ⌜Ψ P' (M6.view.read (Elt F) f6) (M5.view.read (Elt F) f5)⌝)) := by
  have hΦ : Steps (M1.view.read (Elt F) X1) (M3.view.read (Elt F) X3) (fun n p => Ψ n (M6.view.read (Elt F) f6) p) := hΨ.row _
  have h0 : Holds (fun n p => Ψ n (M6.view.read (Elt F) f6) p) P (M5.view.read (Elt F) f5) := h
  have hchk1 : ∀ v, k1_chk1 i ptr v := chk1 i hp.1 hp.2
  have hchk20 : ∀ v j, k1_chk20 i ptr v (M1.view.read (Elt F) X1 j) := fun _ j _ => inb_seg (hw j)
  unfold k1_t1_body
  iintro ⟨H1, H2, H3, H5, H6⟩
  sl_exec
  sl_step
  obtain ⟨H, hH, hL⟩ := after hp hL8
  iexists H
  isplitr; · ipureintro; exact hH
  isplitl [H1]; · iexact H1
  isplitl [H2]; · iexact H2
  isplitl [H3]; · iexact H3
  iexists _
  iexists _
  isplitl [H5]; · iexact H5
  isplitl [H6]; · iexact H6
  ipureintro
  exact dite_pair (R := fun a b => Ψ H (M6.view.read (Elt F) a) (M5.view.read (Elt F) b)) (fun _ => flushed hΨ rfl rfl hL) hL

end Cert.Proof.Scatter
-- ==== Proof.ScatterBlock.lean ====
module

public import proofs.«01_k».proof.Proof.ScatterBody

/-! What one grid point of the scatter kernel leaves. -/

@[expose] public section

set_option maxRecDepth 16384

noncomputable section

namespace Cert.Proof.Scatter

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (c : Dev nD) (i : grid1.Coords) (M1 : Memref sig .tc .smem S1x1x4096 .i32) (h1 : M1.IsWhole) (M2 : Memref sig .tc .smem S1x64 .i32) (h2 : M2.IsWhole)
  (M3 : Memref sig .tc .vmem S4096x128 .f32) (h3 : M3.IsWhole) (M4 : Memref sig .tc .vmem S64x128 .f32) (h4 : M4.IsWhole)
  (M5 : Memref sig .tc .vmem S64x128 .f32) (h5 : M5.IsWhole) (M6 : Memref sig .tc .vmem S64x128 .f32) (h6 : M6.IsWhole)

set_option warn.classDefReducibility false in
/-- The loop over the events, by its invariant. -/
@[sl_loop] def loopInv1 (E : Set ℕ) (X1 : Bf F c M1) (X2 : Bf F c M2) (X3 : Bf F c M3) (z : BitVec 32)
    (Ψ : ℕ → (S64x128.Idx → Elt F .f32) → (S64x128.Idx → Elt F .f32) → Prop)
    (hw : ∀ j, (M1.view.read (Elt F) X1 j : BitVec 32).toNat < 64)
    (hΨ : Keeps (M1.view.read (Elt F) X1) (M3.view.read (Elt F) X3) Ψ) :
    LoopInvTy_k1_t1 (F := F) Unit ℕ UU ℕ Variants.none c none E i M1 h1 M2 h2 M3 h3 M4 h4 M5 h5 M6 h6 (BitVec.ofNat 32 (i 0).val) z where
  inv k acc := iprop(∃ P : ℕ, ∃ f5 : Bf F c M5, ∃ f6 : Bf F c M6, pt c M1 X1 ∗ pt c M2 X2 ∗ pt c M3 X3 ∗ pt c M5 f5 ∗ pt c M6 f6
    ∗ ⌜At acc P⌝ ∗ ⌜k1_chk21 acc⌝ ∗ ⌜Steps (M1.view.read (Elt F) X1) (M3.view.read (Elt F) X3) (fun n p => Ψ n (M6.view.read (Elt F) f6) p)⌝
    ∗ ⌜Holds (fun n p => Ψ n (M6.view.read (Elt F) f6) p) P (M5.view.read (Elt F) f5)⌝)
  step k acc := by
    iintro ⟨%P, %f5, %f6, H1, H2, H3, H5, H6, %hp, -, -, %hf⟩
    iapply (wp_wand_r Idealize.ShloMosaic.frame (wpE (defs₀ (F := F)) Variants.none (c : Thread nD τ) none) E)
    isplitl [H1 H2 H3 H5 H6]
    · iapply (trip1 c i M1 h1 M2 h2 M3 h3 M4 h4 M5 h5 M6 h6 acc P hp k X1 X2 X3 f5 f6 hw Ψ hΨ hf E)
      isplitl [H1]; · iexact H1
      isplitl [H2]; · iexact H2
      isplitl [H3]; · iexact H3
      isplitl [H5]; · iexact H5
      iexact H6
    · iintro %r ⟨%P', %hp', H1, H2, H3, %g5, %g6, H5, H6, %hg⟩
      iexists P'
      iexists g5
      iexists g6
      isplitl [H1]; · iexact H1
      isplitl [H2]; · iexact H2
      isplitl [H3]; · iexact H3
      isplitl [H5]; · iexact H5
      isplitl [H6]; · iexact H6
      isplitr; · ipureintro; exact hp'
      isplitr; · ipureintro; exact chk21 hp'.1 hp'.2
      isplitr; · ipureintro; exact hΨ.row _
      ipureintro; exact hg

set_option warn.classDefReducibility false in
/-- The last pass's loop over groups of eight rows, by its invariant. -/
@[sl_loop] def loopInv6 (E : Set ℕ) (ptr : BitVec 32) (hw21 : k1_chk21 ptr) (X1 : Bf F c M1) (X3 : Bf F c M3)
    (Φ : ℕ → (S64x128.Idx → Elt F .f32) → Prop) (P : ℕ) (hp : At ptr P)
    (hw : ∀ j, (M1.view.read (Elt F) X1 j : BitVec 32).toNat < 64)
    (hΦ : Steps (M1.view.read (Elt F) X1) (M3.view.read (Elt F) X3) Φ) :
    LoopInvTy_k1_t6 (F := F) Unit ℕ UU ℕ Variants.none c none E i M1 h1 M2 h2 M3 h3 M4 h4 M5 h5 M6 h6 ptr hw21 where
  inv k _ := iprop(pt c M1 X1 ∗ pt c M3 X3 ∗ ptP c M5 (Holds Φ (P + 8 * k)))
  step k _ := by
    iintro ⟨H1, H3, ⟨%f5, H5, %hf5⟩⟩
    iapply (trip6 c i M1 h1 M2 h2 M3 h3 M4 h4 M5 h5 M6 h6 hp.1 hp.2 hw21 k X1 X3 f5 hw Φ hΦ hf5 E)
    isplitl [H1]; · iexact H1
    isplitl [H3]; · iexact H3
    iexact H5

/-- What is kept by the last pass's loop over single rows. -/
def last8 (ptr : BitVec 32) (X1 : Bf F c M1) (X3 : Bf F c M3) (Φ : ℕ → (S64x128.Idx → Elt F .f32) → Prop) (P k : ℕ) : sProp 𝕄 :=
  iprop(pt c M1 X1 ∗ pt c M3 X3 ∗ ptP c M5 (Holds Φ (P + 8 * (k1_t6_loop ptr).trips + k)))

/-- What the scratch holds when the loop over the events starts. -/
theorem start {M5 M6 : Memref sig .tc .vmem S64x128 .f32} {c : Dev nD} (Ψ : ℕ → (S64x128.Idx → Elt F .f32) → (S64x128.Idx → Elt F .f32) → Prop)
    (f5 : Bf F c M5) (f6 : Bf F c M6)
    (hz : (i 0).val = 0 → Ψ 0 k1_pay2 k1_pay1) (hn : (i 0).val ≠ 0 → Ψ 0 (M6.view.read (Elt F) f6) (M5.view.read (Elt F) f5)) :
    Holds (fun n p => Ψ n (M6.view.read (Elt F) (if hc : Scalar.cmpi .ne (Scalar.extui (Scalar.cmpi .eq (BitVec.ofNat 32 (i 0).val) 0#32)) 0#32 = 1#1 then
        M6.view.writes (Elt F) f6 [⟨Rect.unit ![0, 0] S64x128.size inb_S64x128_S64x128_0_0, k1_pay2⟩] else f6)) p) 0
      (M5.view.read (Elt F) (if hc : Scalar.cmpi .ne (Scalar.extui (Scalar.cmpi .eq (BitVec.ofNat 32 (i 0).val) 0#32)) 0#32 = 1#1 then
        M5.view.writes (Elt F) f5 [⟨Rect.unit ![0, 0] S64x128.size inb_S64x128_S64x128_0_0, k1_pay1⟩] else f5)) := by
  have hc : (Scalar.cmpi .ne (Scalar.extui (Scalar.cmpi .eq (BitVec.ofNat 32 (i 0).val) 0#32)) 0#32 = 1#1) ↔ (i 0).val = 0 := by
    generalize (i 0) = a
    revert a
    decide
  unfold Holds
  by_cases h : (i 0).val = 0
  · rw [dif_pos (hc.mpr h), dif_pos (hc.mpr h), View.read_writes_full M6.view _ inb_S64x128_S64x128_0_0 _ [], View.read_writes_full M5.view _ inb_S64x128_S64x128_0_0 _ []]
    exact hz h
  · rw [dif_neg (mt hc.mp h), dif_neg (mt hc.mp h)]
    exact hn h

/-- The remainder of the last loop over single rows runs no trip. -/
theorem rest9_trips {ptr : BitVec 32} {P : ℕ} (hp : At ptr P) : (k1_t9_loop ptr).trips = 0 :=
  tailRest_trips hp.1 (isInt_lit 4096 (by norm_num)) hp.2 le_rfl

set_option maxHeartbeats 1000000 in
/-- One grid point: the first clears the scratch, every one adds its rows, the last writes the sums. -/
theorem body (X1 : Bf F c M1) (X2 : Bf F c M2) (X3 : Bf F c M3) (f4 : Bf F c M4) (f5 : Bf F c M5) (f6 : Bf F c M6)
    (hw : ∀ j, (M1.view.read (Elt F) X1 j : BitVec 32).toNat < 64)
    (Ψ : ℕ → (S64x128.Idx → Elt F .f32) → (S64x128.Idx → Elt F .f32) → Prop)
    (hΨ : Keeps (M1.view.read (Elt F) X1) (M3.view.read (Elt F) X3) Ψ)
    (hz : (i 0).val = 0 → Ψ 0 k1_pay2 k1_pay1) (hn : (i 0).val ≠ 0 → Ψ 0 (M6.view.read (Elt F) f6) (M5.view.read (Elt F) f5)) (E : Set ℕ) :
    iprop(pt c M1 X1 ∗ pt c M2 X2 ∗ pt c M3 X3 ∗ pt c M4 f4 ∗ pt c M5 f5 ∗ pt c M6 f6) ⊢ wp frame (wpE (defs₀ (F := F)) Variants.none (c : Thread nD τ) none) E
      (cc1__scatter_kernel (F := F) i M1 h1 M2 h2 M3 h3 M4 h4 M5 h5 M6 h6)
      (fun _ => iprop(pt c M1 X1 ∗ pt c M2 X2 ∗ pt c M3 X3 ∗ ∃ g4 : Bf F c M4, ∃ g5 : Bf F c M5, ∃ g6 : Bf F c M6,
        pt c M4 g4 ∗ pt c M5 g5 ∗ pt c M6 g6 ∗ ⌜Ψ 4096 (M6.view.read (Elt F) g6) (M5.view.read (Elt F) g5)⌝
        ∗ ⌜if k1_cond3 i = 1#1 then M4.view.read (Elt F) g4 = k1_pay13 (M6.view.read (Elt F) g6) (M5.view.read (Elt F) g5) else g4 = f4⌝)) := by
  iintro ⟨H1, H2, H3, H4, H5, H6⟩
  have hp0 : At 0#32 0 := ⟨isInt_lit 0 (by norm_num), by norm_num⟩
  have hc0 : k1_chk21 0#32 := chk21 hp0.1 hp0.2
  have hs0 : ∀ g6 : Bf F c M6, Steps (M1.view.read (Elt F) X1) (M3.view.read (Elt F) X3) (fun n p => Ψ n (M6.view.read (Elt F) g6) p) := fun _ => hΨ.row _
  have hs1 := hs0 (if hc : Scalar.cmpi .ne (Scalar.extui (Scalar.cmpi .eq (BitVec.ofNat 32 (i 0).val) 0#32)) 0#32 = 1#1 then
    M6.view.writes (Elt F) f6 [⟨Rect.unit ![0, 0] S64x128.size inb_S64x128_S64x128_0_0, k1_pay2⟩] else f6)
  have hh0 := start (F := F) (M5 := M5) (M6 := M6) (c := c) i Ψ f5 f6 hz hn
  sl_exec!
  clear hp0 hc0 hs1 hs0 hh0
  sl_exec!
  rename_i acc _
  have htr := rest9_trips hL5
  sl_for (fun k _ => last8 c M1 M3 M5 acc X1 X3 (fun n p => Ψ n (M6.view.read (Elt F) f6L2) p) PL0 k) $$ [H1 H3 H5]
  case region =>
    intro k a
    unfold last8
    rw [show (k1_t6_loop acc).trips = (4096 - PL0) / 8 from group_trips hL5.1 (isInt_lit 4096 (by norm_num)) hL5.2 le_rfl]
    iintro ⟨H1, H3, ⟨%f5, H5, %hf5⟩⟩
    iapply (trip8 c i M1 h1 M2 h2 M3 h3 M4 h4 M5 h5 M6 h6 hL5.1 hL5.2 hL6 k a X1 X3 f5 hw _ hL7 hf5 E)
    isplitl [H1]; · iexact H1
    isplitl [H3]; · iexact H3
    iexact H5
  · unfold last8
    isplitl [H1]; · iexact H1
    isplitl [H3]; · iexact H3
    iexists fL0
    isplitl [H5]; · iexact H5
    ipureintro
    rw [Nat.add_zero]
    exact hL3
  iintro %acc9 Hl
  sl_for0 htr
  unfold last8
  icases Hl with ⟨H1, H3, ⟨%g5, H5, %hg⟩⟩
  sl_exec!
  have hend := after_last hL5 hg
  sl_step
  isplitl [H1]; · iexact H1
  isplitl [H2]; · iexact H2
  isplitl [H3]; · iexact H3
  iexists _
  iexists g5
  iexists f6L2
  isplitl [H4]; · iexact H4
  isplitl [H5]; · iexact H5
  isplitl [H6]; · iexact H6
  isplitr; · ipureintro; exact hend
  ipureintro
  by_cases hc : k1_cond3 i = 1#1
  · rw [if_pos hc, dif_pos hc, View.read_writes_full M4.view _ inb_S64x128_S64x128_0_0 _ [], View.readAt_full, View.readAt_full]
  · rw [if_neg hc, dif_neg hc]

end Cert.Proof.Scatter
-- ==== Proof.Region.lean ====
module

public import proofs.«01_k».proof.Proof.ScatterBlock
public import proofs.«01_k».proof.Proof.Gen.KernelIdeal.Launch
public import Idealize.ShloMosaic.Lib.Pipeline.RegionsLoop
public import Idealize.ShloMosaic.Lib.Pipeline.ValueKit

/-! What the three kernel launches share: the thread state, and the proof data of a launch that is not run. -/

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ UU ℕ

/-- The contents of every buffer of the TensorCore, on each core. -/
abbrev Vals : Type := (c : Dev nD) → (b : Ref sig .tc) → Buf (Elt Ideal) ((c : Thread nD τ).loc b)

/-- Proof data for a launch that an entry does not run. -/
def idleDat {cfg : Cfg sig Λ₀} (c : Dev nD) : Dat τ (Elt Ideal) Unit ℕ UU ℕ cfg c where
  A _ := fun _ => Classical.arbitrary _
  after _ _ := fun _ => Classical.arbitrary _
  Φ _ := BI.emp
  q _ := fullShare
  owed _ := 0

/-- The TensorCore's buffers that outlive a launch. -/
def ucRefs : Finset (DevRef τ sig) := (StableHlo.tcRefs τ sig).filter fun b => ¬ b.isScoped

/-- Those buffers held at a valuation, in the two ways of writing it. -/
theorem unscopedBufs_held (c : Dev nD) (W : Valuation τ sig (Elt Ideal)) :
    (unscopedBufs c (fun b => W b) : sProp 𝕄) = StableHlo.held (c : Thread nD τ) ucRefs W := by
  unfold unscopedBufs StableHlo.held ucRefs StableHlo.tcRefs
  rw [Finset.filter_map, bigSep_map]
  rfl

/-- No core owes another anything, so no level is assigned. -/
abbrev noLev : GSem nD τ sig → Finset Unit := fun _ => ∅
/-- The level of nothing. -/
abbrev lev : GSem nD τ sig → Unit → ℕ := fun _ _ => 0

end Cert.Proof
-- ==== Proof.FinalRegion.lean ====
module

public import proofs.«01_k».proof.Proof.Region

/-! The launch of the last kernel: entered with the buffers at any contents, left with the result array written. -/

@[expose] public section

set_option maxRecDepth 16384

noncomputable section

namespace Cert.Proof.Final

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ UU ℕ

variable (V : Vals)

/-- What the kernel reads through window 0. -/
abbrev blk0 (V : Vals) (c : Dev nD) : (cfg2.win 0).block.Idx → Elt Ideal (cfg2.win 0).elt :=
  ((cfg2.win 0).blk t2_0).view.read (Elt Ideal) (V c (Pipeline.arrRef spec2 0))

/-- What the kernel reads through window 1. -/
abbrev blk1 (V : Vals) (c : Dev nD) : (cfg2.win 1).block.Idx → Elt Ideal (cfg2.win 1).elt :=
  ((cfg2.win 1).blk t2_0).view.read (Elt Ideal) (V c (Pipeline.arrRef spec2 1))

/-- What the kernel reads through window 2. -/
abbrev blk2 (V : Vals) (c : Dev nD) : (cfg2.win 2).block.Idx → Elt Ideal (cfg2.win 2).elt :=
  ((cfg2.win 2).blk t2_0).view.read (Elt Ideal) (V c (Pipeline.arrRef spec2 2))

/-- What the kernel reads through window 3. -/
abbrev blk3 (V : Vals) (c : Dev nD) : (cfg2.win 3).block.Idx → Elt Ideal (cfg2.win 3).elt :=
  ((cfg2.win 3).blk t2_0).view.read (Elt Ideal) (V c (Pipeline.arrRef spec2 3))

/-- The buffers this launch does not stage. -/
abbrev Φc (c : Dev nD) : sProp 𝕄 := Pipeline.scopedRest (Ix := Unit) (Name := ℕ) (U := UU) (Lvl := ℕ) (Val := Elt Ideal) spec2 c

/-- The proof data of one launch: the inputs as they are read, the result as the body leaves it. -/
def dat (c : Dev nD) : Dat τ (Elt Ideal) Unit ℕ UU ℕ cfg2 c where
  A w := V c (Pipeline.arrRef spec2 w)
  after w _ := match w with
    | ⟨0, _⟩ => blk0 V c
    | ⟨1, _⟩ => blk1 V c
    | ⟨2, _⟩ => blk2 V c
    | ⟨3, _⟩ => blk3 V c
    | ⟨4, _⟩ => out (F := Ideal) (blk0 V c) (blk1 V c) (blk2 V c) (blk3 V c)
  Φ _ := Φc c
  q _ := fullShare
  owed _ := 0

variable (adm : (p : Fin 3) → (pcfgs (F := Ideal) p).Adm)

/-- The proof data of an entry that runs this launch. -/
def pdats : (p : Fin 3) → (c : Dev nD) → Dat τ (Elt Ideal) Unit ℕ UU ℕ (Pipeline.pin (pcfgs (F := Ideal)) adm p) c
  | ⟨0, _⟩ => fun c => idleDat c
  | ⟨1, _⟩ => fun c => idleDat c
  | ⟨2, _⟩ => fun c => dat V c

/-- The inputs hold their blocks when the body runs. -/
theorem before_in (c : Dev nD) (w : Fin cfg2.W) (hw : (cfg2.win w).fetch t2_0 = true) (d) : (dat V c).before w t2_0 d = (dat V c).fetched w t2_0 d := by
  unfold Dat.before; rw [if_pos hw]

/-- The body's obligation. -/
theorem body_obligation (c : Dev nD) : BodyObligation (dat V c) (defs₀ (F := Ideal)) Variants.none () Set.univ := fun t => by
  obtain rfl := fin_N2 t
  rw [bigSep_W2, bigSep_W2]
  simp only [owns_whole_eq]
  rw [show (dat V c).Φ t2_0.castSucc = Φc c from rfl, show (dat V c).Φ t2_0.succ = Φc c from rfl,
    show (dat V c).owesAt () t2_0.succ = (dat V c).owesAt () t2_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before_in V c _ (by decide)] at hf0 hf1 hf2 hf3
  change _ = blk0 V c at hf0
  change _ = blk1 V c at hf1
  change _ = blk2 V c at hf2
  change _ = blk3 V c at hf3
  iapply (wp_wand_r Idealize.ShloMosaic.frame (wpE (defs₀ (F := Ideal)) Variants.none (c : Thread nD τ) none) Set.univ)
  isplitl [H0 H1 H2 H3 H4]
  · iapply (body (F := Ideal) c (stage2_0 0) (hstage2_0 0) (stage2_1 0) (hstage2_1 0) (stage2_2 0) (hstage2_2 0) (stage2_3 0) (hstage2_3 0)
      (stage2_4 0) (hstage2_4 0) f0 f1 f2 f3 f4 Set.univ)
    isplitl [H0]; · iexact H0
    isplitl [H1]; · iexact H1
    isplitl [H2]; · iexact H2
    isplitl [H3]; · iexact H3
    iexact H4
  · iintro %r ⟨H0, H1, H2, H3, %g4, H4, %hg4⟩
    rw [hf0, hf1, hf2, hf3] at hg4
    isplitl [HΦ]; · iexact HΦ
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    isplitl [H3]; · iexists f3; isplitr; swap; (· iexact H3); ipureintro; exact hf3
    iexists g4; isplitr; swap; (· iexact H4); ipureintro; exact hg4

variable (Vp : Vals)

set_option backward.isDefEq.respectTransparency.types false in
/-- The launch over the thread state: every lasting buffer at `V` before, at `Vp` after. -/
def reg (R : Dev nD → sProp 𝕄) (hout : ∀ c w, Vp c (Pipeline.arrRef spec2 w) = (dat V c).arrAt w cfg2.N)
    (hne : ∀ c (b : Ref sig .tc), b ∉ Finset.univ.image (Pipeline.arrRef spec2) → Vp c b = V c b) :
    Pipeline.RegionSeg (pcfgs (F := Ideal)) adm (pdats V adm) () defs₀ Variants.none noLev lev 2 where
  win := launch2.win.to₀
  block_pos := launch2.block_pos
  stage_whole := launch2.stage_whole
  K := PEmpty
  osem k := k.elim
  ho := Pipeline.OwnSemFacts.none _
  hbody c := (body_obligation V c).loose
  hwaits := Pipeline.hwaits_of_owed_zero _ _ _ _ noLev lev 2 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec2 c (V c) ∗ R c)
  hentry c := by
    rw [Pipeline.ownSems0_none]
    have hsplit := Pipeline.arrays_of_unscopedBufs (p := 2) (pcfgs (F := Ideal)) adm (pdats V adm) launch2.win launch2.arr_whole c
      ((pdats V adm 2 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V adm 2 c).Φ 0 = Φc c from rfl]
    iintro ⟨-, -, Hr⟩; iexact Hr
  hout c := by
    rw [Pipeline.ownSems0_none, show (pdats V adm 2 c).Φ (Fin.last _) = Φc c from rfl]
    iintro Hr
    isplitr; · iempintro
    isplitr; · iempintro
    iexact Hr
  hexit c := by
    have hjoin := Pipeline.unscopedBufs_of_arrays (p := 2) (pcfgs (F := Ideal)) adm (Ix := Unit) (Name := ℕ) (U := UU) (Lvl := ℕ) launch2.win launch2.arr_whole c
      (pdats V adm) ((pdats V adm 2 c).share_full fun _ => rfl) (V c) (Vp c) ((pdats V adm 2 c).arrAt · cfg2.N)
      (fun w => (hout c w).symm) (fun b hb => hne c b hb)
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.Proof.Final
-- ==== Proof.AssignRegion.lean ====
module

public import proofs.«01_k».proof.Proof.FinalRegion

/-! The launch of the assignment kernel: entered with the buffers at any contents, left with its four results written. -/

@[expose] public section

set_option maxRecDepth 16384

noncomputable section

namespace Cert.Proof.Assign

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ UU ℕ

variable (V : Vals)

/-- What the kernel reads through window 0. -/
abbrev blk0 (V : Vals) (c : Dev nD) : (cfg0.win 0).block.Idx → Elt Ideal (cfg0.win 0).elt :=
  ((cfg0.win 0).blk t0_0).view.read (Elt Ideal) (V c (Pipeline.arrRef spec0 0))

/-- What the kernel reads through window 1. -/
abbrev blk1 (V : Vals) (c : Dev nD) : (cfg0.win 1).block.Idx → Elt Ideal (cfg0.win 1).elt :=
  ((cfg0.win 1).blk t0_0).view.read (Elt Ideal) (V c (Pipeline.arrRef spec0 1))

/-- What the kernel reads through window 2. -/
abbrev blk2 (V : Vals) (c : Dev nD) : (cfg0.win 2).block.Idx → Elt Ideal (cfg0.win 2).elt :=
  ((cfg0.win 2).blk t0_0).view.read (Elt Ideal) (V c (Pipeline.arrRef spec0 2))

/-- What the kernel reads through window 3. -/
abbrev blk3 (V : Vals) (c : Dev nD) : (cfg0.win 3).block.Idx → Elt Ideal (cfg0.win 3).elt :=
  ((cfg0.win 3).blk t0_0).view.read (Elt Ideal) (V c (Pipeline.arrRef spec0 3))

/-- What the kernel reads through window 4. -/
abbrev blk4 (V : Vals) (c : Dev nD) : (cfg0.win 4).block.Idx → Elt Ideal (cfg0.win 4).elt :=
  ((cfg0.win 4).blk t0_0).view.read (Elt Ideal) (V c (Pipeline.arrRef spec0 4))

/-- The buffers this launch does not stage. -/
abbrev Φc (c : Dev nD) : sProp 𝕄 := Pipeline.scopedRest (Ix := Unit) (Name := ℕ) (U := UU) (Lvl := ℕ) (Val := Elt Ideal) spec0 c

/-- The proof data of one launch: the inputs as they are read, the result as the body leaves it. -/
def dat (c : Dev nD) : Dat τ (Elt Ideal) Unit ℕ UU ℕ cfg0 c where
  A w := V c (Pipeline.arrRef spec0 w)
  after w _ := match w with
    | ⟨0, _⟩ => blk0 V c
    | ⟨1, _⟩ => blk1 V c
    | ⟨2, _⟩ => blk2 V c
    | ⟨3, _⟩ => blk3 V c
    | ⟨4, _⟩ => blk4 V c
    | ⟨5, _⟩ => amin (F := Ideal) (blk0 V c) (blk1 V c) (blk2 V c) (blk3 V c)
    | ⟨6, _⟩ => cnt (F := Ideal) (blk0 V c) (blk1 V c) (blk2 V c) (blk3 V c)
    | ⟨7, _⟩ => k0_pay4 (F := Ideal) (blk1 V c) (blk2 V c) (blk3 V c)
    | ⟨8, _⟩ => ev (F := Ideal) (blk0 V c) (blk1 V c) (blk2 V c) (blk3 V c) (blk4 V c)
  Φ _ := Φc c
  q _ := fullShare
  owed _ := 0

variable (adm : (p : Fin 3) → (pcfgs (F := Ideal) p).Adm)

/-- The proof data of an entry that runs this launch. -/
def pdats : (p : Fin 3) → (c : Dev nD) → Dat τ (Elt Ideal) Unit ℕ UU ℕ (Pipeline.pin (pcfgs (F := Ideal)) adm p) c
  | ⟨0, _⟩ => fun c => dat V c
  | ⟨1, _⟩ => fun c => idleDat c
  | ⟨2, _⟩ => fun c => idleDat c

/-- The inputs hold their blocks when the body runs. -/
theorem before_in (c : Dev nD) (w : Fin cfg0.W) (hw : (cfg0.win w).fetch t0_0 = true) (d) : (dat V c).before w t0_0 d = (dat V c).fetched w t0_0 d := by
  unfold Dat.before; rw [if_pos hw]

/-- The four results after the body. -/
theorem after_out (c : Dev nD) : (dat V c).after 5 t0_0 = amin (F := Ideal) (blk0 V c) (blk1 V c) (blk2 V c) (blk3 V c)
    ∧ (dat V c).after 6 t0_0 = cnt (F := Ideal) (blk0 V c) (blk1 V c) (blk2 V c) (blk3 V c)
    ∧ (dat V c).after 7 t0_0 = k0_pay4 (F := Ideal) (blk1 V c) (blk2 V c) (blk3 V c)
    ∧ (dat V c).after 8 t0_0 = ev (F := Ideal) (blk0 V c) (blk1 V c) (blk2 V c) (blk3 V c) (blk4 V c) := by
  dsimp only [dat]
  exact ⟨rfl, rfl, rfl, rfl⟩

set_option maxHeartbeats 2000000 in
/-- The body's obligation. -/
theorem body_obligation (c : Dev nD) : BodyObligation (dat V c) (defs₀ (F := Ideal)) Variants.none () Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt () t0_0.succ = (dat V c).owesAt () t0_0.castSucc from rfl]
  unfold Φc
  rw [scopedRest0_eq]
  iintro ⟨⟨⟨%f9, H9⟩, ⟨%f10, H10⟩, HΦ⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩, ⟨%d7, %f7, -, H7⟩, ⟨%d8, %f8, -, H8⟩⟩
  rw [before_in V c _ (by decide)] at hf0 hf1 hf2 hf3 hf4
  change _ = blk0 V c at hf0
  change _ = blk1 V c at hf1
  change _ = blk2 V c at hf2
  change _ = blk3 V c at hf3
  change _ = blk4 V c at hf4
  iapply (wp_wand_r Idealize.ShloMosaic.frame (wpE (defs₀ (F := Ideal)) Variants.none (c : Thread nD τ) none) Set.univ)
  isplitl [H0 H1 H2 H3 H4 H5 H6 H7 H8 H9 H10]
  · iapply (body (F := Ideal) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0)
      (Memref.whole cc0_scratch0) (Memref.isWhole_whole _) (Memref.whole cc0_scratch1) (Memref.isWhole_whole _) f0 f1 f2 f3 f4 f5 f6 f7 f8 f9 f10 Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %r ⟨H0, H1, H2, H3, H4, ⟨%g5, H5, %hg5⟩, ⟨%g6, H6, %hg6⟩, ⟨%g7, H7, %hg7⟩, ⟨%g8, H8, %hg8⟩, ⟨%g9, H9⟩, ⟨%g10, H10⟩⟩
    rw [hf0, hf1, hf2, hf3] at hg5 hg6
    rw [hf1, hf2, hf3] at hg7
    rw [hf0, hf1, hf2, hf3, hf4] at hg8
    isplitl [HΦ H9 H10]
    · isplitl [H9]; · iexists g9; iexact H9
      isplitl [H10]; · iexists g10; iexact H10
      iexact HΦ
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    isplitl [H3]; · iexists f3; isplitr; swap; (· iexact H3); ipureintro; exact hf3
    isplitl [H4]; · iexists f4; isplitr; swap; (· iexact H4); ipureintro; exact hf4
    isplitl [H5]; · iexists g5; isplitr; swap; (· iexact H5); ipureintro; rw [(after_out V c).1]; exact hg5
    isplitl [H6]; · iexists g6; isplitr; swap; (· iexact H6); ipureintro; rw [(after_out V c).2.1]; exact hg6
    isplitl [H7]; · iexists g7; isplitr; swap; (· iexact H7); ipureintro; rw [(after_out V c).2.2.1]; exact hg7
    iexists g8; isplitr; swap; (· iexact H8); ipureintro; rw [(after_out V c).2.2.2]; exact hg8

variable (Vp : Vals)

set_option backward.isDefEq.respectTransparency.types false in
/-- The launch over the thread state: every lasting buffer at `V` before, at `Vp` after. -/
def reg (R : Dev nD → sProp 𝕄) (hout : ∀ c w, Vp c (Pipeline.arrRef spec0 w) = (dat V c).arrAt w cfg0.N)
    (hne : ∀ c (b : Ref sig .tc), b ∉ Finset.univ.image (Pipeline.arrRef spec0) → Vp c b = V c b) :
    Pipeline.RegionSeg (pcfgs (F := Ideal)) adm (pdats V adm) () defs₀ Variants.none noLev lev 0 where
  win := launch0.win.to₀
  block_pos := launch0.block_pos
  stage_whole := launch0.stage_whole
  K := PEmpty
  osem k := k.elim
  ho := Pipeline.OwnSemFacts.none _
  hbody c := (body_obligation V c).loose
  hwaits := Pipeline.hwaits_of_owed_zero _ _ _ _ noLev lev 0 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.arrays_of_unscopedBufs (p := 0) (pcfgs (F := Ideal)) adm (pdats V adm) launch0.win launch0.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := Ideal)) adm (Ix := Unit) (Name := ℕ) (U := UU) (Lvl := ℕ) launch0.win launch0.arr_whole c
      (pdats V adm) ((pdats V adm 0 c).share_full fun _ => rfl) (V c) (Vp c) ((pdats V adm 0 c).arrAt · cfg0.N)
      (fun w => (hout c w).symm) (fun b hb => hne c b hb)
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.Proof.Assign
-- ==== Proof.ScatterSums.lean ====
module

public import proofs.«01_k».proof.Proof.AssignRegion

/-! The sums that the scatter kernel keeps, as sums over the rows so far. -/

@[expose] public section

set_option maxRecDepth 16384

noncomputable section

namespace Cert.Proof.Scatter

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)

/-- The label of row `r` of the whole array. -/
def labAt (x7 : S4x1x4096.Idx → BitVec 32) (r : ℕ) : BitVec 32 := x7 (ValueIdx.ix3 (Fin.ofNat 4 (r / 4096)) 0 (Fin.ofNat 4096 r))

/-- Row `r` of the whole array. -/
def rowAt (x : S16384x128.Idx → EReal) (r : ℕ) (d : Fin 128) : EReal := x (ValueIdx.ix2 (Fin.ofNat 16384 r) d)

/-- The sum of the first `N` rows that carry each label. -/
def segSum (x7 : S4x1x4096.Idx → BitVec 32) (x : S16384x128.Idx → EReal) (N : ℕ) : S64x128.Idx → EReal :=
  fun y => ∑ r ∈ Finset.range N, if (labAt x7 r).toNat = (y 0).val then rowAt x r (y 1) else 0

/-- The total and the partial sums together are the sums of the rows so far. -/
def Kept (x7 : S4x1x4096.Idx → BitVec 32) (x : S16384x128.Idx → EReal) (g n : ℕ) (t p : S64x128.Idx → EReal) : Prop :=
  ∀ y, t y + p y = segSum x7 x (4096 * g + n) y

/-- A row of the block is added to a partial sum entry by entry. -/
theorem pay5_apply (a b : Vec Ideal S1x128 .f32) (j : S1x128.Idx) : (k1_pay5 (F := Ideal) a b j : EReal) = (a j + b j : EReal) := by
  unfold k1_pay5
  rw [Idealize.ShloMosaic.shapeCast_self]
  rfl

/-- A partial sum is added to a total entry by entry. -/
theorem pay7_apply (a b : Vec Ideal S1x128 .f32) (j : S1x128.Idx) : (k1_pay7 (F := Ideal) a b j : EReal) = (a j + b j : EReal) := by
  unfold k1_pay7
  rw [Idealize.ShloMosaic.shapeCast_self]
  rfl

/-- A cleared partial sum is zero. -/
theorem pay8_apply (j : S1x128.Idx) : (k1_pay8 (F := Ideal) j : EReal) = 0 := by
  unfold k1_pay8
  rw [Idealize.ShloMosaic.shapeCast_self]
  exact Ideal.ofBits_zero_f32

/-- The partial sums start at zero. -/
theorem pay1_apply (j : S64x128.Idx) : (k1_pay1 (F := Ideal) j : EReal) = 0 := by
  unfold k1_pay1
  rw [Idealize.ShloMosaic.shapeCast_self]
  exact Ideal.ofBits_zero_f32

/-- The totals start at zero. -/
theorem pay2_apply (j : S64x128.Idx) : (k1_pay2 (F := Ideal) j : EReal) = 0 := by
  unfold k1_pay2
  rw [Idealize.ShloMosaic.shapeCast_self]
  exact Ideal.ofBits_zero_f32

/-- The partial sums are added to the totals entry by entry. -/
theorem pay13_apply (a b : Vec Ideal S64x128 .f32) (j : S64x128.Idx) : (k1_pay13 (F := Ideal) a b j : EReal) = (a j + b j : EReal) := by
  unfold k1_pay13
  rfl

/-- The row of the sums at an index is the index's own element. -/
theorem rowsAt_self (p : S64x128.Idx → EReal) (y : S64x128.Idx) {w : ℕ} (h : (y 0).val = w) : rowsAt 1 p w (ValueIdx.ix2 0 (y 1)) = p y := by
  unfold rowsAt
  refine congrArg p (funext fun a => Fin.ext ?_)
  have hy : (y 0).val < 64 := (y 0).isLt
  match a with
  | ⟨0, _⟩ =>
    show (w + 0) % 64 = (y 0).val
    omega
  | ⟨1, _⟩ => rfl

/-- The kernel's two steps keep the sums. -/
theorem keeps (x7 : S4x1x4096.Idx → BitVec 32) (x : S16384x128.Idx → EReal) (x1 : S1x1x4096.Idx → BitVec 32) (x3 : S4096x128.Idx → EReal) (g : ℕ) (hg : g < 4)
    (h1 : ∀ j, x1 j = x7 (ValueIdx.ix3 (Fin.ofNat 4 g) 0 (j 2)))
    (h3 : ∀ j, x3 j = x (ValueIdx.ix2 (Fin.ofNat 16384 (4096 * g + (j 0).val)) (j 1))) : Keeps (F := Ideal) x1 x3 (Kept x7 x g) where
  row t n p hn h y := by
    have hl : label x1 n = labAt x7 (4096 * g + n) := by
      unfold label labAt
      rw [h1]
      refine congrArg x7 (funext fun a => Fin.ext ?_)
      match a with
      | ⟨0, _⟩ => show g % 4 = (4096 * g + n) / 4096 % 4; omega
      | ⟨1, _⟩ => rfl
      | ⟨2, _⟩ => show n % 4096 = (4096 * g + n) % 4096; omega
    have hr : rowsAt 1 x3 n (ValueIdx.ix2 0 (y 1)) = rowAt x (4096 * g + n) (y 1) := by
      unfold rowsAt rowAt
      rw [h3]
      refine congrArg x (funext fun a => Fin.ext ?_)
      match a with
      | ⟨0, _⟩ => show (4096 * g + (n + 0) % 4096) % 16384 = (4096 * g + n) % 16384; omega
      | ⟨1, _⟩ => rfl
    unfold rowAdd segSum
    rw [← add_assoc, Finset.sum_range_succ, ← hl]
    have hy := h y
    unfold segSum at hy
    rw [← hy]
    by_cases hw : (y 0).val = (label x1 n).toNat
    · rw [if_pos hw, if_pos hw.symm, pay5_apply, rowsAt_self p y hw, hr, add_assoc]
    · rw [if_neg hw, if_neg fun e => hw e.symm, add_zero]
  flush n t p w h y := by
    unfold flushT flushP
    by_cases hw : (y 0).val = w
    · rw [if_pos hw, if_pos hw, pay7_apply, pay8_apply, rowsAt_self t y hw, rowsAt_self p y hw, add_zero]
      exact h y
    · rw [if_neg hw, if_neg hw]
      exact h y

/-- Nothing is summed at the start. -/
theorem kept_zero (x7 : S4x1x4096.Idx → BitVec 32) (x : S16384x128.Idx → EReal) : Kept x7 x 0 0 (k1_pay2 (F := Ideal)) (k1_pay1 (F := Ideal)) := by
  intro y
  rw [pay1_apply, pay2_apply, add_zero]
  unfold segSum
  rfl

end Cert.Proof.Scatter
-- ==== Proof.ScatterRegion.lean ====
module

public import proofs.«01_k».proof.Proof.ScatterSums
public import Idealize.ShloMosaic.Lib.Pipeline.FrameBody

/-! The launch of the scatter kernel: the sums are carried from grid point to grid point, and the last writes them. -/

@[expose] public section

set_option maxRecDepth 16384

noncomputable section

namespace Cert.Proof.Scatter

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)

local notation "𝕄" => MT nD τ sig Unit (Elt Ideal) ℕ UU ℕ

variable (V : Vals)

/-- The labels, block by block. -/
abbrev X7 (V : Vals) (c : Dev nD) : S4x1x4096.Idx → BitVec 32 := V c main_while0b_v7
/-- The rows. -/
abbrev XE (V : Vals) (c : Dev nD) : S16384x128.Idx → EReal := V c main_v3_0

/-- Every label names a row of the sums. -/
def Labels (V : Vals) : Prop := ∀ c j, (X7 V c j).toNat < 64

/-- The buffers this launch does not stage. -/
abbrev Φc (c : Dev nD) : sProp 𝕄 := Pipeline.scopedRest (Ix := Unit) (Name := ℕ) (U := UU) (Lvl := ℕ) (Val := Elt Ideal) spec1 c

/-- The partial sums' buffer. -/
abbrev mP : Memref sig .tc .vmem S64x128 .f32 := Memref.whole cc1_scratch0
/-- The totals' buffer. -/
abbrev mT : Memref sig .tc .vmem S64x128 .f32 := Memref.whole cc1_scratch1

/-- Between grid points the totals and the partial sums hold the sums of the rows of the points so far. -/
def Φs (V : Vals) (c : Dev nD) (t : ℕ) : sProp 𝕄 :=
  iprop(∃ f5 : Bf Ideal c mP, ∃ f6 : Bf Ideal c mT, pt c mP f5 ∗ pt c mT f6
    ∗ ⌜t ≠ 0 → Kept (X7 V c) (XE V c) t 0 (mT.view.read (Elt Ideal) f6) (mP.view.read (Elt Ideal) f5)⌝
    ∗ (∀ g5 : Bf Ideal c mP, ∀ g6 : Bf Ideal c mT, (pt c mP g5 ∗ pt c mT g6) -∗ Φc c))

/-- The invariant at the start. -/
theorem Φs_start (c : Dev nD) : Φc c ⊢ Φs V c 0 := by
  unfold Φs Φc
  rw [scopedRest1_eq]
  iintro ⟨A0, A1, A2, A3, A4, A5, A6, A7, A8, A9, A10, ⟨%f5, H5⟩, ⟨%f6, H6⟩, A11⟩
  iexists f5
  iexists f6
  isplitl [H5]; · iexact H5
  isplitl [H6]; · iexact H6
  isplitr; · ipureintro; exact fun h => absurd rfl h
  iintro %g5 %g6 ⟨H5, H6⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [H5]; · iexists g5; iexact H5
  isplitl [H6]; · iexists g6; iexact H6
  iexact A11

/-- The buffers come back at the end. -/
theorem Φs_end (c : Dev nD) (t : ℕ) : Φs V c t ⊢ Φc c := by
  unfold Φs
  iintro ⟨%f5, %f6, H5, H6, -, Hk⟩
  iapply Hk $$ %f5 %f6
  isplitl [H5]; · iexact H5
  iexact H6

/-- The proof data of one launch: the inputs as they are read, the sums of all rows written at the last point. -/
def dat (c : Dev nD) : Dat τ (Elt Ideal) Unit ℕ UU ℕ cfg1 c where
  A w := V c (Pipeline.arrRef spec1 w)
  after w t := match w with
    | ⟨0, _⟩ => ((cfg1.win 0).blk t).view.read (Elt Ideal) (V c (Pipeline.arrRef spec1 0))
    | ⟨1, _⟩ => ((cfg1.win 1).blk t).view.read (Elt Ideal) (V c (Pipeline.arrRef spec1 1))
    | ⟨2, _⟩ => ((cfg1.win 2).blk t).view.read (Elt Ideal) (V c (Pipeline.arrRef spec1 2))
    | ⟨3, _⟩ => segSum (X7 V c) (XE V c) 16384
  Φ t := Φs V c t.val
  q _ := fullShare
  owed _ := 0

variable (adm : (p : Fin 3) → (pcfgs (F := Ideal) p).Adm)

/-- The proof data of an entry that runs this launch. -/
def pdats : (p : Fin 3) → (c : Dev nD) → Dat τ (Elt Ideal) Unit ℕ UU ℕ (Pipeline.pin (pcfgs (F := Ideal)) adm p) c
  | ⟨0, _⟩ => fun c => idleDat c
  | ⟨1, _⟩ => fun c => dat V c
  | ⟨2, _⟩ => fun c => idleDat c

/-- The inputs hold their blocks when the body runs. -/
theorem before0 (c : Dev nD) (t : Fin cfg1.N) (d) : (dat V c).before 0 t d = (dat V c).after 0 t :=
  (dat V c).before_in_eq_fetched 0 rfl (fun _ => rfl) (fun _ _ _ => rfl) (fun _ => rfl) t d

/-- The event words are in place when the body runs. -/
theorem before1 (c : Dev nD) (t : Fin cfg1.N) (d) : (dat V c).before 1 t d = (dat V c).after 1 t :=
  (dat V c).before_in_eq_fetched 1 rfl (fun _ => rfl) (fun _ _ _ => rfl) (fun _ => rfl) t d

/-- The rows are in place when the body runs. -/
theorem before2 (c : Dev nD) (t : Fin cfg1.N) (d) : (dat V c).before 2 t d = (dat V c).after 2 t :=
  (dat V c).before_in_eq_fetched 2 rfl (fun _ => rfl) (fun _ _ _ => rfl) (fun _ => rfl) t d

/-- The grid coordinate of a point. -/
theorem coord (t : Fin cfg1.N) : (cfg1.grid.coords t 0).val = t.val := by
  rcases fin_N1 t with rfl | rfl | rfl | rfl <;> decide

/-- The block of the labels at a point. -/
theorem tr0 (t : Fin cfg1.N) : cc1_transform_0 (cfg1.grid.coords t) 0 = t.val := by
  rcases fin_N1 t with rfl | rfl | rfl | rfl <;> decide

/-- The block of the rows at a point. -/
theorem tr2 (t : Fin cfg1.N) : cc1_transform_2 (cfg1.grid.coords t) 0 = t.val := by
  rcases fin_N1 t with rfl | rfl | rfl | rfl <;> decide

/-- The labels of a block. -/
theorem after0_apply (c : Dev nD) (t : Fin cfg1.N) (j : S1x1x4096.Idx) :
    (dat V c).after 0 t j = X7 V c (ValueIdx.ix3 (Fin.ofNat 4 t.val) 0 (j 2)) := by
  have hc := coord t
  have ht : t.val < 4 := t.isLt
  refine congrArg (X7 V c) (funext fun a => Fin.ext ?_)
  match a with
  | ⟨0, _⟩ =>
    have hj : (j 0).val < 1 := (j 0).isLt
    show (cc1_transform_0 (cfg1.grid.coords t) 0) * 1 + 1 * (j 0).val = t.val % 4
    rw [show cc1_transform_0 (cfg1.grid.coords t) 0 = t.val from tr0 t]
    omega
  | ⟨1, _⟩ =>
    have hj : (j 1).val < 1 := (j 1).isLt
    show 0 * 1 + 1 * (j 1).val = 0
    omega
  | ⟨2, _⟩ =>
    show 0 * 4096 + 1 * (j 2).val = (j 2).val
    omega

/-- The rows of a block. -/
theorem after2_apply (c : Dev nD) (t : Fin cfg1.N) (j : S4096x128.Idx) :
    (dat V c).after 2 t j = XE V c (ValueIdx.ix2 (Fin.ofNat 16384 (4096 * t.val + (j 0).val)) (j 1)) := by
  have ht : t.val < 4 := t.isLt
  refine congrArg (XE V c) (funext fun a => Fin.ext ?_)
  match a with
  | ⟨0, _⟩ =>
    have hj : (j 0).val < 4096 := (j 0).isLt
    show (cc1_transform_2 (cfg1.grid.coords t) 0) * 4096 + 1 * (j 0).val = (4096 * t.val + (j 0).val) % 16384
    rw [show cc1_transform_2 (cfg1.grid.coords t) 0 = t.val from tr2 t]
    omega
  | ⟨1, _⟩ =>
    show 0 * 128 + 1 * (j 1).val = (j 1).val
    omega

/-- Only the last point writes the sums. -/
theorem last_iff (t : Fin cfg1.N) : (k1_cond3 (cfg1.grid.coords t) = 1#1 ↔ t = t1_3) := by
  rcases fin_N1 t with rfl | rfl | rfl | rfl <;> decide

/-- The sums are written back at the last point only. -/
theorem flush_iff (t : Fin cfg1.N) : ((cfg1.win 3).flush t = true ↔ t = t1_3) := by
  rcases fin_N1 t with rfl | rfl | rfl | rfl <;> decide

set_option maxHeartbeats 2000000 in
/-- The body's obligation. -/
theorem body_obligation (hlab : Labels V) (c : Dev nD) : BodyObligation (dat V c) (defs₀ (F := Ideal)) Variants.none () Set.univ := fun t => by
  rw [bigSep_W1, bigSep_W1]
  simp only [owns_whole_eq]
  have w0 := hstage1_0 ((cfg1.slots t 0).cast nbuf1_0)
  have w1 := hstage1_1 ((cfg1.slots t 1).cast nbuf1_1)
  have w2 := hstage1_2 ((cfg1.slots t 2).cast nbuf1_2)
  have w3 := hstage1_3 ((cfg1.slots t 3).cast nbuf1_3)
  unfold owns
  rw [show (stage1_0 (cfg1.slots t 0)).view.set = Finset.univ from w0.set_eq_univ, show (stage1_1 (cfg1.slots t 1)).view.set = Finset.univ from w1.set_eq_univ,
    show (stage1_2 (cfg1.slots t 2)).view.set = Finset.univ from w2.set_eq_univ, show (stage1_3 (cfg1.slots t 3)).view.set = Finset.univ from w3.set_eq_univ]
  rw [show (dat V c).Φ t.castSucc = Φs V c t.val from rfl, show (dat V c).Φ t.succ = Φs V c (t.val + 1) from rfl,
    show (dat V c).owesAt () t.succ = (dat V c).owesAt () t.castSucc from rfl]
  unfold Φs
  iintro ⟨⟨%f5, %f6, H5, H6, %hK, Hk⟩, Howes, ⟨%d0, %f0, %hf0, H0⟩, ⟨%d1, %f1, %hf1, H1⟩, ⟨%d2, %f2, %hf2, H2⟩, ⟨%d3, %f3, %hf3, H3⟩⟩
  rw [before0] at hf0
  rw [before1] at hf1
  rw [before2] at hf2
  have hc := coord t
  have ht : t.val < 4 := t.isLt
  have hw : ∀ j, ((stage1_0 (cfg1.slots t 0)).view.read (Elt Ideal) f0 j : BitVec 32).toNat < 64 := fun j => by
    rw [hf0, after0_apply]; exact hlab c _
  have hkeep : Keeps (F := Ideal) ((stage1_0 (cfg1.slots t 0)).view.read (Elt Ideal) f0) ((stage1_2 (cfg1.slots t 2)).view.read (Elt Ideal) f2)
      (Kept (X7 V c) (XE V c) t.val) := by
    rw [hf0, hf2]
    exact keeps _ _ _ _ t.val ht (after0_apply V c t) (after2_apply V c t)
  iapply (wp_wand_r Idealize.ShloMosaic.frame (wpE (defs₀ (F := Ideal)) Variants.none (c : Thread nD τ) none) Set.univ)
  isplitl [H0 H1 H2 H3 H5 H6]
  · iapply (body (F := Ideal) c (grid1.coords t) (stage1_0 (cfg1.slots t 0)) (hstage1_0 ((cfg1.slots t 0).cast nbuf1_0))
      (stage1_1 (cfg1.slots t 1)) (hstage1_1 ((cfg1.slots t 1).cast nbuf1_1)) (stage1_2 (cfg1.slots t 2)) (hstage1_2 ((cfg1.slots t 2).cast nbuf1_2))
      (stage1_3 (cfg1.slots t 3)) (hstage1_3 ((cfg1.slots t 3).cast nbuf1_3)) mP (Memref.isWhole_whole _) mT (Memref.isWhole_whole _)
      f0 f1 f2 f3 f5 f6 hw (Kept (X7 V c) (XE V c) t.val) hkeep
      (fun h => by rw [show t.val = 0 from hc.symm.trans h]; exact kept_zero _ _)
      (fun h => hK fun e => h (hc.trans e)) Set.univ)
    isplitl [H0]; · iexact H0
    isplitl [H1]; · iexact H1
    isplitl [H2]; · iexact H2
    isplitl [H3]; · iexact H3
    isplitl [H5]; · iexact H5
    iexact H6
  · iintro %r ⟨H0, H1, H2, %g4, %g5, %g6, H3, H5, H6, %hg, %hg4⟩
    isplitl [H5 H6 Hk]
    · iexists g5
      iexists g6
      isplitl [H5]; · iexact H5
      isplitl [H6]; · iexact H6
      isplitr
      · ipureintro
        exact fun _ => hg
      iexact Hk
    isplitl [Howes]; · iexact Howes
    isplitl [H0]; · iexists f0; isplitr; swap; (· iexact H0); ipureintro; exact hf0
    isplitl [H1]; · iexists f1; isplitr; swap; (· iexact H1); ipureintro; exact hf1
    isplitl [H2]; · iexists f2; isplitr; swap; (· iexact H2); ipureintro; exact hf2
    by_cases hl : t = t1_3
    · rw [show idle1 3 (grid1.coords t) = false from by rw [hl]; decide]
      rw [if_pos ((last_iff t).mpr hl)] at hg4
      iexists g4
      isplitr; swap; (· iexact H3)
      ipureintro
      rw [hg4]
      funext y
      have h4 : 4096 * t.val + 4096 = 16384 := by rw [hl]; rfl
      rw [pay13_apply, hg y, h4]
      dsimp only [dat]
    · rw [show idle1 3 (grid1.coords t) = true from by rcases fin_N1 t with rfl | rfl | rfl | rfl <;> first | decide | exact absurd rfl hl,
        show (win1 3).flush t = false from by rcases fin_N1 t with rfl | rfl | rfl | rfl <;> first | decide | exact absurd rfl hl]
      rw [if_neg (mt (last_iff t).mp hl)] at hg4
      iexists d3
      iexists f3
      isplitr; · ipureintro; exact hf3
      rw [hg4]
      iexact H3

variable (Vp : Vals)

set_option backward.isDefEq.respectTransparency.types false in
/-- The launch over the thread state: every lasting buffer at `V` before, at `Vp` after. -/
def reg (hlab : Labels V) (R : Dev nD → sProp 𝕄) (hout : ∀ c w, Vp c (Pipeline.arrRef spec1 w) = (dat V c).arrAt w cfg1.N)
    (hne : ∀ c (b : Ref sig .tc), b ∉ Finset.univ.image (Pipeline.arrRef spec1) → Vp c b = V c b) :
    Pipeline.RegionSeg (pcfgs (F := Ideal)) adm (pdats V adm) () defs₀ Variants.none noLev lev 1 where
  win := launch1.win.to₀
  block_pos := launch1.block_pos
  stage_whole := launch1.stage_whole
  K := PEmpty
  osem k := k.elim
  ho := Pipeline.OwnSemFacts.none _
  hbody c := (body_obligation V hlab c).loose
  hwaits := Pipeline.hwaits_of_owed_zero _ _ _ _ noLev lev 1 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec1 c (V c) ∗ R c)
  hentry c := by
    rw [Pipeline.ownSems0_none]
    have hsplit := Pipeline.arrays_of_unscopedBufs (p := 1) (pcfgs (F := Ideal)) adm (pdats V adm) launch1.win launch1.arr_whole c
      ((pdats V adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V adm 1 c).Φ 0 = Φs V c 0 from rfl]
    iintro ⟨-, -, Hr⟩
    iapply (Φs_start V c); iexact Hr
  hout c := by
    rw [Pipeline.ownSems0_none, show (pdats V adm 1 c).Φ (Fin.last _) = Φs V c (Fin.last cfg1.N).val from rfl]
    iintro Hr
    isplitr; · iempintro
    isplitr; · iempintro
    iapply (Φs_end V c _); iexact Hr
  hexit c := by
    have hjoin := Pipeline.unscopedBufs_of_arrays (p := 1) (pcfgs (F := Ideal)) adm (Ix := Unit) (Name := ℕ) (U := UU) (Lvl := ℕ) launch1.win launch1.arr_whole c
      (pdats V adm) ((pdats V adm 1 c).share_full fun _ => rfl) (V c) (Vp c) ((pdats V adm 1 c).arrAt · cfg1.N)
      (fun w => (hout c w).symm) (fun b hb => hne c b hb)
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.Proof.Scatter
-- ==== Proof.Outputs.lean ====
module

public import proofs.«01_k».proof.Proof.ScatterRegion

/-! The arrays that the three launches leave, as functions of the arrays they read. -/

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.ShloMosaic.Pipeline (Dat Cfg Window BodyObligation cellOf)

variable (V : Vals) (c : Dev nD)

namespace Assign

/-- The block of the rows is the whole array. -/
theorem blk0_eq : blk0 V c = V c main_v3_0 := by
  refine funext fun j => congrArg (V c main_v3_0) (funext fun a => Fin.ext ?_)
  match a with
  | ⟨0, _⟩ => show 0 * _ + 1 * (j 0).val = (j 0).val; omega
  | ⟨1, _⟩ => show 0 * _ + 1 * (j 1).val = (j 1).val; omega

/-- The block of the sums is the whole array. -/
theorem blk1_eq : blk1 V c = V c main_v3_4 := by
  refine funext fun j => congrArg (V c main_v3_4) (funext fun a => Fin.ext ?_)
  match a with
  | ⟨0, _⟩ => show 0 * _ + 1 * (j 0).val = (j 0).val; omega
  | ⟨1, _⟩ => show 0 * _ + 1 * (j 1).val = (j 1).val; omega

/-- The block of the counts is the whole array. -/
theorem blk2_eq : blk2 V c = V c main_v3_5 := by
  refine funext fun j => congrArg (V c main_v3_5) (funext fun a => Fin.ext ?_)
  match a with
  | ⟨0, _⟩ => show 0 * _ + 1 * (j 0).val = (j 0).val; omega
  | ⟨1, _⟩ => show 0 * _ + 1 * (j 1).val = (j 1).val; omega

/-- The block of the last centroids is the whole array. -/
theorem blk3_eq : blk3 V c = V c main_v3_6 := by
  refine funext fun j => congrArg (V c main_v3_6) (funext fun a => Fin.ext ?_)
  match a with
  | ⟨0, _⟩ => show 0 * _ + 1 * (j 0).val = (j 0).val; omega
  | ⟨1, _⟩ => show 0 * _ + 1 * (j 1).val = (j 1).val; omega

/-- An entry of an array read through a whole window. -/
theorem whole_idx {n m : ℕ} (i j : (⟨2, ![n, m]⟩ : Shape).Idx) (h0 : (i 0).val = (j 0).val) (h1 : (i 1).val = (j 1).val) : i = j := by
  funext a
  match a with
  | ⟨0, _⟩ => exact Fin.ext h0
  | ⟨1, _⟩ => exact Fin.ext h1

/-- The labels that the assignment kernel leaves. -/
theorem arr5 : (dat V c).arrAt 5 cfg0.N = amin (F := Ideal) (V c main_v3_0) (V c main_v3_4) (V c main_v3_5) (V c main_v3_6) := by
  refine (dat V c).arrAt_eq_of_after_last 5 t0_0 (by decide +kernel) _ fun j => ?_
  rw [(after_out V c).1, blk0_eq, blk1_eq, blk2_eq, blk3_eq]
  blk_simp

/-- The counts that it leaves. -/
theorem arr6 : (dat V c).arrAt 6 cfg0.N = cnt (F := Ideal) (V c main_v3_0) (V c main_v3_4) (V c main_v3_5) (V c main_v3_6) := by
  refine (dat V c).arrAt_eq_of_after_last 6 t0_0 (by decide +kernel) _ fun j => ?_
  rw [(after_out V c).2.1, blk0_eq, blk1_eq, blk2_eq, blk3_eq]
  blk_simp

/-- The centroids that it leaves. -/
theorem arr7 : (dat V c).arrAt 7 cfg0.N = k0_pay4 (F := Ideal) (V c main_v3_4) (V c main_v3_5) (V c main_v3_6) := by
  refine (dat V c).arrAt_eq_of_after_last 7 t0_0 (by decide +kernel) _ fun j => ?_
  rw [(after_out V c).2.2.1, blk1_eq, blk2_eq, blk3_eq]
  blk_simp

end Assign

/-- The sums that the scatter kernel leaves. -/
theorem Scatter.arr3 : (Scatter.dat V c).arrAt 3 cfg1.N = Scatter.segSum (V c main_while0b_v7) (V c main_v3_0) 16384 := by
  refine (Scatter.dat V c).arrAt_eq_of_after_last 3 t1_3 (by decide +kernel) _ fun j => ?_
  rw [show (Scatter.dat V c).after 3 t1_3 = Scatter.segSum (Scatter.X7 V c) (Scatter.XE V c) 16384 from by dsimp only [Scatter.dat]]
  unfold Scatter.X7 Scatter.XE
  blk_simp
  rfl

namespace Final

/-- The block of the rows is the whole array. -/
theorem blk0_eq : blk0 V c = V c main_arg0 := by
  refine funext fun j => congrArg (V c main_arg0) (funext fun a => Fin.ext ?_)
  match a with
  | ⟨0, _⟩ => show 0 * _ + 1 * (j 0).val = (j 0).val; omega
  | ⟨1, _⟩ => show 0 * _ + 1 * (j 1).val = (j 1).val; omega

/-- The block of the sums is the whole array. -/
theorem blk1_eq : blk1 V c = V c main_v3_4 := by
  refine funext fun j => congrArg (V c main_v3_4) (funext fun a => Fin.ext ?_)
  match a with
  | ⟨0, _⟩ => show 0 * _ + 1 * (j 0).val = (j 0).val; omega
  | ⟨1, _⟩ => show 0 * _ + 1 * (j 1).val = (j 1).val; omega

/-- The block of the counts is the whole array. -/
theorem blk2_eq : blk2 V c = V c main_v3_5 := by
  refine funext fun j => congrArg (V c main_v3_5) (funext fun a => Fin.ext ?_)
  match a with
  | ⟨0, _⟩ => show 0 * _ + 1 * (j 0).val = (j 0).val; omega
  | ⟨1, _⟩ => show 0 * _ + 1 * (j 1).val = (j 1).val; omega

/-- The block of the last centroids is the whole array. -/
theorem blk3_eq : blk3 V c = V c main_v3_6 := by
  refine funext fun j => congrArg (V c main_v3_6) (funext fun a => Fin.ext ?_)
  match a with
  | ⟨0, _⟩ => show 0 * _ + 1 * (j 0).val = (j 0).val; omega
  | ⟨1, _⟩ => show 0 * _ + 1 * (j 1).val = (j 1).val; omega

/-- The rows that the last kernel leaves. -/
theorem arr4 : (dat V c).arrAt 4 cfg2.N = out (F := Ideal) (V c main_arg0) (V c main_v3_4) (V c main_v3_5) (V c main_v3_6) := by
  refine (dat V c).arrAt_eq_of_after_last 4 t2_0 (by decide +kernel) _ fun j => ?_
  rw [show (dat V c).after 4 t2_0 = out (F := Ideal) (blk0 V c) (blk1 V c) (blk2 V c) (blk3 V c) from by dsimp only [dat], blk0_eq, blk1_eq, blk2_eq, blk3_eq]
  blk_simp

end Final

end Cert.Proof
-- ==== Proof.Rounds.lean ====
module

public import proofs.«01_k».proof.Proof.Outputs
public import proofs.«01_k».proof.Proof.Gen.KernelIdeal.Regions

/-! The host's loop of twenty-five rounds, each an assignment and a scatter, as one segment of the program. -/

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (CSeg Ticket Dat)

local notation "𝕄" => MT nD τ sig Unit (Elt Ideal) ℕ UU ℕ

/-! ## What one round leaves -/

/-- The operations of the loop's condition. -/
abbrev condOps : List (HloOp τ sig (Elt Ideal)) :=
  [ StableHlo.nullary main_while0c_c_9 (constantI S_ 32 25#32),
    StableHlo.binary main_v3_2 main_while0c_c_9 main_while0c_v5 (cmpi .slt) ]

/-- A host operation touches only buffers that outlive a launch. -/
theorem sub_ucRefs (op : HloOp τ sig (Elt Ideal)) (h : op.bufs ⊆ StableHlo.tcRefs τ sig) : op.bufs ⊆ ucRefs := fun b hb =>
  Finset.mem_filter.mpr ⟨h hb, fun h' => Bool.false_ne_true ((op.no_scoped b hb).symm.trans h')⟩

/-- A list of host operations touches only buffers that outlive a launch. -/
theorem sub_of_forall {ops : List (HloOp τ sig (Elt Ideal))} (h : ops.Forall fun op => op.bufs ⊆ StableHlo.tcRefs τ sig) :
    ∀ op ∈ ops, op.bufs ⊆ ucRefs := fun op hop => sub_ucRefs op ((List.forall_iff_forall_mem.mp h) op hop)

section Fold

variable (W : Dev nD → Valuation τ sig (Elt Ideal))

/-- The contents after the condition. -/
abbrev Wc (c : Dev nD) : Valuation τ sig (Elt Ideal) := after condOps (W c)
/-- The contents as the assignment is launched. -/
abbrev Wa (c : Dev nD) : Valuation τ sig (Elt Ideal) := after while0Ops0 (Wc W c)
/-- The same at the core's references. -/
abbrev Va : Vals := fun c b => Wa W c b
/-- The contents after the assignment. -/
def Wr (c : Dev nD) : Valuation τ sig (Elt Ideal) :=
  Function.update (Function.update (Function.update (Function.update (Wa W c)
    (Proc.devRef .tc main_while0b_v6_0) ((Assign.dat (Va W) c).arrAt 5 cfg0.N))
    (Proc.devRef .tc main_while0b_v6_1) ((Assign.dat (Va W) c).arrAt 6 cfg0.N))
    (Proc.devRef .tc main_while0b_v6_2) ((Assign.dat (Va W) c).arrAt 7 cfg0.N))
    (Proc.devRef .tc main_while0b_v6_3) ((Assign.dat (Va W) c).arrAt 8 cfg0.N)
/-- The contents as the scatter is launched. -/
abbrev Wb (c : Dev nD) : Valuation τ sig (Elt Ideal) := after while0Ops1 (Wr W c)
/-- The same at the core's references. -/
abbrev Vb : Vals := fun c b => Wb W c b
/-- The contents after the scatter. -/
def Ws (c : Dev nD) : Valuation τ sig (Elt Ideal) :=
  Function.update (Wb W c) (Proc.devRef .tc main_while0b_v8) ((Scatter.dat (Vb W) c).arrAt 3 cfg1.N)
/-- The contents before the next run of the condition. -/
abbrev Wn (c : Dev nD) : Valuation τ sig (Elt Ideal) := after while0Ops2 (Ws W c)

/-- What the assignment leaves as the words. -/
theorem Wr_5 (c : Dev nD) : Wr W c main_while0b_v6_0 = (Assign.dat (Va W) c).arrAt 5 cfg0.N := by
  unfold Wr
  rw [Function.update_of_ne (StableHlo.devRef_ne_of_ne (by decide)), Function.update_of_ne (StableHlo.devRef_ne_of_ne (by decide)),
    Function.update_of_ne (StableHlo.devRef_ne_of_ne (by decide)), Function.update_self]

/-- What the assignment leaves as the counts. -/
theorem Wr_6 (c : Dev nD) : Wr W c main_while0b_v6_1 = (Assign.dat (Va W) c).arrAt 6 cfg0.N := by
  unfold Wr
  rw [Function.update_of_ne (StableHlo.devRef_ne_of_ne (by decide)), Function.update_of_ne (StableHlo.devRef_ne_of_ne (by decide)),
    Function.update_self]

/-- What the assignment leaves as the centroids. -/
theorem Wr_7 (c : Dev nD) : Wr W c main_while0b_v6_2 = (Assign.dat (Va W) c).arrAt 7 cfg0.N := by
  unfold Wr
  rw [Function.update_of_ne (StableHlo.devRef_ne_of_ne (by decide)), Function.update_self]

/-- What the assignment leaves as the event words. -/
theorem Wr_8 (c : Dev nD) : Wr W c main_while0b_v6_3 = (Assign.dat (Va W) c).arrAt 8 cfg0.N := by
  unfold Wr; rw [Function.update_self]
/-- The assignment writes four arrays only. -/
theorem Wr_of_ne (c : Dev nD) (b : Ref sig .tc) (h : b ∉ [main_while0b_v6_0, main_while0b_v6_1, main_while0b_v6_2, main_while0b_v6_3]) :
    Wr W c b = Wa W c b := by
  simp only [List.mem_cons, List.mem_nil_iff, or_false, not_or] at h
  unfold Wr
  rw [Function.update_of_ne (StableHlo.devRef_ne_of_ne h.2.2.2), Function.update_of_ne (StableHlo.devRef_ne_of_ne h.2.2.1),
    Function.update_of_ne (StableHlo.devRef_ne_of_ne h.2.1), Function.update_of_ne (StableHlo.devRef_ne_of_ne h.1)]

/-- The contents after the assignment are those of its windows. -/
theorem Wr_out (c : Dev nD) : ∀ w, Wr W c (Pipeline.arrRef spec0 w) = (Assign.dat (Va W) c).arrAt w cfg0.N
  | ⟨0, _⟩ => (Wr_of_ne W c main_v3_0 (by decide)).trans (Dat.arrAt_in (dat := Assign.dat (Va W) c) 0 rfl _).symm
  | ⟨1, _⟩ => (Wr_of_ne W c main_v3_4 (by decide)).trans (Dat.arrAt_in (dat := Assign.dat (Va W) c) 1 rfl _).symm
  | ⟨2, _⟩ => (Wr_of_ne W c main_v3_5 (by decide)).trans (Dat.arrAt_in (dat := Assign.dat (Va W) c) 2 rfl _).symm
  | ⟨3, _⟩ => (Wr_of_ne W c main_v3_6 (by decide)).trans (Dat.arrAt_in (dat := Assign.dat (Va W) c) 3 rfl _).symm
  | ⟨4, _⟩ => (Wr_of_ne W c main_v3_1 (by decide)).trans (Dat.arrAt_in (dat := Assign.dat (Va W) c) 4 rfl _).symm
  | ⟨5, _⟩ => Wr_5 W c
  | ⟨6, _⟩ => Wr_6 W c
  | ⟨7, _⟩ => Wr_7 W c
  | ⟨8, _⟩ => Wr_8 W c
  | ⟨_ + 9, h⟩ => absurd h (Nat.not_lt.2 (Nat.le_add_left _ _))

/-- An array that is no window's is not one of the four. -/
theorem Wr_ne (c : Dev nD) (b : Ref sig .tc) (h : b ∉ Finset.univ.image (Pipeline.arrRef spec0)) : Wr W c b = Va W c b :=
  Wr_of_ne W c b fun hm => h (by
    simp only [List.mem_cons, List.mem_nil_iff, or_false] at hm
    rcases hm with rfl | rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩
    · exact Finset.mem_image.mpr ⟨8, Finset.mem_univ _, rfl⟩)

/-- What the scatter leaves as the sums. -/
theorem Ws_3 (c : Dev nD) : Ws W c main_while0b_v8 = (Scatter.dat (Vb W) c).arrAt 3 cfg1.N := Function.update_self ..
/-- The scatter writes one array only. -/
theorem Ws_of_ne (c : Dev nD) (b : Ref sig .tc) (h : b ≠ main_while0b_v8) : Ws W c b = Wb W c b :=
  Function.update_of_ne (StableHlo.devRef_ne_of_ne h) ..

set_option maxRecDepth 100000 in
/-- The contents after the scatter are those of its windows. -/
theorem Ws_out (c : Dev nD) : ∀ w, Ws W c (Pipeline.arrRef spec1 w) = (Scatter.dat (Vb W) c).arrAt w cfg1.N
  | ⟨0, _⟩ => (Ws_of_ne W c main_while0b_v7 (by decide)).trans (Dat.arrAt_in (dat := Scatter.dat (Vb W) c) 0 rfl _).symm
  | ⟨1, _⟩ => (Ws_of_ne W c main_while0b_v6_3 (by decide)).trans (Dat.arrAt_in (dat := Scatter.dat (Vb W) c) 1 rfl _).symm
  | ⟨2, _⟩ => (Ws_of_ne W c main_v3_0 (by decide)).trans (Dat.arrAt_in (dat := Scatter.dat (Vb W) c) 2 rfl _).symm
  | ⟨3, _⟩ => Ws_3 W c
  | ⟨_ + 4, h⟩ => absurd h (Nat.not_lt.2 (Nat.le_add_left _ _))

/-- An array that is no window of the scatter is untouched. -/
theorem Ws_ne (c : Dev nD) (b : Ref sig .tc) (h : b ∉ Finset.univ.image (Pipeline.arrRef spec1)) : Ws W c b = Vb W c b :=
  Ws_of_ne W c b fun e => h (Finset.mem_image.mpr ⟨3, Finset.mem_univ _, e.symm⟩)

end Fold

variable (W₀ : Dev nD → Valuation τ sig (Elt Ideal))

/-- The contents before run `k` of the condition, from `W₀` at the loop's entry. -/
def Wk : ℕ → Dev nD → Valuation τ sig (Elt Ideal)
  | 0 => W₀
  | k + 1 => Wn (Wk k)

/-- A buffer that no operation writes stays as it was. -/
theorem notw {ops : List (HloOp τ sig (Elt Ideal))} {b : Ref sig .tc} (h : ∀ op ∈ ops, Proc.devRef .tc b ∉ op.writes) (V : Valuation τ sig (Elt Ideal)) :
    after ops V b = V b := StableHlo.after_of_forall_not_mem ops V h

/-- The references that the condition and the two first stretches write. -/
abbrev early : List (Ref sig .tc) := [main_while0c_c_9, main_while0c_v5, main_while0b_c_9, main_while0b_v5]

/-- Running the condition and the first stretch leaves every other buffer alone. -/
theorem Wa_of_ne (W : Dev nD → Valuation τ sig (Elt Ideal)) (c : Dev nD) (b : Ref sig .tc) (h : b ∉ early) : Wa W c b = W c b := by
  simp only [List.mem_cons, List.mem_nil_iff, or_false, not_or] at h
  dsimp only [Wa, Wc]
  rw [notw (ops := while0Ops0), notw (ops := condOps)]
  · intro op hop
    fin_cases hop
    · exact fun hm => StableHlo.devRef_ne_of_ne h.1 (Finset.mem_singleton.mp hm)
    · exact fun hm => StableHlo.devRef_ne_of_ne h.2.1 (Finset.mem_singleton.mp hm)
  · intro op hop
    fin_cases hop
    · exact fun hm => StableHlo.devRef_ne_of_ne h.2.2.1 (Finset.mem_singleton.mp hm)
    · exact fun hm => StableHlo.devRef_ne_of_ne h.2.2.2 (Finset.mem_singleton.mp hm)

/-- The reshape of the labels leaves every other buffer alone. -/
theorem Wb_of_ne (W : Dev nD → Valuation τ sig (Elt Ideal)) (c : Dev nD) (b : Ref sig .tc) (h : b ≠ main_while0b_v7) : Wb W c b = Wr W c b :=
  notw (by intro op hop; fin_cases hop; exact fun hm => StableHlo.devRef_ne_of_ne h (Finset.mem_singleton.mp hm)) _

set_option maxRecDepth 100000 in
/-- The last stretch of a round adds one to the counter. -/
theorem ctr_body (X : Valuation τ sig (Elt Ideal)) :
    after while0Ops2 X main_v3_2 = addi (X main_v3_2) (constantI S_ 32 1#32) := by
  rw [while0Ops2, StableHlo.after_cons, StableHlo.after_cons, StableHlo.after_cons, StableHlo.after_cons, StableHlo.after_cons,
    StableHlo.after_cons, StableHlo.after_cons, StableHlo.after_cons, StableHlo.after_nil]
  rw [StableHlo.unary_result_ne _ _ _ _ _ _ (by decide), StableHlo.unary_result_ne _ _ _ _ _ _ (by decide),
    StableHlo.unary_result_ne _ _ _ _ _ _ (by decide), StableHlo.unary_result_ne _ _ _ _ _ _ (by decide), StableHlo.unary_result,
    StableHlo.binary_result, StableHlo.nullary_result_ne _ _ _ _ (by decide), StableHlo.nullary_result]
  exact congrArg (fun z => addi z (constantI S_ 32 1#32)) (StableHlo.reshape_result_ne _ _ _ _ _ _ _ (by decide))

/-- Before run `k` of the condition the counter is `k`. -/
theorem Wk_ctr (hI0 : ∀ c, W₀ c main_v3_2 = fun _ => (0#32 : BitVec 32)) (c : Dev nD) :
    ∀ k, Wk W₀ k c main_v3_2 = fun _ => (BitVec.ofNat 32 k : BitVec 32)
  | 0 => hI0 c
  | k + 1 => by
    show after while0Ops2 (Ws (Wk W₀ k) c) main_v3_2 = _
    rw [ctr_body, Ws_of_ne _ _ _ (by decide), Wb_of_ne _ _ _ (by decide), Wr_of_ne _ _ _ (by decide), Wa_of_ne _ _ _ (by decide), Wk_ctr hI0 c k]
    funext i
    show BitVec.ofNat 32 k + 1#32 = BitVec.ofNat 32 (k + 1)
    rw [BitVec.ofNat_add]

/-- For `k ≤ 25` the comparison reads one exactly while `k < 25`. -/
theorem pred_iff (k : ℕ) (h : k ≤ 25) : IntOp.cmpi .slt (BitVec.ofNat 32 k) 25#32 = 1#1 ↔ k < 25 := by
  revert h; revert k
  have : ∀ k : Fin 26, IntOp.cmpi .slt (BitVec.ofNat 32 k.val) 25#32 = 1#1 ↔ k.val < 25 := by decide
  exact fun k h => this ⟨k, by omega⟩

/-! ## The state of the thread, and the launches -/

variable (adm : (p : Fin 3) → (pcfgs (F := Ideal) p).Adm)

/-- What rides along beside the buffers. -/
abbrev Rw (R : Dev nD → sProp 𝕄) (c : Dev nD) : sProp 𝕄 := iprop(R c ∗ ∃ W, owes (c : Thread nD τ) (0 : CellTallies nD τ sig Unit) W)
/-- The state before run `k` of the condition. -/
abbrev inv (R : Dev nD → sProp 𝕄) (k : ℕ) (c : Dev nD) : sProp 𝕄 := iprop(held (c : Thread nD τ) ucRefs (Wk W₀ k c) ∗ Rw R c)
/-- The state after it. -/
abbrev mid (R : Dev nD → sProp 𝕄) (k : ℕ) (c : Dev nD) : sProp 𝕄 := iprop(held (c : Thread nD τ) ucRefs (Wc (Wk W₀ k) c) ∗ Rw R c)

/-- The two ways of writing that state. -/
theorem thread_eq (R : Dev nD → sProp 𝕄) (W : Valuation τ sig (Elt Ideal)) (c : Dev nD) :
    iprop(held (c : Thread nD τ) ucRefs W ∗ Rw R c)
      = iprop(unscopedBufs c (fun b => W b) ∗ R c ∗ ∃ W', owes (c : Thread nD τ) (0 : CellTallies nD τ sig Unit) W') := by
  rw [unscopedBufs_held]

/-- The contents as the last kernel is launched: after the twenty-fifth round and the condition's last run. -/
abbrev Vf : Vals := fun c b => Wc (Wk W₀ 25) c b

/-- The launches: the last kernel's, and for each round the assignment's and the scatter's. -/
def tk (W₀ : Dev nD → Valuation τ sig (Elt Ideal)) (adm : (p : Fin 3) → (pcfgs (F := Ideal) p).Adm) :
    Tick → Ticket (Ix := Unit) (Name := ℕ) (U := UU) (Lvl := ℕ) (nD := nD) (τ := τ) (pcfgs (F := Ideal)) adm
  | none => { p := 2, pdats := Final.pdats (Vf W₀) adm, EP := embAt none }
  | some (k, false) => { p := 0, pdats := Assign.pdats (Va (Wk W₀ k.val)) adm, EP := embAt (some (k, false)) }
  | some (k, true) => { p := 1, pdats := Scatter.pdats (Vb (Wk W₀ k.val)) adm, EP := embAt (some (k, true)) }

variable (hlab : ∀ k, Scatter.Labels (Vb (Wk W₀ k)))

/-- Round `k`: one host operation stretch, the assignment, the reshape, the scatter, and the stretch that carries the results round. -/
def segsAt (R : Dev nD → sProp 𝕄) (k : ℕ) (hk : k < 25) : List (CSeg (pcfgs (F := Ideal)) adm defs₀ Variants.none noLev lev loops (tk W₀ adm)) :=
  [ CSeg.ofOps _ _ _ _ _ _ _ _ ucRefs while0Ops0 (sub_of_forall while0Ops0_sub) (by intro op h; fin_cases h <;> rfl) (Wc (Wk W₀ k)) (Rw R),
    CSeg.region _ _ () cellOf_inj _ _ _ _ _ _ (some (⟨k, hk⟩, false) : Tick)
      (Assign.reg (Va (Wk W₀ k)) adm (fun c b => Wr (Wk W₀ k) c b) R (Wr_out (Wk W₀ k)) (Wr_ne (Wk W₀ k))),
    CSeg.ofOps _ _ _ _ _ _ _ _ ucRefs while0Ops1 (sub_of_forall while0Ops1_sub) (by intro op h; fin_cases h <;> rfl) (Wr (Wk W₀ k)) (Rw R),
    CSeg.region _ _ () cellOf_inj _ _ _ _ _ _ (some (⟨k, hk⟩, true) : Tick)
      (Scatter.reg (Vb (Wk W₀ k)) adm (fun c b => Ws (Wk W₀ k) c b) (hlab k) R (Ws_out (Wk W₀ k)) (Ws_ne (Wk W₀ k))),
    CSeg.ofOps _ _ _ _ _ _ _ _ ucRefs while0Ops2 (sub_of_forall while0Ops2_sub) (by intro op h; fin_cases h <;> rfl) (Ws (Wk W₀ k)) (Rw R) ]

/-- The same for any `k`. -/
def segs (R : Dev nD → sProp 𝕄) (k : ℕ) : List (CSeg (pcfgs (F := Ideal)) adm defs₀ Variants.none noLev lev loops (tk W₀ adm)) :=
  if hk : k < 25 then segsAt W₀ adm hlab R k hk else []

/-- The launches of round `k`. -/
def Tk (k : ℕ) : Finset Tick := if hk : k < 25 then {some (⟨k, hk⟩, false), some (⟨k, hk⟩, true)} else ∅

/-! ## The loop -/

/-- The segments of a round follow one another, from the loop's state before it to the state after it. -/
theorem segs_chain (R : Dev nD → sProp 𝕄) (k : ℕ) (hk : k < 25) :
    CSeg.Chains (mid W₀ R k) (segs W₀ adm hlab R k) (inv W₀ R (k + 1)) := by
  unfold segs; rw [dif_pos hk]
  exact ⟨fun _ => .rfl, fun c => Entails.of_eq (thread_eq R _ c), fun c => Entails.of_eq (thread_eq R _ c).symm,
    fun c => Entails.of_eq (thread_eq R _ c), fun c => Entails.of_eq (thread_eq R _ c).symm, fun _ => .rfl⟩

set_option maxRecDepth 100000 in
set_option backward.isDefEq.respectTransparency.types false in
/-- The loop's body is the run of the segments of a round. -/
theorem segs_body (R : Dev nD → sProp 𝕄) (k : ℕ) (hk : k < 25) (c : Dev nD) (bd : Option (Variants.lift Variants.none).V) (Q : PUnit → sProp 𝕄) :
    wp frame (wpE (HostLoop.defs loops (Pipeline.defs (pcfgs (F := Ideal)) defs₀)) (Variants.lift Variants.none) (c : Thread nD τ) bd) Set.univ (CSeg.runL (segs W₀ adm hlab R k)) Q
      ⊢ wp frame (wpE (HostLoop.defs loops (Pipeline.defs (pcfgs (F := Ideal)) defs₀)) (Variants.lift Variants.none) (c : Thread nD τ) bd) Set.univ (main_while0_body (F := Ideal)) Q := by
  unfold segs; rw [dif_pos hk, while0_body_chain]
  exact .rfl

/-- A bound on the steps of a round's launches. -/
abbrev bound : ℕ := (Pipeline.pin (pcfgs (F := Ideal)) adm 0).tripCount + 1 + ((Pipeline.pin (pcfgs (F := Ideal)) adm 1).tripCount + 1)

/-- Every segment of a round is within the bound. -/
theorem segs_M (R : Dev nD → sProp 𝕄) (k : ℕ) (hk : k < 25) : ∀ s ∈ segs W₀ adm hlab R k, s.M ≤ bound adm := by
  intro s hs
  unfold segs at hs; rw [dif_pos hk] at hs; unfold segsAt at hs
  cases hs with
  | head => exact Nat.zero_le _
  | tail _ hs => cases hs with
    | head => exact Nat.le_add_right _ _
    | tail _ hs => cases hs with
      | head => exact Nat.zero_le _
      | tail _ hs => cases hs with
        | head => exact Nat.le_add_left _ _
        | tail _ hs => cases hs with
          | head => exact Nat.zero_le _
          | tail _ hs => cases hs

/-- Every segment of a round uses only launches of that round. -/
theorem segs_T (R : Dev nD → sProp 𝕄) (k : ℕ) (hk : k < 25) : ∀ s ∈ segs W₀ adm hlab R k, s.T ⊆ Tk k := by
  intro s hs
  unfold segs at hs; unfold Tk; rw [dif_pos hk] at hs ⊢; unfold segsAt at hs
  cases hs with
  | head => exact Finset.empty_subset _
  | tail _ hs => cases hs with
    | head => exact Finset.singleton_subset_iff.mpr (Finset.mem_insert_self _ _)
    | tail _ hs => cases hs with
      | head => exact Finset.empty_subset _
      | tail _ hs => cases hs with
        | head => exact Finset.singleton_subset_iff.mpr (Finset.mem_insert_of_mem (Finset.mem_singleton_self _))
        | tail _ hs => cases hs with
          | head => exact Finset.empty_subset _
          | tail _ hs => cases hs

/-- The segments of a round use different launches. -/
theorem segs_disjoint (R : Dev nD → sProp 𝕄) (k : ℕ) (hk : k < 25) : (segs W₀ adm hlab R k).Pairwise fun s s' => Disjoint s.T s'.T := by
  unfold segs; rw [dif_pos hk]; unfold segsAt
  refine List.pairwise_cons.mpr ⟨fun _ _ => Finset.disjoint_empty_left _, List.pairwise_cons.mpr ⟨fun s hs => ?_,
    List.pairwise_cons.mpr ⟨fun _ _ => Finset.disjoint_empty_left _, List.pairwise_cons.mpr ⟨fun s hs => ?_, List.pairwise_singleton ..⟩⟩⟩⟩
  · cases hs with
    | head => exact Finset.disjoint_empty_right _
    | tail _ hs => cases hs with
      | head => exact Finset.disjoint_singleton.mpr fun h => Bool.false_ne_true (congrArg Prod.snd (Option.some.inj h))
      | tail _ hs => cases hs with
        | head => exact Finset.disjoint_empty_right _
        | tail _ hs => cases hs
  · cases hs with
    | head => exact Finset.disjoint_empty_right _
    | tail _ hs => cases hs

/-- Different rounds use different launches. -/
theorem Tk_disjoint (k k' : ℕ) (hlt : k < k') (hk' : k' < 25) : Disjoint (Tk k) (Tk k') := by
  unfold Tk; rw [dif_pos (Nat.lt_trans hlt hk'), dif_pos hk']
  refine Finset.disjoint_left.mpr fun x hx hx' => ?_
  simp only [Finset.mem_insert, Finset.mem_singleton] at hx hx'
  have e : ∀ {a b : Fin 25} {u v : Bool}, x = some (a, u) → x = some (b, v) → a = b := fun h h' =>
    congrArg Prod.fst (Option.some.inj (h.symm.trans h'))
  have : (⟨k, Nat.lt_trans hlt hk'⟩ : Fin 25) = ⟨k', hk'⟩ := by
    rcases hx with h | h <;> rcases hx' with h' | h' <;> exact e h h'
  exact absurd (congrArg Fin.val this) (Nat.ne_of_lt hlt)

set_option backward.isDefEq.respectTransparency.types false in
/-- The condition reads one exactly while `k < 25`. -/
theorem cond_spec (R : Dev nD → sProp 𝕄) (hI0 : ∀ c, W₀ c main_v3_2 = fun _ => (0#32 : BitVec 32)) (k : ℕ) (hk : k ≤ 25) (c : Dev nD) (bd : Option (Variants.lift Variants.none).V) :
    iprop(boundary (c : Thread nD τ) ∗ inv W₀ R k c)
      ⊢ wp frame (wpE (HostLoop.defs loops (Pipeline.defs (pcfgs (F := Ideal)) defs₀)) (Variants.lift Variants.none) (c : Thread nD τ) bd) Set.univ (main_while0_cond (F := Ideal))
          (fun v => iprop(⌜v = 1#1 ↔ k < 25⌝ ∗ boundary (c : Thread nD τ) ∗ mid W₀ R k c)) := by
  have hctr := Wk_ctr W₀ hI0 c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk W₀ k c) main_v3_2 HostLoop.idx0)
        (HloOp.result _ (Wk W₀ k c) main_while0c_c_9 HostLoop.idx0) = 1#1) (k < 25)
    rw [StableHlo.nullary_result_ne _ _ _ _ (by decide), StableHlo.nullary_result, hctr]
    exact pred_iff k hk
  isplitl [Hb]; · iexact Hb
  isplitl [Hh]; · unfold Wc; rw [StableHlo.after_cons, StableHlo.after_cons, StableHlo.after_nil]; iexact Hh
  iexact HR

/-- The loop, from the contents `W₀` to those after twenty-five rounds and the condition's last run. -/
def loop0 (R : Dev nD → sProp 𝕄) (hI0 : ∀ c, W₀ c main_v3_2 = fun _ => (0#32 : BitVec 32)) :
    CSeg (pcfgs (F := Ideal)) adm defs₀ Variants.none noLev lev loops (tk W₀ adm) :=
  CSeg.loop _ _ _ _ _ _ _ _
  { l := 0
    cond := main_while0_cond
    body := main_while0_body
    hloops := rfl
    n := 25
    inv := inv W₀ R
    mid := mid W₀ R
    hcond := fun k hk c bd => cond_spec W₀ R hI0 k hk c bd
    segs := segs W₀ adm hlab R
    hch := segs_chain W₀ adm hlab R
    hbody := segs_body W₀ adm hlab R
    B := bound adm
    hM := segs_M W₀ adm hlab R
    Tk := Tk
    hT := segs_T W₀ adm hlab R
    hdisT := segs_disjoint W₀ adm hlab R
    hTk := Tk_disjoint }

end Cert.Proof
-- ==== Proof.First.lean ====
module

public import proofs.«01_k».proof.Proof.Rounds
public import Idealize.ShloMosaic.PureOps.Ideal.Laws

/-! The first index at which a row's entry has a property, as a word, and the fold of a minimum that finds it. -/

@[expose] public section

noncomputable section

namespace Cert.Proof

open Idealize.ShloMosaic

/-- The word of the first index below 64 at which `p` holds. -/
structure IsFirst (p : Fin 64 → Prop) (w : BitVec 32) : Prop where
  lt : w.toNat < 64
  holds : p ⟨w.toNat, lt⟩
  least : ∀ j, p j → w.toNat ≤ j.val

/-- There is one such word only. -/
theorem IsFirst.unique {p : Fin 64 → Prop} {w w' : BitVec 32} (h : IsFirst p w) (h' : IsFirst p w') : w = w' :=
  BitVec.eq_of_toNat_eq (Nat.le_antisymm (h.least _ h'.holds) (h'.least _ h.holds))

/-- The first index depends only on where the condition holds. -/
theorem IsFirst.congr {p q : Fin 64 → Prop} {w : BitVec 32} (h : IsFirst p w) (e : ∀ j, p j ↔ q j) : IsFirst q w :=
  ⟨h.lt, (e _).1 h.holds, fun j hj => h.least j ((e j).2 hj)⟩

/-- The signed minimum of two words, as a number. -/
theorem toInt_minsi (x y : BitVec 32) : (IntOp.minsi x y).toInt = min x.toInt y.toInt := by
  unfold IntOp.minsi
  by_cases h : x.slt y = true
  · have h' := h
    rw [BitVec.slt_iff_toInt_lt] at h'
    simp only [h, if_true]; rw [min_eq_left (le_of_lt h')]
  · have h' : ¬ x.toInt < y.toInt := fun hh => h (BitVec.slt_iff_toInt_lt.mpr hh)
    simp only [h]
    rw [min_eq_right (not_lt.mp h')]
    simp

/-- The signed minimum may be reordered. -/
instance : Std.Commutative (IntOp.minsi (w := 32)) := inferInstance

/-- The signed minimum may be reordered. -/
instance : Std.Associative (IntOp.minsi (w := 32)) := inferInstance

/-- The least of the indices at which `p` holds, where the others count 64; the fold starts at a word no less than 64. -/
theorem first_fold (p : Fin 64 → Prop) (hp : ∃ j, p j) (m : BitVec 32) (hm : 64 ≤ m.toInt) (f : Fin 64 → BitVec 32)
    (hf : ∀ j, p j → f j = BitVec.ofNat 32 j.val) (hf' : ∀ j, ¬ p j → f j = 64#32) :
    IsFirst p ((Finset.univ : Finset (Fin 64)).fold IntOp.minsi m f) := by
  classical
  obtain ⟨j0, hj0, hmin⟩ := Finset.exists_min_image (Finset.univ.filter p) (fun j => j.val)
    ⟨hp.choose, Finset.mem_filter.mpr ⟨Finset.mem_univ _, hp.choose_spec⟩⟩
  have hpj : p j0 := (Finset.mem_filter.mp hj0).2
  have hle : ∀ j, p j → j0.val ≤ j.val := fun j hj => hmin j (Finset.mem_filter.mpr ⟨Finset.mem_univ _, hj⟩)
  have hval : ∀ j : Fin 64, (BitVec.ofNat 32 j.val).toInt = (j.val : ℤ) := by decide
  have key : ((Finset.univ : Finset (Fin 64)).fold IntOp.minsi m f).toInt = (j0.val : ℤ) := by
    rw [← Finset.fold_hom (op' := min) (m := BitVec.toInt) toInt_minsi]
    apply le_antisymm
    · rw [Finset.fold_min_le]
      exact Or.inr ⟨j0, Finset.mem_univ _, by rw [hf j0 hpj, hval]⟩
    · rw [Finset.le_fold_min]
      refine ⟨?_, fun j _ => ?_⟩
      · have := j0.isLt
        omega
      · by_cases hj : p j
        · rw [hf j hj, hval]; exact_mod_cast hle j hj
        · have := j0.isLt
          rw [hf' j hj, show (64#32 : BitVec 32).toInt = 64 from by decide]; omega
  generalize (Finset.univ : Finset (Fin 64)).fold IntOp.minsi m f = w at key ⊢
  have hw : w = BitVec.ofNat 32 j0.val := BitVec.eq_of_toInt_eq (key.trans (hval j0).symm)
  have hn : w.toNat = j0.val := by
    rw [hw, BitVec.toNat_ofNat]; have := j0.isLt; omega
  have hl : w.toNat < 64 := hn ▸ j0.isLt
  refine ⟨hl, ?_, fun j hj => hn ▸ hle j hj⟩
  have : (⟨w.toNat, hl⟩ : Fin 64) = j0 := Fin.ext hn
  rw [this]; exact hpj

/-- Some entry of a row is the fold of the minimum over the row. -/
theorem exists_min (d : Fin 64 → EReal) : ∃ j, d j = (Finset.univ : Finset (Fin 64)).fold min ⊤ d := by
  obtain ⟨j0, -, hmin⟩ := Finset.exists_min_image (Finset.univ : Finset (Fin 64)) d ⟨0, Finset.mem_univ _⟩
  refine ⟨j0, le_antisymm ?_ ?_⟩
  · exact Finset.le_fold_min _ |>.mpr ⟨le_top, fun j hj => hmin j hj⟩
  · exact Finset.fold_min_le _ |>.mpr (Or.inr ⟨j0, Finset.mem_univ _, le_rfl⟩)

/-- An entry is that fold exactly where it is a least entry. -/
theorem eq_min_iff (d : Fin 64 → EReal) (j : Fin 64) : d j = (Finset.univ : Finset (Fin 64)).fold min ⊤ d ↔ ∀ i, d j ≤ d i := by
  constructor
  · intro h i
    rw [h]; exact Finset.fold_min_le _ |>.mpr (Or.inr ⟨i, Finset.mem_univ _, le_rfl⟩)
  · intro h
    obtain ⟨j0, hj0⟩ := exists_min d
    refine le_antisymm (hj0 ▸ h j0) ?_
    exact Finset.fold_min_le _ |>.mpr (Or.inr ⟨j, Finset.mem_univ _, le_rfl⟩)

/-- Some entry of a row is the fold of the maximum over the row. -/
theorem exists_max (d : Fin 64 → EReal) : ∃ j, d j = (Finset.univ : Finset (Fin 64)).fold max ⊥ d := by
  obtain ⟨j0, -, hmax⟩ := Finset.exists_max_image (Finset.univ : Finset (Fin 64)) d ⟨0, Finset.mem_univ _⟩
  refine ⟨j0, le_antisymm ?_ ?_⟩
  · exact Finset.le_fold_max _ |>.mpr (Or.inr ⟨j0, Finset.mem_univ _, le_rfl⟩)
  · exact Finset.fold_max_le _ |>.mpr ⟨bot_le, fun j hj => hmax j hj⟩

/-- An entry is that fold exactly where it is a greatest entry. -/
theorem eq_max_iff (d : Fin 64 → EReal) (j : Fin 64) : d j = (Finset.univ : Finset (Fin 64)).fold max ⊥ d ↔ ∀ i, d i ≤ d j := by
  constructor
  · intro h i
    rw [h]; exact Finset.le_fold_max _ |>.mpr (Or.inr ⟨i, Finset.mem_univ _, le_rfl⟩)
  · intro h
    obtain ⟨j0, hj0⟩ := exists_max d
    refine le_antisymm ?_ (hj0 ▸ h j0)
    exact Finset.le_fold_max _ |>.mpr (Or.inr ⟨j, Finset.mem_univ _, le_rfl⟩)

end Cert.Proof
-- ==== Proof.Argmin.lean ====
module

public import proofs.«01_k».proof.Proof.First
public import proofs.«01_k».proof.Proof.Tiles
public import Idealize.ShloMosaic.Lib.ValueLayout
public import Idealize.ShloMosaic.Lib.ValueLayoutCasts

/-! The column of words that a kernel reads off a block of rows: in every row the first index of the least (greatest) entry. -/

@[expose] public section

noncomputable section

namespace Cert.Proof

open Cert.KernelIdeal Cert.KernelIdeal.Gen
open Idealize.ShloMosaic hiding ix1 ix2 ix3
open Idealize.ShloMosaic.ValueIdx

/-- A column broadcast along the rows reads the row's entry. -/
theorem bcol {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bit of a comparison for equality. -/
theorem oeq_iff (x y : EReal) : FloatOps.cmpf (F := Ideal) (φ := .f32) .oeq x y = 1 ↔ x = y := by
  show BitVec.ofBool (decide (x = y)) = 1#1 ↔ x = y
  by_cases h : x = y <;> simp [h]

/-- The index of row `r` with the second coordinate `j` put back. -/
theorem lift_row (h : S4096x64.Reduces [1] S4096) (r : Fin 4096) (j : Fin 64) : h.lift (ix1 r) j = ix2 r j := by
  funext a
  match a with
  | ⟨0, _⟩ => rfl
  | ⟨1, _⟩ => rfl

/-- The fold of the kernel's words over a row is the row's first index with the property. -/
theorem row_first (c : IVec S4096x64 1) (v : IVec S1x64 32) (hv : ∀ j : Fin 64, v (ix2 (0 : Fin 1) j) = BitVec.ofNat 32 j.val)
    (hb : S1x64.Broadcasts S4096x64) (hr : S4096x64.Reduces [1] S4096) (hacc) (r : Fin 4096) (hp : ∃ j, c (ix2 r j) = 1) :
    IsFirst (fun j => c (ix2 r j) = 1)
      (multiReductionI .minsi [1] S4096 (select c (broadcastTo S4096x64 v hb) (broadcast S4096x64 64#32)) 2147483647#32 hr hacc (ix1 r)) := by
  rw [multiReductionI_eq_fold]
  show IsFirst _ (Finset.fold IntOp.minsi _ _ _)
  rw [Shape.Reduces.fold_filter_drop_single]
  refine first_fold _ hp _ (by decide) _ (fun j hj => ?_) (fun j hj => ?_)
  · show Scalar.select (c (hr.lift (ix1 r) j)) (broadcastTo S4096x64 v hb (hr.lift (ix1 r) j)) _ = _
    rw [lift_row, Scalar.select, if_pos hj, broadcastTo_1b_ab_apply]
    exact hv j
  · show Scalar.select (c (hr.lift (ix1 r) j)) _ (64#32) = _
    rw [lift_row, Scalar.select, if_neg hj]

/-- The row's least entry. -/
theorem row_min (D : FVec Ideal S4096x64 .f32) (hr : S4096x64.Reduces [1] S4096) (hφ) (hacc) (r : Fin 4096) :
    multiReduction .minimumf [1] S4096 D 0x7F800000#32 hr hφ hacc (ix1 r)
      = (Finset.univ : Finset (Fin 64)).fold min ⊤ (fun j => D (ix2 r j)) := by
  rw [multiReduction_minimumf_eq_fold, Shape.Reduces.fold_filter_drop_single]
  have e : FloatOps.ofBits (F := Ideal) .f32 0x7F800000#32 = (⊤ : EReal) := by
    simp [Ideal.ofBits, Ideal.ieee]
  rw [e]
  exact congrArg (fun f => (Finset.univ : Finset (Fin 64)).fold min ⊤ f) (funext fun j => congrArg D (lift_row hr r j))

/-- The row's greatest entry. -/
theorem row_max (D : FVec Ideal S4096x64 .f32) (hr : S4096x64.Reduces [1] S4096) (hφ) (hacc) (r : Fin 4096) :
    multiReduction .maximumf [1] S4096 D 0xFF800000#32 hr hφ hacc (ix1 r)
      = (Finset.univ : Finset (Fin 64)).fold max ⊥ (fun j => D (ix2 r j)) := by
  rw [Ideal.multiReduction_maximumf_single]
  have e : FloatOps.ofBits (F := Ideal) .f32 0xFF800000#32 = (⊥ : EReal) := by
    simp [Ideal.ofBits, Ideal.ieee]
  rw [e]
  exact congrArg (fun f => (Finset.univ : Finset (Fin 64)).fold max ⊥ f) (funext fun j => congrArg D (lift_row hr r j))

/-- The row of words 0, 1, …, 63. -/
theorem iota_row (h) (j : Fin 64) : iota .tc S1x64 32 [1] h (ix2 (0 : Fin 1) j) = BitVec.ofNat 32 j.val := by
  rw [iota_single_apply]

/-- The least entries of the rows, along the rows. -/
theorem pay3_apply (v14 v64 x) (r : Fin 4096) (j : Fin 64) : k0_pay3 (F := Ideal) v14 v64 x (ix2 r j)
    = (Finset.univ : Finset (Fin 64)).fold min ⊤ (fun j => k0_pay2 (F := Ideal) v14 v64 x (ix2 r j)) := by
  unfold k0_pay3
  exact (bcol _ _ r j).trans ((shapeCast_a_a1_apply _ _ _ _).trans (row_min _ _ _ _ r))

/-- The kernel's word of a row: the first index of the row's least entry. -/
theorem pay13_first (v14 v64 x) (r : Fin 4096) :
    IsFirst (fun j => ∀ i, k0_pay2 (F := Ideal) v14 v64 x (ix2 r j) ≤ k0_pay2 (F := Ideal) v14 v64 x (ix2 r i))
      (k0_pay13 (F := Ideal) (iota .tc S1x64 32 [1] iota_S1x64_d1_w32) (k0_pay2 v14 v64 x) (k0_pay3 v14 v64 x) (ix2 r (0 : Fin 1))) := by
  unfold k0_pay13 k0_pay12
  have key : ∀ j, cmpf (F := Ideal) .oeq (k0_pay2 v14 v64 x) (k0_pay3 v14 v64 x) (ix2 r j) = 1
      ↔ ∀ i, k0_pay2 (F := Ideal) v14 v64 x (ix2 r j) ≤ k0_pay2 (F := Ideal) v14 v64 x (ix2 r i) := fun j => by
    show FloatOps.cmpf (F := Ideal) (φ := .f32) .oeq _ _ = 1 ↔ _
    rw [oeq_iff, pay3_apply]
    exact eq_min_iff (fun j => k0_pay2 (F := Ideal) v14 v64 x (ix2 r j)) j
  have hp : ∃ j, cmpf (F := Ideal) .oeq (k0_pay2 v14 v64 x) (k0_pay3 v14 v64 x) (ix2 r j) = 1 := by
    obtain ⟨j, hj⟩ := exists_min (fun j => k0_pay2 (F := Ideal) v14 v64 x (ix2 r j))
    exact ⟨j, (key j).2 ((eq_min_iff (fun j => k0_pay2 (F := Ideal) v14 v64 x (ix2 r j)) j).1 hj)⟩
  have h := row_first _ (shapeCast S1x64 (iota .tc S1x64 32 [1] iota_S1x64_d1_w32) shapeCasts_S1x64_S1x64)
    (fun j => by rw [Idealize.ShloMosaic.shapeCast_self]; exact iota_row _ j)
    broadcasts_S1x64_S4096x64 reduces_S4096x64_S4096 rfl r hp
  have h2 := h.congr key
  show IsFirst _ (shapeCast S4096x1 (shapeCast S4096x1 _ _) _ (ix2 r (0 : Fin 1)))
  rw [Idealize.ShloMosaic.shapeCast_self, shapeCast_a_a1_apply]
  exact h2

end Cert.Proof
-- ==== Proof.Carry.lean ====
module

public import proofs.«01_k».proof.Proof.Argmin

/-! What one round of the host's loop carries to the next, as functions of what the last one carried, and the labels that the scatter reads. -/

@[expose] public section

noncomputable section

namespace Cert.Proof

open Cert.KernelIdeal Cert.KernelIdeal.Gen

open Idealize.ShloMosaic hiding ix1 ix2 ix3
open Idealize.ShloMosaic.TcCoe Idealize.ShloMosaic.Tactic
open Idealize.ShloMosaic.ValueIdx
open Idealize.ShloMosaic.StableHlo (after held)
open Idealize.ShloMosaic.Pipeline (CSeg Ticket Dat)

/-! ## The labels -/

/-- Every label of the assignment is below 64. -/
theorem amin_lt (x : S16384x128.Idx → EReal) (s p : S64x128.Idx → EReal) (n : S64x1.Idx → EReal) (y : S16384x1.Idx) :
    (Assign.amin (F := Ideal) x s n p y).toNat < 64 := by
  unfold Assign.amin tiles Assign.aminTile
  have e : (ix2 (Fin.ofNat 4096 (y 0).val) (y 1) : S4096x1.Idx) = ix2 (Fin.ofNat 4096 (y 0).val) (0 : Fin 1) :=
    congrArg (fun z : Fin 1 => (ix2 (Fin.ofNat 4096 (y 0).val) z : S4096x1.Idx)) (Subsingleton.elim _ _)
  rw [e]
  exact (pay13_first _ _ _ _).lt

/-- The labels laid out in four blocks. -/
abbrev labels (x : S16384x128.Idx → EReal) (s p : S64x128.Idx → EReal) (n : S64x1.Idx → EReal) : S4x1x4096.Idx → BitVec 32 :=
  shapeCast S4x1x4096 (Assign.amin (F := Ideal) x s n p) shapeCasts_S16384x1_S4x1x4096

section Fold

variable (W : Dev nD → Valuation τ sig (Elt Ideal)) (c : Dev nD)

/-- The rows, the sums, the counts and the last centroids that a round starts from. -/
abbrev emb : S16384x128.Idx → EReal := W c main_v3_0

/-- The sums that a round starts from. -/
abbrev sum : S64x128.Idx → EReal := W c main_v3_4

/-- The counts that a round starts from. -/
abbrev num : S64x1.Idx → EReal := W c main_v3_5

/-- The last centroids that a round starts from. -/
abbrev old : S64x128.Idx → EReal := W c main_v3_6

/-- The scatter reads the labels of the assignment. -/
theorem Wb_7 : Wb W c main_while0b_v7 = labels (emb W c) (sum W c) (old W c) (num W c) := by
  dsimp only [Wb]
  rw [while0Ops1, StableHlo.after_cons, StableHlo.after_nil, StableHlo.reshape_result, Wr_5, Assign.arr5]
  dsimp only [Va]
  rw [Wa_of_ne _ _ _ (by decide), Wa_of_ne _ _ _ (by decide), Wa_of_ne _ _ _ (by decide), Wa_of_ne _ _ _ (by decide)]
  rfl

/-- The references that a round writes up to the end of the scatter. -/
abbrev late : List (Ref sig .tc) :=
  [main_while0c_c_9, main_while0c_v5, main_while0b_c_9, main_while0b_v5, main_while0b_v6_0, main_while0b_v6_1, main_while0b_v6_2, main_while0b_v6_3,
    main_while0b_v7, main_while0b_v8]
/-- The references that its last stretch writes. -/
abbrev last : List (Ref sig .tc) :=
  [main_while0b_v9, main_while0b_c_10, main_while0b_v10, main_v3_2, main_v3_3, main_v3_4, main_v3_5, main_v3_6]

/-- Up to the end of the scatter every buffer that the round does not write is left alone. -/
theorem Ws_keep (b : Ref sig .tc) (h : b ∉ late) : Ws W c b = W c b := by
  have hh := h
  simp only [List.mem_cons, List.mem_nil_iff, or_false, not_or] at hh
  rw [Ws_of_ne _ _ _ (by tauto), Wb_of_ne _ _ _ (by tauto), Wr_of_ne _ _ _ (by simp only [List.mem_cons, List.mem_nil_iff, or_false]; tauto),
    Wa_of_ne _ _ _ (by simp only [List.mem_cons, List.mem_nil_iff, or_false]; tauto)]

/-- The last stretch leaves every buffer that it does not write alone. -/
theorem Wn_of_ne (b : Ref sig .tc) (h : b ∉ last) : Wn W c b = Ws W c b := by
  simp only [List.mem_cons, List.mem_nil_iff, or_false, not_or] at h
  refine notw (fun op hop => ?_) _
  fin_cases hop
  · exact fun hm => StableHlo.devRef_ne_of_ne h.1 (Finset.mem_singleton.mp hm)
  · exact fun hm => StableHlo.devRef_ne_of_ne h.2.1 (Finset.mem_singleton.mp hm)
  · exact fun hm => StableHlo.devRef_ne_of_ne h.2.2.1 (Finset.mem_singleton.mp hm)
  · exact fun hm => StableHlo.devRef_ne_of_ne h.2.2.2.1 (Finset.mem_singleton.mp hm)
  · exact fun hm => StableHlo.devRef_ne_of_ne h.2.2.2.2.1 (Finset.mem_singleton.mp hm)
  · exact fun hm => StableHlo.devRef_ne_of_ne h.2.2.2.2.2.1 (Finset.mem_singleton.mp hm)
  · exact fun hm => StableHlo.devRef_ne_of_ne h.2.2.2.2.2.2.1 (Finset.mem_singleton.mp hm)
  · exact fun hm => StableHlo.devRef_ne_of_ne h.2.2.2.2.2.2.2 (Finset.mem_singleton.mp hm)

/-- A buffer that a round does not write is carried through it. -/
theorem Wn_keep (b : Ref sig .tc) (h : b ∉ late) (h' : b ∉ last) : Wn W c b = W c b := (Wn_of_ne W c b h').trans (Ws_keep W c b h)

/-- The last stretch's own operations: the three that carry a result round read it through a copy. -/
theorem last_4 (X : Valuation τ sig (Elt Ideal)) : after while0Ops2 X main_v3_4 = X main_while0b_v8 := by
  rw [while0Ops2, StableHlo.after_cons, StableHlo.after_cons, StableHlo.after_cons, StableHlo.after_cons, StableHlo.after_cons,
    StableHlo.after_cons, StableHlo.after_cons, StableHlo.after_cons, StableHlo.after_nil]
  rw [StableHlo.unary_result_ne _ _ _ _ _ _ (by decide), StableHlo.unary_result_ne _ _ _ _ _ _ (by decide), StableHlo.unary_result]
  rw [StableHlo.unary_result_ne _ _ _ _ _ _ (by decide), StableHlo.unary_result_ne _ _ _ _ _ _ (by decide),
    StableHlo.binary_result_ne _ _ _ _ _ _ _ _ (by decide), StableHlo.nullary_result_ne _ _ _ _ (by decide)]
  exact StableHlo.reshape_result_ne _ _ _ _ _ _ _ (by decide)

/-- The next round starts with the centroids that the assignment wrote as its last ones. -/
theorem last_6 (X : Valuation τ sig (Elt Ideal)) : after while0Ops2 X main_v3_6 = X main_while0b_v6_2 := by
  rw [while0Ops2, StableHlo.after_cons, StableHlo.after_cons, StableHlo.after_cons, StableHlo.after_cons, StableHlo.after_cons,
    StableHlo.after_cons, StableHlo.after_cons, StableHlo.after_cons, StableHlo.after_nil]
  rw [StableHlo.unary_result]
  rw [StableHlo.unary_result_ne _ _ _ _ _ _ (by decide), StableHlo.unary_result_ne _ _ _ _ _ _ (by decide),
    StableHlo.unary_result_ne _ _ _ _ _ _ (by decide), StableHlo.unary_result_ne _ _ _ _ _ _ (by decide),
    StableHlo.binary_result_ne _ _ _ _ _ _ _ _ (by decide), StableHlo.nullary_result_ne _ _ _ _ (by decide)]
  exact StableHlo.reshape_result_ne _ _ _ _ _ _ _ (by decide)

/-- The next round starts with the counts that the assignment wrote, as a column. -/
theorem last_5 (X : Valuation τ sig (Elt Ideal)) :
    after while0Ops2 X main_v3_5 = shapeCast S64x1 (X main_while0b_v6_1 : S1x64.Idx → EReal) shapeCasts_S1x64_S64x1 := by
  rw [while0Ops2, StableHlo.after_cons, StableHlo.after_cons, StableHlo.after_cons, StableHlo.after_cons, StableHlo.after_cons,
    StableHlo.after_cons, StableHlo.after_cons, StableHlo.after_cons, StableHlo.after_nil]
  rw [StableHlo.unary_result_ne _ _ _ _ _ _ (by decide), StableHlo.unary_result]
  rw [StableHlo.unary_result_ne _ _ _ _ _ _ (by decide),
    StableHlo.unary_result_ne _ _ _ _ _ _ (by decide), StableHlo.unary_result_ne _ _ _ _ _ _ (by decide),
    StableHlo.binary_result_ne _ _ _ _ _ _ _ _ (by decide), StableHlo.nullary_result_ne _ _ _ _ (by decide)]
  exact StableHlo.reshape_result ..

/-- The rows are carried round. -/
theorem Wn_0 : emb (Wn W) c = emb W c := Wn_keep W c _ (by decide) (by decide)

/-- The sums that a round leaves: at every centroid the sum of the rows with its label. -/
theorem Wn_4 : sum (Wn W) c = Scatter.segSum (labels (emb W c) (sum W c) (old W c) (num W c)) (emb W c) 16384 := by
  show after while0Ops2 (Ws W c) main_v3_4 = _
  rw [last_4, Ws_3, Scatter.arr3]
  dsimp only [Vb]
  rw [Wb_7, Wb_of_ne _ _ _ (by decide), Wr_of_ne _ _ _ (by decide), Wa_of_ne _ _ _ (by decide)]

/-- The counts that a round leaves. -/
theorem Wn_5 : num (Wn W) c = shapeCast S64x1 (Assign.cnt (F := Ideal) (emb W c) (sum W c) (num W c) (old W c)) shapeCasts_S1x64_S64x1 := by
  show after while0Ops2 (Ws W c) main_v3_5 = _
  rw [last_5, Ws_of_ne _ _ _ (by decide), Wb_of_ne _ _ _ (by decide), Wr_6, Assign.arr6]
  dsimp only [Va]
  rw [Wa_of_ne _ _ _ (by decide), Wa_of_ne _ _ _ (by decide), Wa_of_ne _ _ _ (by decide), Wa_of_ne _ _ _ (by decide)]

/-- The centroids that a round leaves. -/
theorem Wn_6 : old (Wn W) c = k0_pay4 (F := Ideal) (sum W c) (num W c) (old W c) := by
  show after while0Ops2 (Ws W c) main_v3_6 = _
  rw [last_6, Ws_of_ne _ _ _ (by decide), Wb_of_ne _ _ _ (by decide), Wr_7, Assign.arr7]
  dsimp only [Va]
  rw [Wa_of_ne _ _ _ (by decide), Wa_of_ne _ _ _ (by decide), Wa_of_ne _ _ _ (by decide)]

end Fold

variable (W₀ : Dev nD → Valuation τ sig (Elt Ideal))

/-- In every round the labels are below 64. -/
theorem hlab (k : ℕ) : Scatter.Labels (Vb (Wk W₀ k)) := fun c j => by
  show (Wb (Wk W₀ k) c main_while0b_v7 j).toNat < 64
  rw [Wb_7]
  exact amin_lt _ _ _ _ _

/-- A buffer that no round writes is what it was at the loop's entry. -/
theorem Wk_keep (c : Dev nD) (b : Ref sig .tc) (h : b ∉ late) (h' : b ∉ last) : ∀ k, Wk W₀ k c b = W₀ c b
  | 0 => rfl
  | k + 1 => (Wn_keep (Wk W₀ k) c b h h').trans (Wk_keep c b h h' k)

/-- The condition writes its own two buffers. -/
theorem Wc_of_ne (W : Dev nD → Valuation τ sig (Elt Ideal)) (c : Dev nD) (b : Ref sig .tc) (h : b ∉ early) : Wc W c b = W c b := by
  simp only [List.mem_cons, List.mem_nil_iff, or_false, not_or] at h
  refine notw (fun op hop => ?_) _
  fin_cases hop
  · exact fun hm => StableHlo.devRef_ne_of_ne h.1 (Finset.mem_singleton.mp hm)
  · exact fun hm => StableHlo.devRef_ne_of_ne h.2.1 (Finset.mem_singleton.mp hm)

end Cert.Proof
-- ==== Proof.Run.lean ====
module

public import proofs.«01_k».proof.Proof.Carry

/-! The run of the whole kernel: the start of the host's program, its loop, the last call; what every run ends with. -/

@[expose] public section

noncomputable section

namespace Cert.Proof

open Cert.KernelIdeal Cert.KernelIdeal.Gen

open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (CSeg Ticket Dat)

local notation "𝕄" => MT nD τ sig Unit (Elt Ideal) ℕ UU ℕ

variable (m : (ℓ : Loc nD τ sig) → Buf (Elt Ideal) ℓ)

/-- The contents at the launch of the program. -/
abbrev Wl (c : Dev nD) : Valuation τ sig (Elt Ideal) := fun b => m (c, b)
/-- The contents as the loop is entered. -/
abbrev We (c : Dev nD) : Valuation τ sig (Elt Ideal) := after hostOps0 (Wl m c)

set_option maxRecDepth 100000 in
/-- The counter starts at zero. -/
theorem We_ctr (c : Dev nD) : We m c main_v3_2 = fun _ => (0#32 : BitVec 32) := by
  dsimp only [We]
  rw [hostOps0, StableHlo.after_cons, StableHlo.after_cons, StableHlo.after_cons, StableHlo.after_cons, StableHlo.after_cons,
    StableHlo.after_cons, StableHlo.after_cons, StableHlo.after_cons, StableHlo.after_cons, StableHlo.after_cons, StableHlo.after_cons,
    StableHlo.after_cons, StableHlo.after_cons, StableHlo.after_cons, StableHlo.after_cons, StableHlo.after_nil]
  rw [StableHlo.unary_result_ne _ _ _ _ _ _ (by decide), StableHlo.unary_result_ne _ _ _ _ _ _ (by decide),
    StableHlo.unary_result_ne _ _ _ _ _ _ (by decide), StableHlo.unary_result_ne _ _ _ _ _ _ (by decide), StableHlo.unary_result,
    StableHlo.unary_result_ne _ _ _ _ _ _ (by decide), StableHlo.unary_result_ne _ _ _ _ _ _ (by decide), StableHlo.nullary_result]
  rfl

/-- The contents after the last call. -/
def Wz (c : Dev nD) : Valuation τ sig (Elt Ideal) :=
  Function.update (Wc (Wk (We m) 25) c) (Proc.devRef .tc main_v4) ((Final.dat (Vf (We m)) c).arrAt 4 cfg2.N)

/-- What the last launch leaves as the result. -/
theorem Wz_4 (c : Dev nD) : Wz m c main_v4 = (Final.dat (Vf (We m)) c).arrAt 4 cfg2.N := Function.update_self ..

/-- The last launch writes one array only. -/
theorem Wz_of_ne (c : Dev nD) (b : Ref sig .tc) (h : b ≠ main_v4) : Wz m c b = Vf (We m) c b :=
  Function.update_of_ne (StableHlo.devRef_ne_of_ne h) ..

set_option maxHeartbeats 2000000 in
set_option maxRecDepth 100000 in
/-- The contents after the last launch are those of its windows. -/
theorem Wz_out (c : Dev nD) : ∀ w, Wz m c (Pipeline.arrRef spec2 w) = (Final.dat (Vf (We m)) c).arrAt w cfg2.N
  | ⟨0, _⟩ => (Wz_of_ne m c main_arg0 (by decide)).trans (Dat.arrAt_in (dat := Final.dat (Vf (We m)) c) 0 rfl _).symm
  | ⟨1, _⟩ => (Wz_of_ne m c main_v3_4 (by decide)).trans (Dat.arrAt_in (dat := Final.dat (Vf (We m)) c) 1 rfl _).symm
  | ⟨2, _⟩ => (Wz_of_ne m c main_v3_5 (by decide)).trans (Dat.arrAt_in (dat := Final.dat (Vf (We m)) c) 2 rfl _).symm
  | ⟨3, _⟩ => (Wz_of_ne m c main_v3_6 (by decide)).trans (Dat.arrAt_in (dat := Final.dat (Vf (We m)) c) 3 rfl _).symm
  | ⟨4, _⟩ => Wz_4 m c
  | ⟨_ + 5, h⟩ => absurd h (Nat.not_lt.2 (Nat.le_add_left _ _))

/-- An array that is no window of the last launch is untouched. -/
theorem Wz_ne (c : Dev nD) (b : Ref sig .tc) (h : b ∉ Finset.univ.image (Pipeline.arrRef spec2)) : Wz m c b = Vf (We m) c b :=
  Wz_of_ne m c b fun e => h (Finset.mem_image.mpr ⟨4, Finset.mem_univ _, e.symm⟩)

/-- An argument is as the program found it. -/
theorem Wz_arg (c : Dev nD) (b : Ref sig .tc) (h : b ≠ main_v4) (he : b ∉ early) (hl : b ∉ late) (hl' : b ∉ last) (h0 : b ∉ Cond.hostOps0_W) :
    Wz m c b = m (c, b) := by
  rw [Wz_of_ne m c b h]
  dsimp only [Vf]
  rw [Wc_of_ne _ _ _ he, Wk_keep _ _ _ hl hl']
  exact Cond.V1_of m c b h0

variable (adm : (p : Fin 3) → (pcfgs (F := Ideal) p).Adm)

/-- The program's three segments. -/
def segsM : List (CSeg (pcfgs (F := Ideal)) adm defs₀ Variants.none noLev lev loops (tk (We m) adm)) :=
  [ CSeg.ofOps _ _ _ _ _ _ _ _ ucRefs hostOps0 (sub_of_forall hostOps0_sub)
      (by intro op h; fin_cases h <;> rfl) (Wl m) (Rw fun _ => BI.emp),
    loop0 (We m) adm (hlab (We m)) (fun _ => BI.emp) (We_ctr m),
    CSeg.region _ _ () cellOf_inj _ _ _ _ _ _ (none : Tick)
      (Final.reg (Vf (We m)) adm (fun c b => Wz m c b) (fun _ => BI.emp) (Wz_out m) (Wz_ne m)) ]

/-- The launch's state of a device. -/
abbrev T0 (c : Dev nD) : sProp 𝕄 := iprop(held (c : Thread nD τ) ucRefs (Wl m c) ∗ Rw (fun _ => BI.emp) c)
/-- The end's. -/
abbrev Tz (c : Dev nD) : sProp 𝕄 := held (c : Thread nD τ) ucRefs (Wz m c)

/-- The segments of the program follow one another, from the state at the start to the state at the end. -/
theorem segsM_chain : CSeg.Chains (T0 m) (segsM m adm) fun c => iprop(Tz m c ∗ ∃ W, owes (c.tc : Thread nD τ) (0 : CellTallies nD τ sig Unit) W) := by
  refine ⟨fun _ => .rfl, fun _ => .rfl, fun c => ?_, fun c => ?_⟩
  · exact Entails.of_eq (thread_eq (fun _ => BI.emp) (Wc (Wk (We m) 25) c) c)
  · refine (Entails.of_eq (thread_eq (fun _ => BI.emp) (Wz m c) c).symm).trans ?_
    iintro ⟨Hh, -, HO⟩
    isplitl [Hh] <;> iassumption

/-- The segments of the program use different launches. -/
theorem segsM_disjoint : (segsM m adm).Pairwise fun s s' => Disjoint s.T s'.T := by
  unfold segsM
  simp only [List.pairwise_cons, List.mem_cons, List.mem_nil_iff, or_false, forall_eq_or_imp, forall_eq, List.Pairwise.nil, and_true,
    IsEmpty.forall_iff, implies_true]
  refine ⟨⟨Finset.disjoint_empty_left _, Finset.disjoint_empty_left _⟩, ?_⟩
  show Disjoint ((Finset.range 25).biUnion Tk) {(none : Tick)}
  rw [Finset.disjoint_singleton_right]
  decide

/-- What the launch deals every device is its first state. -/
theorem hinit (ρ : Dev nD → PrngReg) :
    iprop((bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp)) ∗ levAts noLev lev)
      ⊢ (|={Set.univ}=> bigSep Finset.univ (T0 m) : sProp 𝕄) := by
  have h1 (c : Dev nD) : iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp) ⊢ T0 m c := by
    rw [show unscopedBufs c (fun b => m ((c : Thread nD τ).loc b)) = held (c : Thread nD τ) ucRefs (Wl m c) from Pipeline.unscopedBufs_held c (Wl m c)]
    iintro ⟨Hh, -, HO, -⟩
    isplitl [Hh]; · iexact Hh
    isplitr; · iempintro
    iexists ∅; iexact HO
  iintro ⟨H, -⟩
  imodintro
  ihave H' := (show _ ⊢ bigSep Finset.univ (T0 m) from bigSep_mono fun c _ => h1 c) $$ H
  iexact H'

set_option backward.isDefEq.respectTransparency.types false in
/-- THE RUN: from any memory every execution ends, every buffer that outlives the launches at `Wz`, every semaphore at zero. -/
theorem run_main (adm : (p : Fin 3) → (pcfgs (F := Ideal) p).Adm) (ρ : Dev nD → PrngReg) : θ_run (defs (F := Ideal)) (onTc (τ := τ) (main (F := Ideal))) ⟨m, fun _ => 0, ρ⟩
    (fun r => (∀ (c : Dev nD), ∀ b ∈ ucRefs, r.2.mem (((c : Thread nD τ)).1, b) = Wz m c b) ∧ r.2.sem = fun _ => 0) :=
  Pipeline.θ_run_regions_loop_kit_sems (pcfgs (F := Ideal)) adm cellOf_inj defs₀ Variants.none noLev lev loops (tk (We m) adm) m ρ main (segsM m adm)
    (fun c Q => by
      rewrite [main_chain c, CSeg.runL, show (segsM m adm).map CSeg.prog =
        [StableHlo.seq hostOps0, HostLoop.enter 0, Prog.lift (.customCall (HostLoop.inner (Pipeline.entry 2)) ())] from rfl]
      exact .rfl)
    (segsM_disjoint m adm)
    (O₀ := fun _ => 0) (hL := fun _ _ => rfl) (G := fun _ => BI.emp)
    (u₀ := ((fun _ => initOf (Pipeline.cells (Pipeline.pin (pcfgs (F := Ideal)) adm) cellOf_inj)
      (Pipeline.launchToks (Pipeline.pin (pcfgs (F := Ideal)) adm) cellOf_inj)), 1))
    (hu₀ := by
      iintro Hu
      ihave H := (ownU_pair _ _) $$ Hu
      icases H with ⟨HX, -⟩
      imodintro
      isplitl [HX]
      · ihave H := (own_iprod _) $$ HX
        rw [show (fun j => BI.own ((tk (We m) adm j).EP (initOf (Pipeline.cells (Pipeline.pin (pcfgs (F := Ideal)) adm) cellOf_inj)
            (Pipeline.launchToks (Pipeline.pin (pcfgs (F := Ideal)) adm) cellOf_inj))) : Tick → sProp 𝕄)
          = fun j => BI.own (embAt j (initOf (Pipeline.cells (Pipeline.pin (pcfgs (F := Ideal)) adm) cellOf_inj)
            (Pipeline.launchToks (Pipeline.pin (pcfgs (F := Ideal)) adm) cellOf_inj))) from funext fun j => by
              match j with
              | none => rfl
              | some (_, false) => rfl
              | some (_, true) => rfl]
        iexact H
      · rw [bigSep_emp_const]; iempintro)
    (T₀ := T0 m) (Tₙ := Tz m)
    (hch := segsM_chain m adm)
    (hinit := hinit m ρ)
    (QY := fun c s => ∀ b ∈ ucRefs, s.mem (((c : Thread nD τ)).1, b) = Wz m c b)
    (hfin := fun c s' => by
      unfold Tz StableHlo.held
      iintro ⟨Hh, HSI⟩
      ihave Hp := (pointsTo_read_all ucRefs (fun b => (((c : Thread nD τ)).1, b)) (Wz m c) s') $$ [Hh HSI]
      · isplitl [Hh] <;> iassumption
      icases Hp with ⟨%hb, HSI⟩
      imodintro
      isplitr
      · ipureintro; exact hb
      · iexact HSI)
    (hQ := fun _ h hz => ⟨h, funext fun g => hz g (.inr (Cond.regions_no_unscoped g.2))⟩)

end Cert.Proof
-- ==== Proof.RefOps.lean ====
module

public import proofs.«01_k».proof.Proof.Run
public import proofs.«01_k».proof.Proof.Gen.ReferenceIdeal
public import Idealize.ShloMosaic.Lib.Pipeline.Regions
public import Idealize.ShloMosaic.Lib.StableHlo.RunLoop
public import Idealize.ShloMosaic.Lib.StableHlo.RunRead

/-! The host operations of the reference program, stretch by stretch, and its function and loop body as chains of the stretches. -/

@[expose] public section

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The operations before the loop. -/
abbrev preOps : List (HloOp τ sig (Elt F)) :=
  [ StableHlo.unary main_arg0 main_v0 ((extractStridedSlice S64x128 ![0, 0] · slices_S16384x128_S64x128_0_0) : (⟨S16384x128, .f32⟩ : BufTy).Contents (Elt F) → (⟨S64x128, .f32⟩ : BufTy).Contents (Elt F)),
    StableHlo.nullary main_c (constantI S_ 32 0#32),
    StableHlo.unary main_arg0 main_v1_0 id,
    StableHlo.unary main_c main_v1_1 id,
    StableHlo.unary main_v0 main_v1_2 id ]

/-- The operations before the loop touch only the core's buffers. -/
theorem preOps_sub : (preOps : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub ..⟩

/-- The operations before the loop allocate nothing. -/
theorem preOps_fresh : (preOps : List (HloOp τ sig (Elt F))).Forall fun op => op.fresh = ∅ :=
  StableHlo.forall_fresh_of_map rfl
/-- The references they write. -/
abbrev preOps_W : List (Ref sig .tc) := [main_v0, main_c, main_v1_0, main_v1_1, main_v1_2]

/-- The operations before the loop write those references only. -/
theorem preOps_writes : (preOps : List (HloOp τ sig (Elt F))).Forall fun op => op.writes ⊆ (preOps_W.map (Proc.devRef (τ := τ) .tc)).toFinset :=
  StableHlo.forall_writes_sub_of_map rfl
/-- The operations of a round up to the distances. -/
abbrev distOps : List (HloOp τ sig (Elt F)) :=
  [ StableHlo.binary main_v1_0 main_v1_0 main_while0b_v28 (mulf : (⟨S16384x128, .f32⟩ : BufTy).Contents (Elt F) → (⟨S16384x128, .f32⟩ : BufTy).Contents (Elt F) → (⟨S16384x128, .f32⟩ : BufTy).Contents (Elt F)),
    StableHlo.nullary main_while0b_cst_7 (constant S_ .f32 0x00000000#32),
    StableHlo.binary main_while0b_v28 main_while0b_cst_7 main_while0b_v29 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_while0b_v29 main_while0b_v30 (broadcastInDim S16384x1 ![0] bcast_S16384_S16384x1_0 : (⟨S16384, .f32⟩ : BufTy).Contents (Elt F) → (⟨S16384x1, .f32⟩ : BufTy).Contents (Elt F)),
    StableHlo.binary main_v1_2 main_v1_2 main_while0b_v31 (mulf : (⟨S64x128, .f32⟩ : BufTy).Contents (Elt F) → (⟨S64x128, .f32⟩ : BufTy).Contents (Elt F) → (⟨S64x128, .f32⟩ : BufTy).Contents (Elt F)),
    StableHlo.nullary main_while0b_cst_8 (constant S_ .f32 0x00000000#32),
    StableHlo.binary main_while0b_v31 main_while0b_cst_8 main_while0b_v32 ((fun x v => Host.reduceAdd x v reducesTo_S64x128_S64_d1 h_S_) : (⟨S64x128, .f32⟩ : BufTy).Contents (Elt F) → (⟨S_, .f32⟩ : BufTy).Contents (Elt F) → (⟨S64, .f32⟩ : BufTy).Contents (Elt F)),
    StableHlo.unary main_while0b_v32 main_while0b_v33 (broadcastInDim S1x64 ![1] bcast_S64_S1x64_1 : (⟨S64, .f32⟩ : BufTy).Contents (Elt F) → (⟨S1x64, .f32⟩ : BufTy).Contents (Elt F)),
    StableHlo.unary main_while0b_v30 main_while0b_v34 (broadcastInDim S16384x64 ![0, 1] bcast_S16384x1_S16384x64_0_1 : (⟨S16384x1, .f32⟩ : BufTy).Contents (Elt F) → (⟨S16384x64, .f32⟩ : BufTy).Contents (Elt F)),
    StableHlo.unary main_while0b_v33 main_while0b_v35 (broadcastInDim S16384x64 ![0, 1] bcast_S1x64_S16384x64_0_1 : (⟨S1x64, .f32⟩ : BufTy).Contents (Elt F) → (⟨S16384x64, .f32⟩ : BufTy).Contents (Elt F)),
    StableHlo.binary main_while0b_v34 main_while0b_v35 main_while0b_v36 (addf : (⟨S16384x64, .f32⟩ : BufTy).Contents (Elt F) → (⟨S16384x64, .f32⟩ : BufTy).Contents (Elt F) → (⟨S16384x64, .f32⟩ : BufTy).Contents (Elt F)),
    StableHlo.unary main_v1_2 main_while0b_v37 ((transpose S128x64 [1, 0] · transposes_S64x128_S128x64_1_0) : (⟨S64x128, .f32⟩ : BufTy).Contents (Elt F) → (⟨S128x64, .f32⟩ : BufTy).Contents (Elt F)),
    StableHlo.binary main_v1_0 main_while0b_v37 main_while0b_v38 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    StableHlo.nullary main_while0b_cst_9 (constant S_ .f32 0x40000000#32),
    StableHlo.unary main_while0b_cst_9 main_while0b_v39 (broadcastInDim S16384x64 ![] bcast_S_S16384x64 : (⟨S_, .f32⟩ : BufTy).Contents (Elt F) → (⟨S16384x64, .f32⟩ : BufTy).Contents (Elt F)),
    StableHlo.binary main_while0b_v39 main_while0b_v38 main_while0b_v40 (mulf : (⟨S16384x64, .f32⟩ : BufTy).Contents (Elt F) → (⟨S16384x64, .f32⟩ : BufTy).Contents (Elt F) → (⟨S16384x64, .f32⟩ : BufTy).Contents (Elt F)),
    StableHlo.binary main_while0b_v36 main_while0b_v40 main_while0b_v41 (subf : (⟨S16384x64, .f32⟩ : BufTy).Contents (Elt F) → (⟨S16384x64, .f32⟩ : BufTy).Contents (Elt F) → (⟨S16384x64, .f32⟩ : BufTy).Contents (Elt F)) ]

/-- The operations of the distances touch only the core's buffers. -/
theorem distOps_sub : (distOps : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

/-- The operations of the distances allocate nothing. -/
theorem distOps_fresh : (distOps : List (HloOp τ sig (Elt F))).Forall fun op => op.fresh = ∅ :=
  StableHlo.forall_fresh_of_map rfl
/-- The references they write. -/
abbrev distOps_W : List (Ref sig .tc) := [main_while0b_v28, main_while0b_cst_7, main_while0b_v29, main_while0b_v30, main_while0b_v31, main_while0b_cst_8, main_while0b_v32, main_while0b_v33, main_while0b_v34, main_while0b_v35, main_while0b_v36, main_while0b_v37, main_while0b_v38, main_while0b_cst_9, main_while0b_v39, main_while0b_v40, main_while0b_v41]

/-- The operations of the distances write those references only. -/
theorem distOps_writes : (distOps : List (HloOp τ sig (Elt F))).Forall fun op => op.writes ⊆ (distOps_W.map (Proc.devRef (τ := τ) .tc)).toFinset :=
  StableHlo.forall_writes_sub_of_map rfl
/-- The operations of the choice of the nearest centroid. -/
abbrev argOps : List (HloOp τ sig (Elt F)) :=
  [ StableHlo.TRef.nullary (.of main_while0b_call0_v0 : StableHlo.TRef sig ⟨S16384x64, .i32⟩) (iotaInDim S16384x64 32 1),
    StableHlo.TRef.nullary (.of main_while0b_call0_cst : StableHlo.TRef sig ⟨S_, .f32⟩) (constant S_ .f32 0x7F800000#32),
    StableHlo.TRef.nullary (.of main_while0b_call0_c : StableHlo.TRef sig ⟨S_, .i32⟩) (constantI S_ 32 0#32),
    StableHlo.TRef.quaternary (.of main_while0b_v41 : StableHlo.TRef sig ⟨S16384x64, .f32⟩) (.of main_while0b_call0_v0 : StableHlo.TRef sig ⟨S16384x64, .i32⟩) (.of main_while0b_call0_cst : StableHlo.TRef sig ⟨S_, .f32⟩) (.of main_while0b_call0_c : StableHlo.TRef sig ⟨S_, .i32⟩) (.of main_while0b_call0_v1_0 : StableHlo.TRef sig ⟨S16384, .f32⟩) (fun x y u v j => (Host.argReduce reducer_argmin_f32_i32 x y u v reducesTo_S16384x64_S16384_d1 h_S_ j).1),
    StableHlo.TRef.quaternary (.of main_while0b_v41 : StableHlo.TRef sig ⟨S16384x64, .f32⟩) (.of main_while0b_call0_v0 : StableHlo.TRef sig ⟨S16384x64, .i32⟩) (.of main_while0b_call0_cst : StableHlo.TRef sig ⟨S_, .f32⟩) (.of main_while0b_call0_c : StableHlo.TRef sig ⟨S_, .i32⟩) (.of main_while0b_v42 : StableHlo.TRef sig ⟨S16384, .i32⟩) (fun x y u v j => (Host.argReduce reducer_argmin_f32_i32 x y u v reducesTo_S16384x64_S16384_d1 h_S_ j).2) ]

/-- The operations of the choice of the nearest centroid touch only the core's buffers. -/
theorem argOps_sub : (argOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The operations of the choice of the nearest centroid allocate nothing. -/
theorem argOps_fresh : (argOps : List (HloOp τ sig (Elt F))).Forall fun op => op.fresh = ∅ :=
  StableHlo.forall_fresh_of_map rfl
/-- The references they write. -/
abbrev argOps_W : List (Ref sig .tc) := [main_while0b_call0_v0, main_while0b_call0_cst, main_while0b_call0_c, main_while0b_call0_v1_0, main_while0b_v42]

/-- The operations of the choice of the nearest centroid write those references only. -/
theorem argOps_writes : (argOps : List (HloOp τ sig (Elt F))).Forall fun op => op.writes ⊆ (argOps_W.map (Proc.devRef (τ := τ) .tc)).toFinset :=
  StableHlo.forall_writes_sub_of_map rfl
/-- The operations of the sums, the counts and the means. -/
abbrev sumOps : List (HloOp τ sig (Elt F)) :=
  [ StableHlo.nullary main_while0b_cst_10 (constant S_ .f32 0x00000000#32),
    StableHlo.unary main_while0b_cst_10 main_while0b_v43 (broadcastInDim S64x128 ![] bcast_S_S64x128 : (⟨S_, .f32⟩ : BufTy).Contents (Elt F) → (⟨S64x128, .f32⟩ : BufTy).Contents (Elt F)),
    StableHlo.unary main_while0b_v42 main_while0b_v44 (broadcastInDim S16384x1 ![0] bcast_S16384_S16384x1_0 : (⟨S16384, .i32⟩ : BufTy).Contents (Elt F) → (⟨S16384x1, .i32⟩ : BufTy).Contents (Elt F)),
    StableHlo.ternary main_while0b_v43 main_while0b_v44 main_v1_0 main_while0b_v45 ((fun x i u => Host.scatterAdd scatter_S64x128_S16384x1_S16384x128_1_0_0_1 x i u) : (⟨S64x128, .f32⟩ : BufTy).Contents (Elt F) → (⟨S16384x1, .i32⟩ : BufTy).Contents (Elt F) → (⟨S16384x128, .f32⟩ : BufTy).Contents (Elt F) → (⟨S64x128, .f32⟩ : BufTy).Contents (Elt F)),
    StableHlo.nullary main_while0b_cst_11 (constant S_ .f32 0x3F800000#32),
    StableHlo.unary main_while0b_cst_11 main_while0b_v46 (broadcastInDim S16384 ![] bcast_S_S16384 : (⟨S_, .f32⟩ : BufTy).Contents (Elt F) → (⟨S16384, .f32⟩ : BufTy).Contents (Elt F)),
    StableHlo.nullary main_while0b_cst_12 (constant S_ .f32 0x00000000#32),
    StableHlo.unary main_while0b_cst_12 main_while0b_v47 (broadcastInDim S64 ![] bcast_S_S64 : (⟨S_, .f32⟩ : BufTy).Contents (Elt F) → (⟨S64, .f32⟩ : BufTy).Contents (Elt F)),
    StableHlo.unary main_while0b_v42 main_while0b_v48 (broadcastInDim S16384x1 ![0] bcast_S16384_S16384x1_0 : (⟨S16384, .i32⟩ : BufTy).Contents (Elt F) → (⟨S16384x1, .i32⟩ : BufTy).Contents (Elt F)),
    StableHlo.ternary main_while0b_v47 main_while0b_v48 main_while0b_v46 main_while0b_v49 ((fun x i u => Host.scatterAdd scatter_S64_S16384x1_S16384_n_0_0_1 x i u) : (⟨S64, .f32⟩ : BufTy).Contents (Elt F) → (⟨S16384x1, .i32⟩ : BufTy).Contents (Elt F) → (⟨S16384, .f32⟩ : BufTy).Contents (Elt F) → (⟨S64, .f32⟩ : BufTy).Contents (Elt F)),
    StableHlo.nullary main_while0b_cst_13 (constant S_ .f32 0x00000000#32),
    StableHlo.unary main_while0b_cst_13 main_while0b_v50 (broadcastInDim S64 ![] bcast_S_S64 : (⟨S_, .f32⟩ : BufTy).Contents (Elt F) → (⟨S64, .f32⟩ : BufTy).Contents (Elt F)),
    StableHlo.binary main_while0b_v49 main_while0b_v50 main_while0b_v51 (cmpf .ogt : (⟨S64, .f32⟩ : BufTy).Contents (Elt F) → (⟨S64, .f32⟩ : BufTy).Contents (Elt F) → (⟨S64, .i1⟩ : BufTy).Contents (Elt F)),
    StableHlo.unary main_while0b_v51 main_while0b_v52 (broadcastInDim S64x1 ![0] bcast_S64_S64x1_0 : (⟨S64, .i1⟩ : BufTy).Contents (Elt F) → (⟨S64x1, .i1⟩ : BufTy).Contents (Elt F)),
    StableHlo.nullary main_while0b_cst_14 (constant S_ .f32 0x3F800000#32),
    StableHlo.unary main_while0b_cst_14 main_while0b_v53 (broadcastInDim S64 ![] bcast_S_S64 : (⟨S_, .f32⟩ : BufTy).Contents (Elt F) → (⟨S64, .f32⟩ : BufTy).Contents (Elt F)),
    StableHlo.binary main_while0b_v49 main_while0b_v53 main_while0b_v54 (maximumf : (⟨S64, .f32⟩ : BufTy).Contents (Elt F) → (⟨S64, .f32⟩ : BufTy).Contents (Elt F) → (⟨S64, .f32⟩ : BufTy).Contents (Elt F)),
    StableHlo.unary main_while0b_v54 main_while0b_v55 (broadcastInDim S64x1 ![0] bcast_S64_S64x1_0 : (⟨S64, .f32⟩ : BufTy).Contents (Elt F) → (⟨S64x1, .f32⟩ : BufTy).Contents (Elt F)),
    StableHlo.unary main_while0b_v55 main_while0b_v56 (broadcastInDim S64x128 ![0, 1] bcast_S64x1_S64x128_0_1 : (⟨S64x1, .f32⟩ : BufTy).Contents (Elt F) → (⟨S64x128, .f32⟩ : BufTy).Contents (Elt F)),
    StableHlo.binary main_while0b_v45 main_while0b_v56 main_while0b_v57 (Host.divf : (⟨S64x128, .f32⟩ : BufTy).Contents (Elt F) → (⟨S64x128, .f32⟩ : BufTy).Contents (Elt F) → (⟨S64x128, .f32⟩ : BufTy).Contents (Elt F)) ]

/-- The operations of the sums, the counts and the means touch only the core's buffers. -/
theorem sumOps_sub : (sumOps : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub ..⟩

/-- The operations of the sums, the counts and the means allocate nothing. -/
theorem sumOps_fresh : (sumOps : List (HloOp τ sig (Elt F))).Forall fun op => op.fresh = ∅ :=
  StableHlo.forall_fresh_of_map rfl
/-- The references they write. -/
abbrev sumOps_W : List (Ref sig .tc) := [main_while0b_cst_10, main_while0b_v43, main_while0b_v44, main_while0b_v45, main_while0b_cst_11, main_while0b_v46, main_while0b_cst_12, main_while0b_v47, main_while0b_v48, main_while0b_v49, main_while0b_cst_13, main_while0b_v50, main_while0b_v51, main_while0b_v52, main_while0b_cst_14, main_while0b_v53, main_while0b_v54, main_while0b_v55, main_while0b_v56, main_while0b_v57]

/-- The operations of the sums, the counts and the means write those references only. -/
theorem sumOps_writes : (sumOps : List (HloOp τ sig (Elt F))).Forall fun op => op.writes ⊆ (sumOps_W.map (Proc.devRef (τ := τ) .tc)).toFinset :=
  StableHlo.forall_writes_sub_of_map rfl
/-- The operations of the choice between the mean and the former centroid. -/
abbrev whereOps : List (HloOp τ sig (Elt F)) :=
  [ StableHlo.TRef.unary (.of main_while0b_v52 : StableHlo.TRef sig ⟨S64x1, .i1⟩) (.of main_while0b_call1_v0 : StableHlo.TRef sig ⟨S64x128, .i1⟩) (broadcastInDim S64x128 ![0, 1] bcast_S64x1_S64x128_0_1),
    StableHlo.TRef.ternary (.of main_while0b_call1_v0 : StableHlo.TRef sig ⟨S64x128, .i1⟩) (.of main_while0b_v57 : StableHlo.TRef sig ⟨S64x128, .f32⟩) (.of main_v1_2 : StableHlo.TRef sig ⟨S64x128, .f32⟩) (.of main_while0b_v58 : StableHlo.TRef sig ⟨S64x128, .f32⟩) select ]

/-- The operations of the choice between the mean and the former centroid touch only the core's buffers. -/
theorem whereOps_sub : (whereOps : List (HloOp τ sig (Elt F))).Forall fun op => op.bufs ⊆ StableHlo.tcRefs τ sig :=
  ⟨StableHlo.unary_bufs_sub .., StableHlo.ternary_bufs_sub ..⟩

/-- The operations of the choice between the mean and the former centroid allocate nothing. -/
theorem whereOps_fresh : (whereOps : List (HloOp τ sig (Elt F))).Forall fun op => op.fresh = ∅ :=
  StableHlo.forall_fresh_of_map rfl
/-- The references they write. -/
abbrev whereOps_W : List (Ref sig .tc) := [main_while0b_call1_v0, main_while0b_v58]

/-- The operations of the choice between the mean and the former centroid write those references only. -/
theorem whereOps_writes : (whereOps : List (HloOp τ sig (Elt F))).Forall fun op => op.writes ⊆ (whereOps_W.map (Proc.devRef (τ := τ) .tc)).toFinset :=
  StableHlo.forall_writes_sub_of_map rfl
/-- The operations that carry the round's results over. -/
abbrev nextOps : List (HloOp τ sig (Elt F)) :=
  [ StableHlo.nullary main_while0b_c_15 (constantI S_ 32 1#32),
    StableHlo.binary main_v1_1 main_while0b_c_15 main_while0b_v59 (addi : (⟨S_, .i32⟩ : BufTy).Contents (Elt F) → (⟨S_, .i32⟩ : BufTy).Contents (Elt F) → (⟨S_, .i32⟩ : BufTy).Contents (Elt F)),
    StableHlo.unary main_while0b_v59 main_v1_1 id,
    StableHlo.unary main_while0b_v58 main_v1_2 id ]

/-- The operations that carry the round's results over touch only the core's buffers. -/
theorem nextOps_sub : (nextOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩

/-- The operations that carry the round's results over allocate nothing. -/
theorem nextOps_fresh : (nextOps : List (HloOp τ sig (Elt F))).Forall fun op => op.fresh = ∅ :=
  StableHlo.forall_fresh_of_map rfl
/-- The references they write. -/
abbrev nextOps_W : List (Ref sig .tc) := [main_while0b_c_15, main_while0b_v59, main_v1_1, main_v1_2]

/-- The operations that carry the round's results over write those references only. -/
theorem nextOps_writes : (nextOps : List (HloOp τ sig (Elt F))).Forall fun op => op.writes ⊆ (nextOps_W.map (Proc.devRef (τ := τ) .tc)).toFinset :=
  StableHlo.forall_writes_sub_of_map rfl
/-- The operations after the loop. -/
abbrev lastOps : List (HloOp τ sig (Elt F)) :=
  [ StableHlo.binary main_arg0 main_arg0 main_v2 (mulf : (⟨S16384x128, .f32⟩ : BufTy).Contents (Elt F) → (⟨S16384x128, .f32⟩ : BufTy).Contents (Elt F) → (⟨S16384x128, .f32⟩ : BufTy).Contents (Elt F)),
    StableHlo.nullary main_cst (constant S_ .f32 0x00000000#32),
    StableHlo.binary main_v2 main_cst main_v3 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v3 main_v4 (broadcastInDim S16384x1 ![0] bcast_S16384_S16384x1_0 : (⟨S16384, .f32⟩ : BufTy).Contents (Elt F) → (⟨S16384x1, .f32⟩ : BufTy).Contents (Elt F)),
    StableHlo.binary main_v1_2 main_v1_2 main_v5 (mulf : (⟨S64x128, .f32⟩ : BufTy).Contents (Elt F) → (⟨S64x128, .f32⟩ : BufTy).Contents (Elt F) → (⟨S64x128, .f32⟩ : BufTy).Contents (Elt F)),
    StableHlo.nullary main_cst_0 (constant S_ .f32 0x00000000#32),
    StableHlo.binary main_v5 main_cst_0 main_v6 ((fun x v => Host.reduceAdd x v reducesTo_S64x128_S64_d1 h_S_) : (⟨S64x128, .f32⟩ : BufTy).Contents (Elt F) → (⟨S_, .f32⟩ : BufTy).Contents (Elt F) → (⟨S64, .f32⟩ : BufTy).Contents (Elt F)),
    StableHlo.unary main_v6 main_v7 (broadcastInDim S1x64 ![1] bcast_S64_S1x64_1 : (⟨S64, .f32⟩ : BufTy).Contents (Elt F) → (⟨S1x64, .f32⟩ : BufTy).Contents (Elt F)),
    StableHlo.unary main_v4 main_v8 (broadcastInDim S16384x64 ![0, 1] bcast_S16384x1_S16384x64_0_1 : (⟨S16384x1, .f32⟩ : BufTy).Contents (Elt F) → (⟨S16384x64, .f32⟩ : BufTy).Contents (Elt F)),
    StableHlo.unary main_v7 main_v9 (broadcastInDim S16384x64 ![0, 1] bcast_S1x64_S16384x64_0_1 : (⟨S1x64, .f32⟩ : BufTy).Contents (Elt F) → (⟨S16384x64, .f32⟩ : BufTy).Contents (Elt F)),
    StableHlo.binary main_v8 main_v9 main_v10 (addf : (⟨S16384x64, .f32⟩ : BufTy).Contents (Elt F) → (⟨S16384x64, .f32⟩ : BufTy).Contents (Elt F) → (⟨S16384x64, .f32⟩ : BufTy).Contents (Elt F)),
    StableHlo.unary main_v1_2 main_v11 ((transpose S128x64 [1, 0] · transposes_S64x128_S128x64_1_0) : (⟨S64x128, .f32⟩ : BufTy).Contents (Elt F) → (⟨S128x64, .f32⟩ : BufTy).Contents (Elt F)),
    StableHlo.binary main_arg0 main_v11 main_v12 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    StableHlo.nullary main_cst_1 (constant S_ .f32 0x40000000#32),
    StableHlo.unary main_cst_1 main_v13 (broadcastInDim S16384x64 ![] bcast_S_S16384x64 : (⟨S_, .f32⟩ : BufTy).Contents (Elt F) → (⟨S16384x64, .f32⟩ : BufTy).Contents (Elt F)),
    StableHlo.binary main_v13 main_v12 main_v14 (mulf : (⟨S16384x64, .f32⟩ : BufTy).Contents (Elt F) → (⟨S16384x64, .f32⟩ : BufTy).Contents (Elt F) → (⟨S16384x64, .f32⟩ : BufTy).Contents (Elt F)),
    StableHlo.binary main_v10 main_v14 main_v15 (subf : (⟨S16384x64, .f32⟩ : BufTy).Contents (Elt F) → (⟨S16384x64, .f32⟩ : BufTy).Contents (Elt F) → (⟨S16384x64, .f32⟩ : BufTy).Contents (Elt F)),
    StableHlo.nullary main_cst_2 (constant S_ .f32 0x00000000#32),
    StableHlo.unary main_cst_2 main_v16 (broadcastInDim S16384x64 ![] bcast_S_S16384x64 : (⟨S_, .f32⟩ : BufTy).Contents (Elt F) → (⟨S16384x64, .f32⟩ : BufTy).Contents (Elt F)),
    StableHlo.binary main_v15 main_v16 main_v17 (maximumf : (⟨S16384x64, .f32⟩ : BufTy).Contents (Elt F) → (⟨S16384x64, .f32⟩ : BufTy).Contents (Elt F) → (⟨S16384x64, .f32⟩ : BufTy).Contents (Elt F)),
    StableHlo.unary main_v17 main_v18 (Host.sqrt : (⟨S16384x64, .f32⟩ : BufTy).Contents (Elt F) → (⟨S16384x64, .f32⟩ : BufTy).Contents (Elt F)),
    StableHlo.unary main_v18 main_values ((fun x => (Host.topK S16384x2 1 (FloatOps.cmpfTotal .gt) x sliceFits_S16384x64_S16384x2).1) : (⟨S16384x64, .f32⟩ : BufTy).Contents (Elt F) → (⟨S16384x2, .f32⟩ : BufTy).Contents (Elt F)),
    StableHlo.unary main_v18 main_indices ((fun x => (Host.topK S16384x2 1 (FloatOps.cmpfTotal .gt) x sliceFits_S16384x64_S16384x2).2) : (⟨S16384x64, .f32⟩ : BufTy).Contents (Elt F) → (⟨S16384x2, .i32⟩ : BufTy).Contents (Elt F)),
    StableHlo.unary main_indices main_v19 ((extractStridedSlice S16384x1 ![0, 1] · slices_S16384x2_S16384x1_0_1) : (⟨S16384x2, .i32⟩ : BufTy).Contents (Elt F) → (⟨S16384x1, .i32⟩ : BufTy).Contents (Elt F)),
    StableHlo.reshape main_v19 main_v20 (rfl : (.i32 : EltTy) = .i32) shapeCasts_S16384x1_S16384,
    StableHlo.nullary main_c_3 (constantI S_ 32 0#32),
    StableHlo.unary main_c_3 main_v21 (broadcastInDim S16384 ![] bcast_S_S16384 : (⟨S_, .i32⟩ : BufTy).Contents (Elt F) → (⟨S16384, .i32⟩ : BufTy).Contents (Elt F)),
    StableHlo.binary main_v20 main_v21 main_v22 (cmpi .slt : (⟨S16384, .i32⟩ : BufTy).Contents (Elt F) → (⟨S16384, .i32⟩ : BufTy).Contents (Elt F) → (⟨S16384, .i1⟩ : BufTy).Contents (Elt F)),
    StableHlo.nullary main_c_4 (constantI S_ 32 64#32),
    StableHlo.unary main_c_4 main_v23 (broadcastInDim S16384 ![] bcast_S_S16384 : (⟨S_, .i32⟩ : BufTy).Contents (Elt F) → (⟨S16384, .i32⟩ : BufTy).Contents (Elt F)),
    StableHlo.binary main_v20 main_v23 main_v24 (addi : (⟨S16384, .i32⟩ : BufTy).Contents (Elt F) → (⟨S16384, .i32⟩ : BufTy).Contents (Elt F) → (⟨S16384, .i32⟩ : BufTy).Contents (Elt F)),
    StableHlo.ternary main_v22 main_v24 main_v20 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v25 main_v26 (broadcastInDim S16384x1 ![0] bcast_S16384_S16384x1_0 : (⟨S16384, .i32⟩ : BufTy).Contents (Elt F) → (⟨S16384x1, .i32⟩ : BufTy).Contents (Elt F)),
    StableHlo.binary main_v1_2 main_v26 main_v27 ((fun x i => Host.gather gather_S64x128_S16384x1_S16384x128_1_0_n_n_0_1_1128 x i) : (⟨S64x128, .f32⟩ : BufTy).Contents (Elt F) → (⟨S16384x1, .i32⟩ : BufTy).Contents (Elt F) → (⟨S16384x128, .f32⟩ : BufTy).Contents (Elt F)) ]

/-- The operations after the loop touch only the core's buffers. -/
theorem lastOps_sub : (lastOps : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- The operations after the loop allocate nothing. -/
theorem lastOps_fresh : (lastOps : List (HloOp τ sig (Elt F))).Forall fun op => op.fresh = ∅ :=
  StableHlo.forall_fresh_of_map rfl
/-- The references they write. -/
abbrev lastOps_W : List (Ref sig .tc) := [main_v2, main_cst, main_v3, main_v4, main_v5, main_cst_0, main_v6, main_v7, main_v8, main_v9, main_v10, main_v11, main_v12, main_cst_1, main_v13, main_v14, main_v15, main_cst_2, main_v16, main_v17, main_v18, main_values, main_indices, main_v19, main_v20, main_c_3, main_v21, main_v22, main_c_4, main_v23, main_v24, main_v25, main_v26, main_v27]

/-- The operations after the loop write those references only. -/
theorem lastOps_writes : (lastOps : List (HloOp τ sig (Elt F))).Forall fun op => op.writes ⊆ (lastOps_W.map (Proc.devRef (τ := τ) .tc)).toFinset :=
  StableHlo.forall_writes_sub_of_map rfl

/-- The reference's function: the stretch before the loop, the loop, the stretch after it. -/
theorem main_chain (c : Dev nD) : main (F := F) c = (Pipeline.chain
  [ StableHlo.seq preOps, HostLoop.enter 0, StableHlo.seq lastOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The loop's body: five stretches. -/
theorem body_chain : main_while0_body (F := F) = (Pipeline.chain
  [ StableHlo.seq distOps, StableHlo.seq argOps, StableHlo.seq sumOps, StableHlo.seq whereOps, StableHlo.seq nextOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

end Cert.Proof.Ref
-- ==== Proof.RefRun.lean ====
module

public import proofs.«01_k».proof.Proof.RefOps
public import Idealize.ShloMosaic.Lib.Scf.ExitTest
public import Idealize.ShloMosaic.Lib.Scf.Counter

/-! What the reference computes, as a function of its argument, and the run of the reference that ends with it. -/

@[expose] public section

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The mathematics -/

/-- The squared distance of every row of `x` to every centroid. -/
def dist (x : FVec F S16384x128 .f32) (c : FVec F S64x128 .f32) : FVec F S16384x64 .f32 :=
  subf
    (addf
      (broadcastInDim S16384x64 ![0, 1] bcast_S16384x1_S16384x64_0_1 (broadcastInDim S16384x1 ![0] bcast_S16384_S16384x1_0
        (Host.reduceAdd (mulf x x) (constant S_ .f32 0x00000000#32) reducesTo_S16384x128_S16384_d1 h_S_)))
      (broadcastInDim S16384x64 ![0, 1] bcast_S1x64_S16384x64_0_1 (broadcastInDim S1x64 ![1] bcast_S64_S1x64_1
        (Host.reduceAdd (mulf c c) (constant S_ .f32 0x00000000#32) reducesTo_S64x128_S64_d1 h_S_))))
    (mulf (broadcastInDim S16384x64 ![] bcast_S_S16384x64 (constant S_ .f32 0x40000000#32))
      (Host.dotGeneral dot_S16384x128_S128x64_S16384x64_1_0_0_1_n_n none x (transpose S128x64 [1, 0] c transposes_S64x128_S128x64_1_0)))

/-- The nearest centroid of every row, the first one of several. -/
def near (d : FVec F S16384x64 .f32) : IVec S16384 32 := fun j =>
  (Host.argReduce reducer_argmin_f32_i32 d (iotaInDim S16384x64 32 1) (constant S_ .f32 0x7F800000#32) (constantI S_ 32 0#32)
    reducesTo_S16384x64_S16384_d1 h_S_ j).2

/-- The sum of the rows that `w` gives to each centroid. -/
def sums (w : IVec S16384 32) (x : FVec F S16384x128 .f32) : FVec F S64x128 .f32 :=
  Host.scatterAdd scatter_S64x128_S16384x1_S16384x128_1_0_0_1 (broadcastInDim S64x128 ![] bcast_S_S64x128 (constant S_ .f32 0x00000000#32))
    (broadcastInDim S16384x1 ![0] bcast_S16384_S16384x1_0 w) x

/-- The number of rows that `w` gives to each centroid. -/
def counts (w : IVec S16384 32) : FVec F S64 .f32 :=
  Host.scatterAdd scatter_S64_S16384x1_S16384_n_0_0_1 (broadcastInDim S64 ![] bcast_S_S64 (constant S_ .f32 0x00000000#32))
    (broadcastInDim S16384x1 ![0] bcast_S16384_S16384x1_0 w) (broadcastInDim S16384 ![] bcast_S_S16384 (constant S_ .f32 0x3F800000#32))

/-- Where a centroid has rows, their mean; elsewhere the former centroid. -/
def mean (n : FVec F S64 .f32) (s c : FVec F S64x128 .f32) : FVec F S64x128 .f32 :=
  select (broadcastInDim S64x128 ![0, 1] bcast_S64x1_S64x128_0_1 (broadcastInDim S64x1 ![0] bcast_S64_S64x1_0
      (cmpf .ogt n (broadcastInDim S64 ![] bcast_S_S64 (constant S_ .f32 0x00000000#32)))))
    (Host.divf s (broadcastInDim S64x128 ![0, 1] bcast_S64x1_S64x128_0_1 (broadcastInDim S64x1 ![0] bcast_S64_S64x1_0
      (maximumf n (broadcastInDim S64 ![] bcast_S_S64 (constant S_ .f32 0x3F800000#32)))))) c

/-- One round: the centroids after it. -/
def step (x : FVec F S16384x128 .f32) (c : FVec F S64x128 .f32) : FVec F S64x128 .f32 :=
  mean (counts (near (dist x c))) (sums (near (dist x c)) x) c

/-- The second of the two farthest centroids of every row. -/
def second (d : FVec F S16384x64 .f32) : IVec S16384 32 :=
  shapeCast S16384 (extractStridedSlice S16384x1 ![0, 1]
    (Host.topK S16384x2 1 (FloatOps.cmpfTotal .gt)
      (Host.sqrt (maximumf d (broadcastInDim S16384x64 ![] bcast_S_S16384x64 (constant S_ .f32 0x00000000#32))))
      sliceFits_S16384x64_S16384x2).2 slices_S16384x2_S16384x1_0_1) shapeCasts_S16384x1_S16384

/-- The centroids that the words `w` choose, a negative word counted from the end. -/
def pick (c : FVec F S64x128 .f32) (w : IVec S16384 32) : FVec F S16384x128 .f32 :=
  Host.gather gather_S64x128_S16384x1_S16384x128_1_0_n_n_0_1_1128 c (broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 64#32))) w))

/-- The first centroids: the first 64 rows. -/
def start (x : FVec F S16384x128 .f32) : FVec F S64x128 .f32 := extractStridedSlice S64x128 ![0, 0] x slices_S16384x128_S64x128_0_0

/-- The centroids after `k` rounds. -/
def cents (x : FVec F S16384x128 .f32) (k : ℕ) : FVec F S64x128 .f32 := (step x)^[k] (start x)

/-- The reference's result. -/
def res (x : FVec F S16384x128 .f32) : FVec F S16384x128 .f32 :=
  pick (cents x 25) (second (dist x (cents x 25)))

/-! ## The stretches' values -/

section Stretch

variable (V : Valuation τ sig (Elt F))

set_option maxRecDepth 8192 in
set_option maxHeartbeats 2000000 in
/-- The distances of a round. -/
theorem distOps_v41 : after distOps V (Proc.devRef .tc main_while0b_v41) = dist (V (Proc.devRef .tc main_v1_0)) (V (Proc.devRef .tc main_v1_2)) := by
  unfold dist
  simp only [distOps]
  after_results_entrywise []

set_option maxRecDepth 8192 in
set_option maxHeartbeats 2000000 in
/-- The nearest centroids of a round. -/
theorem argOps_v42 : after argOps V (Proc.devRef .tc main_while0b_v42) = near (V (Proc.devRef .tc main_while0b_v41)) := by
  unfold near
  simp only [argOps]
  after_results_entrywise [cast_eq]

set_option maxRecDepth 8192 in
set_option maxHeartbeats 2000000 in
/-- Which centroids have rows in a round. -/
theorem sumOps_v52 : after sumOps V (Proc.devRef .tc main_while0b_v52)
    = broadcastInDim S64x1 ![0] bcast_S64_S64x1_0 (cmpf (F := F) (φ := .f32) .ogt (counts (V (Proc.devRef .tc main_while0b_v42))) (broadcastInDim S64 ![] bcast_S_S64 (constant S_ .f32 0x00000000#32))) := by
  unfold counts
  simp only [sumOps]
  after_results_entrywise []

set_option maxRecDepth 8192 in
set_option maxHeartbeats 2000000 in
/-- The means of a round. -/
theorem sumOps_v57 : after sumOps V (Proc.devRef .tc main_while0b_v57)
    = Host.divf (sums (V (Proc.devRef .tc main_while0b_v42)) (V (Proc.devRef .tc main_v1_0)))
      (broadcastInDim S64x128 ![0, 1] bcast_S64x1_S64x128_0_1 (broadcastInDim S64x1 ![0] bcast_S64_S64x1_0
        (maximumf (counts (V (Proc.devRef .tc main_while0b_v42))) (broadcastInDim S64 ![] bcast_S_S64 (constant S_ .f32 0x3F800000#32))))) := by
  unfold sums counts
  simp only [sumOps]
  after_results_entrywise []

set_option maxRecDepth 8192 in
set_option maxHeartbeats 2000000 in
/-- The next centroids, as they are chosen. -/
theorem whereOps_v58 : after whereOps V (Proc.devRef .tc main_while0b_v58)
    = select (broadcastInDim S64x128 ![0, 1] bcast_S64x1_S64x128_0_1 (V (Proc.devRef .tc main_while0b_v52)))
      (V (Proc.devRef .tc main_while0b_v57)) (V (Proc.devRef .tc main_v1_2)) := by
  simp only [whereOps]
  after_results_entrywise [cast_eq]

set_option maxRecDepth 100000 in
/-- The centroids are carried over. -/
theorem nextOps_cent : after nextOps V (Proc.devRef .tc main_v1_2) = V (Proc.devRef .tc main_while0b_v58) := by
  after_results
  rfl

set_option maxRecDepth 100000 in
/-- The counter goes up by one. -/
theorem nextOps_ctr : after nextOps V (Proc.devRef .tc main_v1_1) = addi (V (Proc.devRef .tc main_v1_1)) (constantI S_ 32 1#32) := by
  after_results
  rfl

set_option maxRecDepth 8192 in
set_option maxHeartbeats 4000000 in
/-- The result, from the last centroids. -/
theorem lastOps_v27 : after lastOps V (Proc.devRef .tc main_v27)
    = pick (V (Proc.devRef .tc main_v1_2)) (second (dist (V (Proc.devRef .tc main_arg0)) (V (Proc.devRef .tc main_v1_2)))) := by
  unfold pick second dist
  simp only [lastOps]
  after_results_entrywise []

/-- The operations before the loop leave every other buffer alone. -/
theorem pre_keep (r : Ref sig .tc) (h : r ∉ preOps_W) : after preOps V (Proc.devRef .tc r) = V (Proc.devRef .tc r) :=
  after_of_writes_sub preOps V preOps_writes h

/-- The operations of the distances leave every other buffer alone. -/
theorem dist_keep (r : Ref sig .tc) (h : r ∉ distOps_W) : after distOps V (Proc.devRef .tc r) = V (Proc.devRef .tc r) :=
  after_of_writes_sub distOps V distOps_writes h

/-- The operations of the choice of the nearest centroid leave every other buffer alone. -/
theorem arg_keep (r : Ref sig .tc) (h : r ∉ argOps_W) : after argOps V (Proc.devRef .tc r) = V (Proc.devRef .tc r) :=
  after_of_writes_sub argOps V argOps_writes h

/-- The operations of the sums, the counts and the means leave every other buffer alone. -/
theorem sum_keep (r : Ref sig .tc) (h : r ∉ sumOps_W) : after sumOps V (Proc.devRef .tc r) = V (Proc.devRef .tc r) :=
  after_of_writes_sub sumOps V sumOps_writes h

/-- The operations of the choice between the mean and the former centroid leave every other buffer alone. -/
theorem where_keep (r : Ref sig .tc) (h : r ∉ whereOps_W) : after whereOps V (Proc.devRef .tc r) = V (Proc.devRef .tc r) :=
  after_of_writes_sub whereOps V whereOps_writes h

/-- The operations that carry the round's results over leave every other buffer alone. -/
theorem next_keep (r : Ref sig .tc) (h : r ∉ nextOps_W) : after nextOps V (Proc.devRef .tc r) = V (Proc.devRef .tc r) :=
  after_of_writes_sub nextOps V nextOps_writes h

/-- The operations after the loop leave every other buffer alone. -/
theorem last_keep (r : Ref sig .tc) (h : r ∉ lastOps_W) : after lastOps V (Proc.devRef .tc r) = V (Proc.devRef .tc r) :=
  after_of_writes_sub lastOps V lastOps_writes h

/-- The operations of the loop's condition. -/
abbrev condOps : List (HloOp τ sig (Elt F)) :=
  [ StableHlo.nullary main_while0c_c_7 (constantI S_ 32 25#32),
    StableHlo.binary main_v1_1 main_while0c_c_7 main_while0c_v28 (cmpi .slt) ]
/-- The references they write. -/
abbrev condOps_W : List (Ref sig .tc) := [main_while0c_c_7, main_while0c_v28]

/-- The condition writes those references only. -/
theorem condOps_writes : (condOps : List (HloOp τ sig (Elt F))).Forall fun op => op.writes ⊆ (condOps_W.map (Proc.devRef (τ := τ) .tc)).toFinset :=
  StableHlo.forall_writes_sub_of_map rfl

/-- The condition leaves every other buffer alone. -/
theorem cond_keep (r : Ref sig .tc) (h : r ∉ condOps_W) : after condOps V (Proc.devRef .tc r) = V (Proc.devRef .tc r) :=
  after_of_writes_sub condOps V condOps_writes h

end Stretch

/-! ## The run -/

/-- The stretches before the loop. -/
abbrev preI : List (List (HloOp τ sig (Elt F))) := [preOps]

/-- The stretches of the loop's body. -/
abbrev bodyI : List (List (HloOp τ sig (Elt F))) := [distOps, argOps, sumOps, whereOps, nextOps]

/-- The stretches after the loop. -/
abbrev lastI : List (List (HloOp τ sig (Elt F))) := [lastOps]

/-- The stretches before the loop are plain. -/
theorem preI_plain : Plain (preI (F := F)) := .cons preOps_sub (hf := List.forall_iff_forall_mem.mp preOps_fresh) .nil

/-- The stretches of the body are plain. -/
theorem bodyI_plain : Plain (bodyI (F := F)) :=
  .cons distOps_sub (hf := List.forall_iff_forall_mem.mp distOps_fresh) <| .cons argOps_sub (hf := List.forall_iff_forall_mem.mp argOps_fresh) <|
  .cons sumOps_sub (hf := List.forall_iff_forall_mem.mp sumOps_fresh) <| .cons whereOps_sub (hf := List.forall_iff_forall_mem.mp whereOps_fresh) <|
  .cons nextOps_sub (hf := List.forall_iff_forall_mem.mp nextOps_fresh) .nil

/-- The stretches after the loop are plain. -/
theorem lastI_plain : Plain (lastI (F := F)) := .cons lastOps_sub (hf := List.forall_iff_forall_mem.mp lastOps_fresh) .nil

/-- What a buffer holds after the body that none of its stretches writes. -/
theorem body_keep (V : Valuation τ sig (Elt F)) (r : Ref sig .tc) (h1 : r ∉ distOps_W) (h2 : r ∉ argOps_W) (h3 : r ∉ sumOps_W)
    (h4 : r ∉ whereOps_W) (h5 : r ∉ nextOps_W) : afterL bodyI V (Proc.devRef .tc r) = V (Proc.devRef .tc r) := by
  simp only [afterL_cons, afterL_nil]
  rw [next_keep _ _ h5, where_keep _ _ h4, sum_keep _ _ h3, arg_keep _ _ h2, dist_keep _ _ h1]

/-- The centroids after the body. -/
theorem body_cent (V : Valuation τ sig (Elt F)) :
    afterL bodyI V (Proc.devRef .tc main_v1_2) = step (V (Proc.devRef .tc main_v1_0)) (V (Proc.devRef .tc main_v1_2)) := by
  simp only [afterL_cons, afterL_nil]
  rw [nextOps_cent, whereOps_v58, sumOps_v52, sumOps_v57, sum_keep _ main_v1_2 (by decide), arg_keep _ main_v1_2 (by decide),
    dist_keep _ main_v1_2 (by decide), arg_keep _ main_v1_0 (by decide), dist_keep _ main_v1_0 (by decide), argOps_v42, distOps_v41]
  rfl

/-- The counter after the body. -/
theorem body_ctr (V : Valuation τ sig (Elt F)) :
    afterL bodyI V (Proc.devRef .tc main_v1_1) = addi (V (Proc.devRef .tc main_v1_1)) (constantI S_ 32 1#32) := by
  simp only [afterL_cons, afterL_nil]
  rw [nextOps_ctr, where_keep _ _ (by decide), sum_keep _ _ (by decide), arg_keep _ _ (by decide), dist_keep _ _ (by decide)]

variable (m : (ℓ : Loc nD τ sig) → Buf (Elt F) ℓ) (ρ : Dev nD → PrngReg)

/-- Every buffer before run `k` of the condition. -/
abbrev atK (k : ℕ) (c : Dev nD) : Valuation τ sig (Elt F) := atTrip condOps bodyI (entryContents preI m) k c

/-- Before the first run of the condition. -/
theorem atK_zero (c : Dev nD) : atK m 0 c = after preOps (fun b => m (c, b)) := rfl

/-- From one run of the condition to the next. -/
theorem atK_succ (k : ℕ) (c : Dev nD) : atK m (k + 1) c = afterL bodyI (after condOps (atK m k c)) := rfl

set_option maxRecDepth 100000 in
/-- The counter starts at zero. -/
theorem pre_ctr (V : Valuation τ sig (Elt F)) : after preOps V (Proc.devRef .tc main_v1_1) = fun _ => (0#32 : BitVec 32) := by
  after_results
  rfl
set_option maxRecDepth 100000 in
/-- The loop reads the first argument's rows. -/
theorem pre_emb (V : Valuation τ sig (Elt F)) : after preOps V (Proc.devRef .tc main_v1_0) = V (Proc.devRef .tc main_arg0) := by
  after_results
  rfl
set_option maxRecDepth 100000 in
/-- The loop starts from the first 64 rows. -/
theorem pre_cent (V : Valuation τ sig (Elt F)) : after preOps V (Proc.devRef .tc main_v1_2) = start (V (Proc.devRef .tc main_arg0)) := by
  after_results
  rfl

/-- Before run `k` of the condition the counter is `k`, counted in words. -/
theorem atK_ctr (c : Dev nD) : ∀ k, atK m k c (Proc.devRef .tc main_v1_1) = fun _ => Scf.iv 0#32 1#32 k
  | 0 => by
    rw [atK_zero, pre_ctr, Scf.iv_zero]
  | k + 1 => by
    rw [atK_succ, body_ctr, cond_keep _ _ (by decide), atK_ctr c k, Scf.iv_succ]
    rfl

/-- The rows are carried unchanged. -/
theorem atK_emb (c : Dev nD) : ∀ k, atK m k c (Proc.devRef .tc main_v1_0) = m ((c.tc : Thread nD τ).loc main_arg0)
  | 0 => by rw [atK_zero, pre_emb]
  | k + 1 => by
    rw [atK_succ, body_keep _ _ (by decide) (by decide) (by decide) (by decide) (by decide), cond_keep _ _ (by decide), atK_emb c k]

/-- Before run `k` of the condition the centroids are those after `k` rounds. -/
theorem atK_cent (c : Dev nD) : ∀ k, atK m k c (Proc.devRef .tc main_v1_2) = cents (m ((c.tc : Thread nD τ).loc main_arg0)) k
  | 0 => by rw [atK_zero, pre_cent]; rfl
  | k + 1 => by
    rw [atK_succ, body_cent, cond_keep _ _ (by decide), cond_keep _ _ (by decide), atK_cent c k, atK_emb m c k]
    unfold cents
    rw [Function.iterate_succ_apply']

/-- The first argument stays through the loop. -/
theorem atK_arg0 (c : Dev nD) : ∀ k, atK m k c (Proc.devRef .tc main_arg0) = m ((c.tc : Thread nD τ).loc main_arg0)
  | 0 => by rw [atK_zero, pre_keep _ _ (by decide)]
  | k + 1 => by
    rw [atK_succ, body_keep _ _ (by decide) (by decide) (by decide) (by decide) (by decide), cond_keep _ _ (by decide), atK_arg0 c k]

/-- The second argument stays through the loop. -/
theorem atK_arg1 (c : Dev nD) : ∀ k, atK m k c (Proc.devRef .tc main_arg1) = m ((c.tc : Thread nD τ).loc main_arg1)
  | 0 => by rw [atK_zero, pre_keep _ _ (by decide)]
  | k + 1 => by
    rw [atK_succ, body_keep _ _ (by decide) (by decide) (by decide) (by decide) (by decide), cond_keep _ _ (by decide), atK_arg1 c k]

set_option backward.isDefEq.respectTransparency.types false in
/-- The condition reads one exactly while `k < 25`. -/
theorem cond_spec : CondSpec (pcfgs (F := F)) defs₀ loops (main_while0_cond (F := F)) condOps bodyI (entryContents preI m) 25 := by
  intro k hk c bd
  have hctr := atK_ctr m c k
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v1_1 HostLoop.idx0)
        (HloOp.result _ (atK m k c) main_while0c_c_7 HostLoop.idx0) = 1#1) (k < 25)
    rw [nullary_result_ne _ _ _ _ (by decide), nullary_result, hctr]
    exact Scf.cmpi_slt_iv_ub_iff (lb := 0#32) (ub := 25#32) (st := 1#32) (by decide) (show k ≤ Scf.trips 0#32 25#32 1#32 from hk)
  isplitl [Hb]; · iexact Hb
  rw [after_cons, after_cons, after_nil]; iexact Hh

set_option maxRecDepth 100000 in
/-- Every execution of the reference ends, with every buffer at the contents that the stretches make. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI lastI 25 m c (Proc.devRef .tc b)) :=
  run_loop (pcfgs (F := F)) defs₀ loops main 0 main_while0_cond main_while0_body rfl preI bodyI lastI condOps preI_plain bodyI_plain lastI_plain
    (fun c => by rw [main_chain]; rfl) (by rw [body_chain]; rfl) 25 m ρ (cond_spec m)

/-- The last contents, from those after the loop. -/
theorem final_eq (c : Dev nD) (b : Ref sig .tc) :
    finalContents condOps preI bodyI lastI 25 m c (Proc.devRef .tc b) = after lastOps (after condOps (atK m 25 c)) (Proc.devRef .tc b) := rfl

/-- Every execution of the reference ends with the result `res` of its first argument, the arguments unchanged and every semaphore at zero. -/
theorem run : θ_run (defs (F := F)) (onTc (τ := τ) (main (F := F))) ⟨m, fun _ => 0, ρ⟩ (fun r => (∀ c : Dev nD,
      r.2.mem ((c.tc : Thread nD τ).loc main_v27) = res (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ⟨?_, ?_, ?_⟩, sem_eq_zero_of_no_sems (by decide) r.2⟩) (run_fold m ρ)
  · rw [h c main_v27 rfl, final_eq, lastOps_v27, cond_keep _ _ (by decide), cond_keep _ _ (by decide), atK_cent, atK_arg0]
    rfl
  · rw [h c main_arg0 rfl, final_eq, last_keep _ _ (by decide), cond_keep _ _ (by decide), atK_arg0]
  · rw [h c main_arg1 rfl, final_eq, last_keep _ _ (by decide), cond_keep _ _ (by decide), atK_arg1]

end Cert.Proof.Ref
-- ==== Proof.RowSq.lean ====
module

public import proofs.«01_k».proof.Proof.RefRun

/-! The sum of a row of 128 entries as the kernel takes it: sixteen slices of eight columns one after another, then halves. -/

@[expose] public section

noncomputable section

namespace Cert.Proof

open Cert.KernelIdeal Cert.KernelIdeal.Gen
open Idealize.ShloMosaic hiding ix1 ix2 ix3
open Idealize.ShloMosaic.ValueIdx

/-- A slice of columns reads the columns it starts from. -/
theorem slice_col {α : Type} {R C w : ℕ} (o : ℕ) (v : (⟨2, ![R, C]⟩ : Shape).Idx → α) (h : (⟨2, ![R, C]⟩ : Shape).Slices ![0, o] ⟨2, ![R, w]⟩)
    (r : Fin R) (c : Fin w) : extractStridedSlice ⟨2, ![R, w]⟩ ![0, o] v h (ix2 r c)
      = v (ix2 r ⟨o + c.val, lt_of_lt_of_le (Nat.add_lt_add_left c.isLt o) (h.2 1)⟩) := by
  refine extractStridedSlice_apply _ v h _ _ fun a => ?_
  match a with
  | ⟨0, _⟩ => exact (Nat.zero_add _).symm
  | ⟨1, _⟩ => rfl

/-- Sixteen terms, eight apart, added from the left. -/
abbrev six (g : ℕ → EReal) (c : ℕ) : EReal :=
  g (0 + c) + g (8 + c) + g (16 + c) + g (24 + c) + g (32 + c) + g (40 + c) + g (48 + c) + g (56 + c) + g (64 + c) + g (72 + c) + g (80 + c)
    + g (88 + c) + g (96 + c) + g (104 + c) + g (112 + c) + g (120 + c)

/-- Sixteen terms added from the left are their sum. -/
theorem six_eq (g : ℕ → EReal) (c : ℕ) : six g c = ∑ q ∈ Finset.range 16, g (8 * q + c) := by
  simp only [Finset.sum_range_succ, Finset.sum_range_zero, zero_add]

/-- The tree of additions is the sum. -/
theorem tree_sum (g : ℕ → EReal) :
    ((six g 0 + six g 4) + (six g 2 + six g 6)) + ((six g 1 + six g 5) + (six g 3 + six g 7)) = ∑ k : Fin 128, g k.val := by
  rw [Fin.sum_univ_eq_sum_range g 128]
  have e : ∑ k ∈ Finset.range (8 * 16), g k = ∑ q ∈ Finset.range 16, ∑ c ∈ Finset.range 8, g (8 * q + c) := by
    have h : ∀ n, ∑ k ∈ Finset.range (8 * n), g k = ∑ q ∈ Finset.range n, ∑ c ∈ Finset.range 8, g (8 * q + c) := fun n => by
      induction n with
      | zero => rfl
      | succ n ih =>
        rw [Nat.mul_succ, Finset.sum_range_add, ih]
        exact (Finset.sum_range_succ _ n).symm
    exact h 16
  rw [show (128 : ℕ) = 8 * 16 from rfl, e, Finset.sum_comm]
  simp only [six_eq]
  rw [show Finset.range 8 = {0, 1, 2, 3, 4, 5, 6, 7} from rfl]
  rw [Finset.sum_insert (by decide), Finset.sum_insert (by decide), Finset.sum_insert (by decide), Finset.sum_insert (by decide),
    Finset.sum_insert (by decide), Finset.sum_insert (by decide), Finset.sum_insert (by decide), Finset.sum_singleton]
  ac_rfl

/-- The row `r` of an array, as a function on the natural numbers. -/
abbrev row {R : ℕ} (v : (⟨2, ![R, 128]⟩ : Shape).Idx → EReal) (r : Fin R) (k : ℕ) : EReal := if h : k < 128 then v (ix2 r ⟨k, h⟩) else 0

/-- A row summed as a function on the natural numbers is the row summed. -/
theorem row_sum {R : ℕ} (v : (⟨2, ![R, 128]⟩ : Shape).Idx → EReal) (r : Fin R) : ∑ k : Fin 128, row v r k.val = ∑ k : Fin 128, v (ix2 r k) :=
  Finset.sum_congr rfl fun k _ => dif_pos k.isLt

end Cert.Proof
-- ==== Proof.Dist.lean ====
module

public import proofs.«01_k».proof.Proof.RowSq

/-! The squared distances of the rows of one tile to the centroids, as the kernel computes them, in closed form. -/

@[expose] public section

noncomputable section

namespace Cert.Proof

open Cert.KernelIdeal Cert.KernelIdeal.Gen
open Idealize.ShloMosaic hiding ix1 ix2 ix3
open Idealize.ShloMosaic.ValueIdx

/-- The squared distance of row `i` of `x` to row `j` of `c`: the two squared lengths less twice the inner product. -/
def dq {N : ℕ} (x : (⟨2, ![N, 128]⟩ : Shape).Idx → EReal) (c : S64x128.Idx → EReal) (i : Fin N) (j : Fin 64) : EReal :=
  ((∑ k : Fin 128, x (ix2 i k) * x (ix2 i k)) + ∑ k : Fin 128, c (ix2 j k) * c (ix2 j k))
    - Ideal.ofBits .f32 0x40000000#32 * ∑ k : Fin 128, x (ix2 i k) * c (ix2 j k)

/-- The product of the rows of a tile with the centroids. -/
theorem dot_rows (x : FVec Ideal S4096x128 .f32) (c : FVec Ideal S64x128 .f32) (r : Fin 4096) (j : Fin 64) :
    matmul dot_S4096x128_S64x128_S4096x64_1_1_0_0_n_n none x c (constant S4096x64 .f32 0x00000000#32) (ix2 r j)
      = ∑ k : Fin 128, x (ix2 r k) * c (ix2 j k) := by
  refine (Ideal.matmul_constant_zero_apply _ none x c (ix2 r j)).trans ?_
  refine Fintype.sum_equiv (contrEquiv1 dot_S4096x128_S64x128_S4096x64_1_1_0_0_n_n 128 rfl rfl) _ _ fun k => ?_
  refine congrArg₂ (· * ·) (congrArg x ?_) (congrArg c ?_)
  · funext a
    match a with
    | ⟨0, _⟩ => rfl
    | ⟨1, _⟩ => rfl
  · funext a
    match a with
    | ⟨0, _⟩ => rfl
    | ⟨1, _⟩ => rfl

/-- The column `v` laid out as a row: its product with the identity. -/
theorem dot_eye (v : FVec Ideal S64x1 .f32) (e : FVec Ideal S64x64 .f32) (he : ∀ a b : Fin 64, e (ix2 a b) = if a = b then 1 else 0) (j : Fin 64) :
    matmul dot_S64x1_S64x64_S1x64_0_0_1_1_n_n (some .fp32) v e (constant S1x64 .f32 0x00000000#32) (ix2 (0 : Fin 1) j)
      = v (ix2 j (0 : Fin 1)) := by
  refine (Ideal.matmul_constant_zero_apply _ (some .fp32) v e (ix2 (0 : Fin 1) j)).trans ?_
  have h : ∑ k : Fin 64, v (ix2 k (0 : Fin 1)) * e (ix2 k j) = v (ix2 j (0 : Fin 1)) := by
    simp only [he, mul_ite, mul_one, mul_zero, Finset.sum_ite_eq', Finset.mem_univ, if_true]
  refine Eq.trans ?_ h
  refine Fintype.sum_equiv (contrEquiv1 dot_S64x1_S64x64_S1x64_0_0_1_1_n_n 64 rfl rfl) _ _ fun k => ?_
  refine congrArg₂ (· * ·) (congrArg v ?_) (congrArg e ?_)
  · funext a
    match a with
    | ⟨0, _⟩ => rfl
    | ⟨1, _⟩ => rfl
  · funext a
    match a with
    | ⟨0, _⟩ => rfl
    | ⟨1, _⟩ => rfl

/-- A bit read as a number is one or zero. -/
theorem bit_num (a b : BitVec 32) : FloatOps.sitofp (F := Ideal) .f32 ((IntOp.cmpi .eq a b).setWidth 32) = if a = b then (1 : EReal) else 0 := by
  by_cases h : a = b
  · subst h
    rw [if_pos rfl, show IntOp.cmpi .eq a a = 1#1 by simp [IntOp.cmpi]]
    show (((1#1 : BitVec 1).setWidth 32).toInt : ℝ) = (1 : EReal)
    rw [show ((1#1 : BitVec 1).setWidth 32).toInt = 1 by decide]; simp
  · rw [if_neg h, show IntOp.cmpi .eq a b = 0#1 by
      simp only [IntOp.cmpi, beq_eq_false_iff_ne.mpr h]; rfl]
    show (((0#1 : BitVec 1).setWidth 32).toInt : ℝ) = (0 : EReal)
    rw [show ((0#1 : BitVec 1).setWidth 32).toInt = 0 by decide]; simp

/-- Small numbers are equal as words when they are equal. -/
theorem word_eq {n : ℕ} (hn : n ≤ 2 ^ 32) (a b : Fin n) : BitVec.ofNat 32 a.val = BitVec.ofNat 32 b.val ↔ a = b := by
  constructor
  · intro h
    have h' := congrArg BitVec.toNat h
    rw [BitVec.toNat_ofNat, BitVec.toNat_ofNat, Nat.mod_eq_of_lt (lt_of_lt_of_le a.isLt hn), Nat.mod_eq_of_lt (lt_of_lt_of_le b.isLt hn)] at h'
    exact Fin.ext h'
  · rintro rfl; rfl

/-- The identity matrix. -/
theorem eye_apply (a b : Fin 64) : (k0_pay5 (F := Ideal)) (ix2 a b) = if a = b then (1 : EReal) else 0 := by
  refine (bit_num _ _).trans ?_
  have e : iota .tc S64x64 32 [0] iota_S64x64_d0_w32 (ix2 a b) = BitVec.ofNat 32 a.val :=
    (iota_apply _ _ _ _).trans (congrArg (BitVec.ofNat 32) (Nat.zero_add _))
  have f : iota .tc S64x64 32 [1] iota_S64x64_d1_w32 (ix2 a b) = BitVec.ofNat 32 b.val :=
    (iota_apply _ _ _ _).trans (congrArg (BitVec.ofNat 32) (Nat.zero_add _))
  rw [e, f]
  exact if_congr (word_eq (by decide) a b) rfl rfl

set_option maxRecDepth 4000 in
/-- The squared distances of one tile, from the squared lengths of the centroids. -/
theorem pay2_apply (c : FVec Ideal S64x128 .f32) (q : FVec Ideal S1x64 .f32) (x : FVec Ideal S4096x128 .f32) (r : Fin 4096) (j : Fin 64) :
    k0_pay2 c q x (ix2 r j) = ((∑ k : Fin 128, x (ix2 r k) * x (ix2 r k)) + q (ix2 (0 : Fin 1) j))
      - Ideal.ofBits .f32 0x40000000#32 * ∑ k : Fin 128, x (ix2 r k) * c (ix2 j k) := by
  have ht := (tree_sum (row (mulf x x) r)).trans (row_sum (mulf x x) r)
  unfold k0_pay2
  simp only [subf_apply, addf_apply, mulf_apply, bcol, broadcastTo_1b_ab_apply, dot_rows, slice_col]
  refine congrArg₂ (· - ·) (congrArg₂ (· + ·) ht rfl) rfl

set_option maxRecDepth 4000 in
/-- The squared lengths of the centroids, laid out as a row. -/
theorem c2_apply (s : FVec Ideal S64x128 .f32) (n : FVec Ideal S64x1 .f32) (p : FVec Ideal S64x128 .f32) (j : Fin 64) :
    Assign.c2 s n p (ix2 (0 : Fin 1) j) = ∑ k : Fin 128, k0_pay4 (F := Ideal) s n p (ix2 j k) * k0_pay4 (F := Ideal) s n p (ix2 j k) := by
  have ht := (tree_sum (row (mulf (F := Ideal) (φ := .f32) (k0_pay4 (F := Ideal) s n p) (k0_pay4 (F := Ideal) s n p)) j)).trans (row_sum _ j)
  unfold Assign.c2 k0_pay8 k0_pay7 k0_pay6
  refine (dot_eye _ _ eye_apply j).trans ?_
  simp only [addf_apply, mulf_apply, slice_col]
  exact ht

/-- The squared distances of tile `k` are those of the array's rows. -/
theorem pay2_tile (x : FVec Ideal S16384x128 .f32) (s : FVec Ideal S64x128 .f32) (n : FVec Ideal S64x1 .f32) (p : FVec Ideal S64x128 .f32) (k : ℕ)
    (r : Fin 4096) (j : Fin 64) : k0_pay2 (F := Ideal) (k0_pay4 s n p) (Assign.c2 s n p) (rowsAt 4096 x (4096 * k)) (ix2 r j)
      = dq x (k0_pay4 (F := Ideal) s n p) (Fin.ofNat 16384 (4096 * k + r.val)) j := by
  rw [pay2_apply, c2_apply]; rfl

/-- The last launch's centroids are the first launch's. -/
theorem k2_pay4_eq (s : FVec Ideal S64x128 .f32) (n : FVec Ideal S64x1 .f32) (p : FVec Ideal S64x128 .f32) :
    k2_pay4 (F := Ideal) s n p = k0_pay4 (F := Ideal) s n p := by
  unfold k2_pay4 k0_pay4; rfl

set_option maxRecDepth 4000 in
/-- The squared lengths of the centroids in the last launch. -/
theorem c2_last (s : FVec Ideal S64x128 .f32) (n : FVec Ideal S64x1 .f32) (p : FVec Ideal S64x128 .f32) (j : Fin 64) :
    k2_pay1 (F := Ideal) k2_pay5 (k2_pay7 s n p) (k2_pay8 s n p) (ix2 (0 : Fin 1) j)
      = ∑ k : Fin 128, k2_pay4 (F := Ideal) s n p (ix2 j k) * k2_pay4 (F := Ideal) s n p (ix2 j k) := by
  have ht := (tree_sum (row (mulf (F := Ideal) (φ := .f32) (k2_pay4 (F := Ideal) s n p) (k2_pay4 (F := Ideal) s n p)) j)).trans (row_sum _ j)
  unfold k2_pay1 k2_pay7 k2_pay8 k2_pay6
  refine (dot_eye _ _ eye_apply j).trans ?_
  simp only [addf_apply, mulf_apply, slice_col]
  exact ht

set_option maxRecDepth 4000 in
/-- The distances of one tile in the last launch. -/
theorem pay3_last (c : FVec Ideal S64x128 .f32) (q : FVec Ideal S1x64 .f32) (x : FVec Ideal S4096x128 .f32) (r : Fin 4096) (j : Fin 64) :
    k2_pay3 c q x (ix2 r j) = Ideal.sqrt (max (((∑ k : Fin 128, x (ix2 r k) * x (ix2 r k)) + q (ix2 (0 : Fin 1) j))
      - Ideal.ofBits .f32 0x40000000#32 * ∑ k : Fin 128, x (ix2 r k) * c (ix2 j k)) (Ideal.ofBits .f32 0x00000000#32)) := by
  have ht := (tree_sum (row (mulf x x) r)).trans (row_sum (mulf x x) r)
  unfold k2_pay3
  simp only [sqrt_apply, maximumf_apply, subf_apply, addf_apply, mulf_apply, bcol, broadcastTo_1b_ab_apply, dot_rows, slice_col]
  refine congrArg Ideal.sqrt (congrArg₂ max (congrArg₂ (· - ·) (congrArg₂ (· + ·) ht rfl) rfl) rfl)

/-- The distances of tile `k` in the last launch are the roots of those of the array's rows. -/
theorem pay3_tile (x : FVec Ideal S16384x128 .f32) (s : FVec Ideal S64x128 .f32) (n : FVec Ideal S64x1 .f32) (p : FVec Ideal S64x128 .f32) (k : ℕ)
    (r : Fin 4096) (j : Fin 64) : k2_pay3 (F := Ideal) (k2_pay4 s n p) (k2_pay1 k2_pay5 (k2_pay7 s n p) (k2_pay8 s n p)) (rowsAt 4096 x (4096 * k)) (ix2 r j)
      = Ideal.sqrt (max (dq x (k2_pay4 (F := Ideal) s n p) (Fin.ofNat 16384 (4096 * k + r.val)) j) (Ideal.ofBits .f32 0x00000000#32)) := by
  rw [pay3_last, c2_last]; rfl

/-- The sum along the rows, as the reference takes it. -/
theorem host_row {R : ℕ} (v : FVec Ideal ⟨2, ![R, 128]⟩ .f32) (h : (⟨2, ![R, 128]⟩ : Shape).ReducesTo [1] ⟨1, ![R]⟩)
    (hr : (⟨2, ![R, 128]⟩ : Shape).Reduces [1] ⟨1, ![R]⟩) (h' : 0 < Cert.ReferenceIdeal.S_.numel) (i : Fin R) :
    Host.reduceAdd v (constant (F := Ideal) Cert.ReferenceIdeal.S_ .f32 0x00000000#32) h h' (ix1 i) = ∑ k : Fin 128, v (ix2 i k) := by
  refine (Ideal.hostReduceAdd_single h hr _ _ _).trans ?_
  refine (congrArg (· + _) Ideal.ofBits_zero_f32).trans ((zero_add _).trans (Finset.sum_congr rfl fun k _ => congrArg v ?_))
  funext a
  match a with
  | ⟨0, _⟩ => rfl
  | ⟨1, _⟩ => rfl

/-- The product of the rows with the transposed centroids. -/
theorem host_dot (x : FVec Ideal S16384x128 .f32) (c : FVec Ideal S64x128 .f32) (h) (i : Fin 16384) (j : Fin 64) :
    Host.dotGeneral (F := Ideal) Cert.ReferenceIdeal.dot_S16384x128_S128x64_S16384x64_1_0_0_1_n_n none x
      (transpose Cert.ReferenceIdeal.S128x64 [1, 0] c h) (ix2 i j) = ∑ k : Fin 128, x (ix2 i k) * c (ix2 j k) := by
  refine (Ideal.dotGeneral_apply _ none _ _ _ (ix2 i j)).trans ?_
  refine Fintype.sum_equiv (contrEquiv1 Cert.ReferenceIdeal.dot_S16384x128_S128x64_S16384x64_1_0_0_1_n_n 128 rfl rfl) _ _ fun k => ?_
  refine congrArg₂ (· * ·) (congrArg x ?_) (transpose_apply _ _ _ _ _ fun a => ?_)
  · funext a
    match a with
    | ⟨0, _⟩ => rfl
    | ⟨1, _⟩ => rfl
  · match a with
    | ⟨0, _⟩ => rfl
    | ⟨1, _⟩ => rfl

/-- A column spread over the rows reads the row's entry. -/
theorem bin_col {α : Type} {R C : ℕ} (v : (⟨1, ![R]⟩ : Shape).Idx → α) (h1) (h2) (hR : R ≠ 1) (i : Fin R) (j : Fin C) :
    broadcastInDim (s := ⟨2, ![R, 1]⟩) ⟨2, ![R, C]⟩ ![0, 1] h2 (broadcastInDim (s := ⟨1, ![R]⟩) ⟨2, ![R, 1]⟩ ![0] h1 v) (ix2 i j) = v (ix1 i) := by
  refine (broadcastInDim_apply _ _ _ _ (ix2 i (0 : Fin 1)) fun a => ?_).trans (broadcastInDim_apply _ _ _ _ (ix1 i) fun a => ?_)
  · match a with
    | ⟨0, _⟩ => exact (if_neg hR).symm
    | ⟨1, _⟩ => rfl
  · match a with
    | ⟨0, _⟩ => exact (if_neg hR).symm

/-- A row spread over the columns reads the column's entry. -/
theorem bin_row {α : Type} {R C : ℕ} (v : (⟨1, ![C]⟩ : Shape).Idx → α) (h1) (h2) (hC : C ≠ 1) (i : Fin R) (j : Fin C) :
    broadcastInDim (s := ⟨2, ![1, C]⟩) ⟨2, ![R, C]⟩ ![0, 1] h2 (broadcastInDim (s := ⟨1, ![C]⟩) ⟨2, ![1, C]⟩ ![1] h1 v) (ix2 i j) = v (ix1 j) := by
  refine (broadcastInDim_apply _ _ _ _ (ix2 (0 : Fin 1) j) fun a => ?_).trans (broadcastInDim_apply _ _ _ _ (ix1 j) fun a => ?_)
  · match a with
    | ⟨0, _⟩ => rfl
    | ⟨1, _⟩ => exact (if_neg hC).symm
  · match a with
    | ⟨0, _⟩ => exact (if_neg hC).symm

/-- The reference's squared distances. -/
theorem ref_dist (x : FVec Ideal S16384x128 .f32) (c : FVec Ideal S64x128 .f32) (i : Fin 16384) (j : Fin 64) :
    Ref.dist (F := Ideal) x c (ix2 i j) = dq x c i j := by
  unfold Ref.dist
  refine congrArg₂ (· - ·) (congrArg₂ (· + ·) ?_ ?_) (congrArg₂ (· * ·) rfl ?_)
  · exact (bin_col _ _ _ (by decide) i j).trans (host_row _ _ (by decide) _ i)
  · exact (bin_row _ _ _ (by decide) i j).trans (host_row _ _ (by decide) _ j)
  · exact host_dot x c _ i j

end Cert.Proof
-- ==== Proof.Near.lean ====
module

public import proofs.«01_k».proof.Proof.Dist

/-! The nearest centroid of a row, as the reference folds it: the first index of the least distance. -/

@[expose] public section

noncomputable section

namespace Cert.Proof

open Cert.KernelIdeal Cert.KernelIdeal.Gen
open Idealize.ShloMosaic hiding ix1 ix2 ix3
open Idealize.ShloMosaic.ValueIdx

/-- The reference keeps the pair that is lexicographically smaller. -/
theorem red_eq (a b : EReal × BitVec 32) : Cert.ReferenceIdeal.reducer_argmin_f32_i32 (F := Ideal) a b
    = if a.1 < b.1 ∨ (a.1 = b.1 ∧ a.2.slt b.2 = true) then a else b := by
  obtain ⟨u, v⟩ := a
  obtain ⟨u', v'⟩ := b
  have hlt : FloatOps.cmpf (F := Ideal) (φ := .f32) .olt u u' = if u < u' then 1#1 else 0#1 := by
    by_cases h : u < u' <;> simp [Ideal.cmpf_def, Ideal.cmp, h]
  have hne : FloatOps.cmpf (F := Ideal) (φ := .f32) .une u u = 0#1 := by simp [Ideal.cmpf_def, Ideal.cmp]
  have heq : FloatOps.cmpf (F := Ideal) (φ := .f32) .oeq u u' = if u = u' then 1#1 else 0#1 := by
    by_cases h : u = u' <;> simp [Ideal.cmpf_def, Ideal.cmp, h]
  have hs : IntOp.cmpi .slt v v' = if v.slt v' = true then 1#1 else 0#1 := by
    by_cases h : v.slt v' = true <;> simp [IntOp.cmpi, h]
  unfold Cert.ReferenceIdeal.reducer_argmin_f32_i32
  simp only [hlt, hne, heq, hs]
  rcases lt_trichotomy u u' with h | h | h
  · simp [h, h.ne, IntOp.ori, IntOp.andi, Scalar.select]
  · subst h
    by_cases h2 : v.slt v' = true <;> simp [h2, IntOp.ori, IntOp.andi, Scalar.select]
  · simp [h.not_gt, h.ne', IntOp.ori, IntOp.andi, Scalar.select]

/-- What a pair found so far is: the first pair or one of the row's, and lexicographically least among those seen. -/
structure Least (d : Fin 64 → EReal) (l : List (EReal × BitVec 32)) (p : EReal × BitVec 32) : Prop where
  from' : p = (⊤, 0#32) ∨ ∃ j : Fin 64, p = (d j, BitVec.ofNat 32 j.val)
  le : ∀ q ∈ l, p.1 < q.1 ∨ (p.1 = q.1 ∧ p.2.toNat ≤ q.2.toNat)

/-- The word of an index below 64 is that number. -/
theorem word_lt (j : Fin 64) : (BitVec.ofNat 32 j.val).toNat = j.val := by
  rw [BitVec.toNat_ofNat]; exact Nat.mod_eq_of_lt (by have := j.isLt; omega)

/-- The word kept is below 64. -/
theorem Least.lt {d l p} (h : Least d l p) : p.2.toNat < 64 := by
  rcases h.from' with e | ⟨j, e⟩
  · rw [e]; decide
  · rw [e]; simp only [word_lt]; exact j.isLt

/-- One step of the fold keeps the least pair. -/
theorem least_step {d : Fin 64 → EReal} {l : List (EReal × BitVec 32)} {p : EReal × BitVec 32} (h : Least d l p) (j : Fin 64) :
    Least d ((d j, BitVec.ofNat 32 j.val) :: l) (Cert.ReferenceIdeal.reducer_argmin_f32_i32 (F := Ideal) p (d j, BitVec.ofNat 32 j.val)) := by
  have hlt := h.lt
  have hj := j.isLt
  have hw := word_lt j
  have hs : p.2.slt (BitVec.ofNat 32 j.val) = true ↔ p.2.toNat < j.val := by
    rw [BitVec.slt_iff_toInt_lt, BitVec.toInt_eq_toNat_of_lt (by omega), BitVec.toInt_eq_toNat_of_lt (by omega), hw]; omega
  rw [red_eq]
  simp only [hs]
  by_cases hc : p.1 < d j ∨ (p.1 = d j ∧ p.2.toNat < j.val)
  · rw [if_pos hc]
    refine ⟨h.from', fun q hq => ?_⟩
    rcases List.mem_cons.mp hq with e | e
    · subst e
      rcases hc with hc | hc
      · exact Or.inl hc
      · exact Or.inr ⟨hc.1, by rw [hw]; exact hc.2.le⟩
    · exact h.le q e
  · rw [if_neg hc]
    refine ⟨Or.inr ⟨j, rfl⟩, fun q hq => ?_⟩
    rcases List.mem_cons.mp hq with e | e
    · subst e; exact Or.inr ⟨rfl, le_rfl⟩
    · push Not at hc
      rcases hc.1.lt_or_eq with e1 | e1
      · rcases h.le q e with e2 | e2
        · exact Or.inl (e1.trans e2)
        · exact Or.inl (e1.trans_eq e2.1)
      · rcases h.le q e with e2 | e2
        · exact Or.inl (e1.trans_lt e2)
        · exact Or.inr ⟨e1.trans e2.1, by have := hc.2 e1.symm; simp only [hw]; omega⟩

/-- The fold over a list ends with its least pair. -/
theorem least_fold (d : Fin 64 → EReal) (l : List (EReal × BitVec 32)) (hl : ∀ q ∈ l, ∃ j : Fin 64, q = (d j, BitVec.ofNat 32 j.val)) :
    Least d l (l.foldl (Cert.ReferenceIdeal.reducer_argmin_f32_i32 (F := Ideal)) (⊤, 0#32)) := by
  suffices H : ∀ (l l₀ : List (EReal × BitVec 32)) (p : EReal × BitVec 32), (∀ q ∈ l, ∃ j : Fin 64, q = (d j, BitVec.ofNat 32 j.val)) → Least d l₀ p →
      Least d (l₀ ++ l) (l.foldl (Cert.ReferenceIdeal.reducer_argmin_f32_i32 (F := Ideal)) p) from
    H l [] _ hl ⟨Or.inl rfl, fun q hq => absurd hq List.not_mem_nil⟩
  intro l
  induction l with
  | nil => intro l₀ p _ h; rw [List.append_nil]; exact h
  | cons q l ih =>
    intro l₀ p hl h
    obtain ⟨j, rfl⟩ := hl q List.mem_cons_self
    have h2 := ih _ _ (fun q hq => hl q (List.mem_cons_of_mem _ hq)) (least_step h j)
    exact ⟨h2.from', fun q hq => h2.le q (by simp only [List.mem_append, List.mem_cons] at hq ⊢; tauto)⟩

/-- The least pair's word is the first index of the least distance. -/
theorem Least.first {d : Fin 64 → EReal} {l : List (EReal × BitVec 32)} {p : EReal × BitVec 32} (h : Least d l p)
    (hl : ∀ j : Fin 64, (d j, BitVec.ofNat 32 j.val) ∈ l) : IsFirst (fun j => ∀ i, d j ≤ d i) p.2 := by
  have hle : ∀ j, p.1 < d j ∨ (p.1 = d j ∧ p.2.toNat ≤ j.val) := fun j => by
    have := h.le _ (hl j); rwa [word_lt] at this
  rcases h.from' with e | ⟨j0, e⟩
  · have ht : ∀ j, d j = ⊤ := fun j => by
      rcases hle j with e2 | e2
      · rw [e] at e2; exact absurd e2 not_top_lt
      · rw [← e2.1, e]
    rw [e]
    exact ⟨by decide, fun i => by rw [ht, ht], fun j _ => Nat.zero_le _⟩
  · have hmin : ∀ i, d j0 ≤ d i := fun i => by
      rcases hle i with e2 | e2
      · rw [e] at e2; exact e2.le
      · rw [e] at e2; exact e2.1.le
    refine ⟨h.lt, ?_, fun j hj => ?_⟩
    · have e3 : (⟨p.2.toNat, h.lt⟩ : Fin 64) = j0 := Fin.ext (by simp only [e, word_lt])
      rw [e3]; exact hmin
    · rcases hle j with e2 | e2
      · rw [e] at e2; exact absurd e2 (hj j0).not_gt
      · exact e2.2

/-- The word of the value the reference starts from. -/
theorem inf_top : Ideal.ofBits .f32 0x7F800000#32 = (⊤ : EReal) := by simp [Ideal.ofBits, Ideal.ieee]

/-- The reference's nearest centroid. -/
theorem near_first (d : FVec Ideal Cert.ReferenceIdeal.S16384x64 .f32) (r : Fin 16384) :
    IsFirst (fun j => ∀ i, d (ix2 r j) ≤ d (ix2 r i)) (Ref.near (F := Ideal) d (ix1 r)) := by
  have hdrop : ∀ (h : Cert.ReferenceIdeal.S16384x64.ReducesTo [1] Cert.ReferenceIdeal.S16384) (i : Cert.ReferenceIdeal.S16384x64.Idx),
      h.drop i = ix1 r ↔ i 0 = r := fun h i => by
    constructor
    · intro e; exact congrFun e 0
    · rintro rfl
      funext a
      match a with
      | ⟨0, _⟩ => rfl
  unfold Ref.near
  rw [Ideal.argReduce_eq_reduce2, Host.reduce2_eq_foldl_fiber]
  have e0 : constant (F := Ideal) Cert.ReferenceIdeal.S_ .f32 0x7F800000#32 (Shape.Idx.first Cert.ReferenceIdeal.Gen.h_S_) = (⊤ : EReal) := inf_top
  rw [e0]
  have hmem : ∀ (h : Cert.ReferenceIdeal.S16384x64.ReducesTo [1] Cert.ReferenceIdeal.S16384) (q : EReal × BitVec 32),
      q ∈ Host.argReduceFiber d (iotaInDim Cert.ReferenceIdeal.S16384x64 32 1) h (ix1 r) ↔ ∃ j : Fin 64, q = (d (ix2 r j), BitVec.ofNat 32 j.val) := fun h q => by
    unfold Host.argReduceFiber
    rw [List.mem_map]
    constructor
    · rintro ⟨n, hn, rfl⟩
      have h0 := (hdrop h _).mp (of_decide_eq_true (List.mem_filter.mp hn).2)
      generalize (Shape.rowMajor Cert.ReferenceIdeal.S16384x64).symm n = i at h0 ⊢
      refine ⟨i 1, ?_⟩
      have hi : i = ix2 r (i 1) := by
        funext a
        match a with
        | ⟨0, _⟩ => exact h0
        | ⟨1, _⟩ => rfl
      exact Prod.ext (congrArg d hi) rfl
    · rintro ⟨j, rfl⟩
      refine ⟨Shape.rowMajor Cert.ReferenceIdeal.S16384x64 (ix2 r j), List.mem_filter.mpr ⟨List.mem_finRange _, decide_eq_true ?_⟩, ?_⟩
      · rw [Equiv.symm_apply_apply]; exact (hdrop h _).mpr rfl
      · rw [Equiv.symm_apply_apply]; rfl
  exact Least.first (d := fun j => d (ix2 r j)) (least_fold _ _ fun q hq => (hmem _ q).mp hq) fun j => (hmem _ _).mpr ⟨j, rfl⟩

end Cert.Proof
-- ==== Proof.Sums.lean ====
module

public import Idealize.ShloMosaic.Lib.Routing.OpsPair
public import proofs.«01_k».proof.Proof.Near

/-! The sums and the numbers of the rows of each centroid, in the reference and in the kernel. -/

@[expose] public section

noncomputable section

namespace Cert.Proof

open Cert.KernelIdeal Cert.KernelIdeal.Gen
open Idealize.ShloMosaic hiding ix1 ix2 ix3
open Idealize.ShloMosaic.ValueIdx

/-- A word read as a signed number is a small number when it is that number unsigned. -/
theorem toInt_small (w : BitVec 32) (j : ℕ) (hj : j < 64) : w.toInt = (j : ℤ) ↔ w.toNat = j := by
  have := w.isLt
  rw [BitVec.toInt_eq_toNat_cond]
  split <;> omega

/-- Where the reference adds an entry of row `i`. -/
theorem lands2 (w : IVec Cert.ReferenceIdeal.S16384 32) (h) (i : Fin 16384) (e : Fin 128) (j : Fin 64) (d : Fin 128) :
    Cert.ReferenceIdeal.scatter_S64x128_S16384x1_S16384x128_1_0_0_1.resultIdx? (ix2 i e)
      (broadcastInDim Cert.ReferenceIdeal.S16384x1 ![0] h w) = some (ix2 j d) ↔ (w (ix1 i)).toNat = j.val ∧ e = d := by
  rw [Idealize.ShloMosaic.Routing.resultIdx?_eq_some]
  have h0 : Cert.ReferenceIdeal.scatter_S64x128_S16384x1_S16384x128_1_0_0_1.start (ix2 i e)
      (broadcastInDim Cert.ReferenceIdeal.S16384x1 ![0] h w) 0 = (w (ix1 i)).toInt := by
    refine congrArg BitVec.toInt (broadcastInDim_apply _ _ _ _ (ix1 i) fun a => ?_)
    match a with
    | ⟨0, _⟩ => rfl
  have h1 : Cert.ReferenceIdeal.scatter_S64x128_S16384x1_S16384x128_1_0_0_1.start (ix2 i e)
      (broadcastInDim Cert.ReferenceIdeal.S16384x1 ![0] h w) 1 = 0 := rfl
  have w0 : Cert.ReferenceIdeal.scatter_S64x128_S16384x1_S16384x128_1_0_0_1.window (ix2 i e) 0 = 0 := rfl
  have w1 : Cert.ReferenceIdeal.scatter_S64x128_S16384x1_S16384x128_1_0_0_1.window (ix2 i e) 1 = e.val := rfl
  constructor
  · intro q
    have q0 := q 0
    have q1 := q 1
    rw [h0, w0] at q0
    rw [h1, w1] at q1
    refine ⟨(toInt_small _ _ j.isLt).mp ((Int.add_zero _).symm.trans q0), Fin.ext ?_⟩
    exact Int.ofNat_inj.mp ((Int.zero_add _).symm.trans q1)
  · rintro ⟨q0, rfl⟩ a
    match a with
    | ⟨0, _⟩ =>
      refine (congrArg₂ (fun (u : ℤ) (v : ℕ) => u + (v : ℤ)) h0 w0).trans ?_
      exact (Int.add_zero _).trans ((toInt_small _ _ j.isLt).mpr q0)
    | ⟨1, _⟩ =>
      refine (congrArg₂ (fun (u : ℤ) (v : ℕ) => u + (v : ℤ)) h1 w1).trans ?_
      exact Int.zero_add _

/-- Where the reference counts row `i`. -/
theorem lands1 (w : IVec Cert.ReferenceIdeal.S16384 32) (h) (i : Fin 16384) (j : Fin 64) :
    Cert.ReferenceIdeal.scatter_S64_S16384x1_S16384_n_0_0_1.resultIdx? (ix1 i)
      (broadcastInDim Cert.ReferenceIdeal.S16384x1 ![0] h w) = some (ix1 j) ↔ (w (ix1 i)).toNat = j.val := by
  rw [Idealize.ShloMosaic.Routing.resultIdx?_eq_some]
  have h0 : Cert.ReferenceIdeal.scatter_S64_S16384x1_S16384_n_0_0_1.start (ix1 i)
      (broadcastInDim Cert.ReferenceIdeal.S16384x1 ![0] h w) 0 = (w (ix1 i)).toInt := by
    refine congrArg BitVec.toInt (broadcastInDim_apply _ _ _ _ (ix1 i) fun a => ?_)
    match a with
    | ⟨0, _⟩ => rfl
  have w0 : Cert.ReferenceIdeal.scatter_S64_S16384x1_S16384_n_0_0_1.window (ix1 i) 0 = 0 := rfl
  constructor
  · intro q
    have q0 := q 0
    rw [h0, w0] at q0
    exact (toInt_small _ _ j.isLt).mp ((Int.add_zero _).symm.trans q0)
  · intro q0 a
    match a with
    | ⟨0, _⟩ =>
      refine (congrArg₂ (fun (u : ℤ) (v : ℕ) => u + (v : ℤ)) h0 w0).trans ?_
      exact (Int.add_zero _).trans ((toInt_small _ _ j.isLt).mpr q0)

/-- The reference's sum of the rows of a centroid. -/
theorem ref_sums (w : IVec Cert.ReferenceIdeal.S16384 32) (x : FVec Ideal Cert.ReferenceIdeal.S16384x128 .f32) (j : Fin 64) (d : Fin 128) :
    Ref.sums (F := Ideal) w x (ix2 j d) = ∑ i : Fin 16384, if (w (ix1 i)).toNat = j.val then x (ix2 i d) else 0 := by
  unfold Ref.sums
  have e : ∀ (f : (⟨2, ![16384, 128]⟩ : Shape).Idx → EReal), ∑ i, f i = ∑ a : Fin 16384, ∑ b : Fin 128, f (ix2 a b) := ValueIdx.sum_idx2
  show (_ : EReal) + ∑ i ∈ Finset.univ.filter _, _ = _
  rw [Finset.sum_filter]
  refine (congrArg (· + _) Ideal.ofBits_zero_f32).trans ((zero_add _).trans ((e _).trans ?_))
  refine Finset.sum_congr rfl fun i _ => ?_
  refine (Finset.sum_congr rfl fun b _ => if_congr (lands2 w _ i b j d) rfl rfl).trans ?_
  by_cases h : (w (ix1 i)).toNat = j.val
  · simp [h]
  · simp [h]

/-- The reference's number of the rows of a centroid. -/
theorem ref_counts (w : IVec Cert.ReferenceIdeal.S16384 32) (j : Fin 64) :
    Ref.counts (F := Ideal) w (ix1 j) = ∑ i : Fin 16384, if (w (ix1 i)).toNat = j.val then Ideal.ofBits .f32 0x3F800000#32 else 0 := by
  unfold Ref.counts
  show (_ : EReal) + ∑ i ∈ Finset.univ.filter _, _ = _
  rw [Finset.sum_filter]
  refine (congrArg (· + _) Ideal.ofBits_zero_f32).trans ((zero_add _).trans ?_)
  refine (Fintype.sum_equiv ⟨fun i : (⟨1, ![16384]⟩ : Shape).Idx => i 0, ix1, fun i => ?_, fun _ => rfl⟩ _
    (fun i : Fin 16384 => if (w (ix1 i)).toNat = j.val then Ideal.ofBits .f32 0x3F800000#32 else 0) fun i => ?_)
  · funext a
    match a with
    | ⟨0, _⟩ => rfl
  · obtain ⟨i, rfl⟩ : ∃ k, i = ix1 k := ⟨i 0, funext fun a => match a with | ⟨0, _⟩ => rfl⟩
    exact if_congr (lands1 w _ i j) rfl rfl

/-! ## The kernel's -/

section Kernel

variable (x : FVec Ideal S16384x128 .f32) (s : FVec Ideal S64x128 .f32) (n : FVec Ideal S64x1 .f32) (p : FVec Ideal S64x128 .f32)

/-- The centroids of a round. -/
abbrev cen : FVec Ideal S64x128 .f32 := k0_pay4 (F := Ideal) s n p

/-- The words the reference gives the rows for those centroids. -/
abbrev lab (c : FVec Ideal S64x128 .f32) (i : Fin 16384) : BitVec 32 := Ref.near (F := Ideal) (Ref.dist x c) (ix1 i)

/-- The kernel's word of row `r` of tile `k`. -/
theorem tile_word (k : ℕ) (r : Fin 4096) :
    k0_pay13 (F := Ideal) (iota .tc S1x64 32 [1] iota_S1x64_d1_w32) (k0_pay2 (cen s n p) (Assign.c2 s n p) (rowsAt 4096 x (4096 * k)))
      (k0_pay3 (cen s n p) (Assign.c2 s n p) (rowsAt 4096 x (4096 * k))) (ix2 r (0 : Fin 1))
      = lab x (cen s n p) (Fin.ofNat 16384 (4096 * k + r.val)) := by
  refine (pay13_first (cen s n p) (Assign.c2 s n p) (rowsAt 4096 x (4096 * k)) r).unique ((near_first _ _).congr fun j => ?_)
  refine forall_congr' fun i => ?_
  rw [pay2_tile, pay2_tile, ref_dist, ref_dist]

/-- The kernel's words are the reference's. -/
theorem amin_lab (i : Fin 16384) : Assign.amin (F := Ideal) x s n p (ix2 i (0 : Fin 1)) = lab x (cen s n p) i := by
  have t := tile_word x s n p (i.val / 4096) (Fin.ofNat 4096 i.val)
  have e : Fin.ofNat 16384 (4096 * (i.val / 4096) + (Fin.ofNat 4096 i.val).val) = i := Fin.ext (by
    have := i.isLt
    rw [Fin.val_ofNat, Fin.val_ofNat]; omega)
  rw [e] at t
  exact t

/-- The words, four tiles of them. -/
theorem labAt_lab (i : Fin 16384) : Scatter.labAt (labels x s p n) i.val = lab x (cen s n p) i := by
  refine Eq.trans ?_ (amin_lab x s n p i)
  unfold Scatter.labAt labels
  refine shapeCast_apply _ _ _ (ix2 i (0 : Fin 1)) ?_
  rw [Shape.rowMajor_val_three, Shape.rowMajor_val_two]
  show i.val * 1 + 0 = ((i.val / 4096) % 4 * 1 + 0) * 4096 + i.val % 4096
  have := i.isLt
  omega

/-- The kernel's sums are the reference's. -/
theorem sums_eq (j : Fin 64) (d : Fin 128) : Scatter.segSum (labels x s p n) x 16384 (ix2 j d)
    = Ref.sums (F := Ideal) (Ref.near (Ref.dist x (cen s n p))) x (ix2 j d) := by
  rw [ref_sums]
  unfold Scatter.segSum
  rw [Finset.sum_range]
  refine Finset.sum_congr rfl fun i _ => ?_
  rw [labAt_lab]
  refine if_congr Iff.rfl (congrArg x ?_) rfl
  rw [show Fin.ofNat 16384 i.val = i from Fin.ext (Nat.mod_eq_of_lt i.isLt)]

/-- A word is that of a small number when it is that number. -/
theorem word_toNat (w : BitVec 32) (j : Fin 64) : w = BitVec.ofNat 32 j.val ↔ w.toNat = j.val := by
  constructor
  · rintro rfl; exact word_lt j
  · intro h; exact BitVec.eq_of_toNat_eq (h.trans (word_lt j).symm)

/-- Whether row `r` of a tile has word `j`, as a number. -/
theorem pay14_apply (D M : FVec Ideal S4096x64 .f32) (r : Fin 4096) (j : Fin 64) :
    k0_pay14 (F := Ideal) (iota .tc S1x64 32 [1] iota_S1x64_d1_w32) D M (ix2 r j)
      = if (k0_pay13 (F := Ideal) (iota .tc S1x64 32 [1] iota_S1x64_d1_w32) D M (ix2 r (0 : Fin 1))).toNat = j.val then (1 : EReal) else 0 := by
  unfold k0_pay14 k0_pay13
  rw [Idealize.ShloMosaic.shapeCast_self]
  refine (bit_num _ _).trans (if_congr ?_ rfl rfl)
  rw [bcol, broadcastTo_1b_ab_apply, iota_row]
  exact word_toNat _ _

/-- The sum along the rows of a tile. -/
theorem dot_ones (v : FVec Ideal S1x4096 .f32) (e : FVec Ideal S4096x64 .f32) (j : Fin 64) :
    matmul dot_S1x4096_S4096x64_S1x64_1_0_0_1_n_n none v e (constant S1x64 .f32 0x00000000#32) (ix2 (0 : Fin 1) j)
      = ∑ r : Fin 4096, v (ix2 (0 : Fin 1) r) * e (ix2 r j) := by
  refine (Ideal.matmul_constant_zero_apply _ none v e (ix2 (0 : Fin 1) j)).trans ?_
  refine Fintype.sum_equiv (contrEquiv1 dot_S1x4096_S4096x64_S1x64_1_0_0_1_n_n 4096 rfl rfl) _ _ fun k => ?_
  refine congrArg₂ (· * ·) (congrArg v ?_) (congrArg e ?_)
  · funext a
    match a with
    | ⟨0, _⟩ => rfl
    | ⟨1, _⟩ => rfl
  · funext a
    match a with
    | ⟨0, _⟩ => rfl
    | ⟨1, _⟩ => rfl

/-- What row `i` adds to the count of `j`. -/
abbrev one (j : Fin 64) (i : ℕ) : EReal := if (lab x (cen s n p) (Fin.ofNat 16384 i)).toNat = j.val then Ideal.ofBits .f32 0x3F800000#32 else 0

/-- The counts after `k` tiles. -/
theorem cntAcc_eq (j : Fin 64) (k : ℕ) :
    Assign.cntAcc (F := Ideal) (cen s n p) (iota .tc S1x64 32 [1] iota_S1x64_d1_w32) (Assign.c2 s n p) k0_pay11 x k (ix2 (0 : Fin 1) j)
      = ∑ i ∈ Finset.range (4096 * k), one x s n p j i := by
  induction k with
  | zero => exact Ideal.ofBits_zero_f32
  | succ k ih =>
    rw [Nat.mul_succ, Finset.sum_range_add, ← ih, ← Fin.sum_univ_eq_sum_range (fun r => one x s n p j (4096 * k + r))]
    refine congrArg₂ (· + ·) rfl ((dot_ones _ _ j).trans (Finset.sum_congr rfl fun r _ => ?_))
    rw [pay14_apply, tile_word, mul_ite, mul_one, mul_zero]
    rfl

/-- The kernel's counts are the reference's. -/
theorem cnt_eq (j : Fin 64) : Assign.cnt (F := Ideal) x s n p (ix2 (0 : Fin 1) j)
    = Ref.counts (F := Ideal) (Ref.near (Ref.dist x (cen s n p))) (ix1 j) := by
  refine (cntAcc_eq x s n p j 4).trans ?_
  rw [ref_counts, show 4096 * 4 = 16384 from rfl, Finset.sum_range]
  refine Finset.sum_congr rfl fun i _ => ?_
  show one x s n p j i.val = _
  unfold one
  rw [show Fin.ofNat 16384 i.val = i from Fin.ext (Nat.mod_eq_of_lt i.isLt)]

end Kernel

/-- The kernel's next centroids, from the reference's counts and sums. -/
theorem mean_eq (n : FVec Ideal S64x1 .f32) (n' : FVec Ideal Cert.ReferenceIdeal.S64 .f32) (s p : FVec Ideal S64x128 .f32)
    (h : ∀ j : Fin 64, n (ix2 j (0 : Fin 1)) = n' (ix1 j)) : k0_pay4 (F := Ideal) s n p = Ref.mean (F := Ideal) n' s p := by
  funext i
  obtain ⟨j, d, rfl⟩ : ∃ (j : Fin 64) (d : Fin 128), i = ix2 j d := ⟨i 0, i 1, ValueIdx.eq_ix2 i⟩
  unfold k0_pay4 Ref.mean
  simp only [Idealize.ShloMosaic.shapeCast_self]
  show Scalar.select _ (Ideal.div _ _) _ = Scalar.select _ (Ideal.div _ _) _
  refine congr (congrArg₂ Scalar.select ?_ (congrArg₂ Ideal.div rfl ?_)) rfl
  · refine (bcol _ _ j d).trans (Eq.trans ?_ (bin_col _ _ _ (by decide) j d).symm)
    exact congrArg (fun u => FloatOps.cmpf (F := Ideal) (φ := .f32) .ogt u (Ideal.ofBits .f32 0x00000000#32)) (h j)
  · refine (bcol _ _ j d).trans (Eq.trans ?_ (bin_col _ _ _ (by decide) j d).symm)
    exact congrArg (fun u => max u (Ideal.ofBits .f32 0x3F800000#32)) (h j)

end Cert.Proof
-- ==== Proof.Second.lean ====
module

public import Idealize.ShloMosaic.Lib.SortFacts
public import proofs.«01_k».proof.Proof.Sums

/-! The second farthest centroid of a row: the second place of the reference's stable sort, and the first greatest entry once the first greatest is masked. -/

@[expose] public section

noncomputable section

namespace Cert.Proof

open Cert.KernelIdeal Cert.KernelIdeal.Gen
open Idealize.ShloMosaic hiding ix1 ix2 ix3
open Idealize.ShloMosaic.ValueIdx

/-- A stable sort keeps the order of what its comparison leaves tied, so it sorts by the comparison and then the place. -/
theorem stable_congr {ι : Type} (R R' : ι → ι → Bool) (l : List ι) (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The places are read off the sorted list. -/
theorem places_congr {n : ℕ} {R R' : Fin n → Fin n → Bool} (e : sortPositions n R = sortPositions n R') : sortedFrom R = sortedFrom R' := by
  funext k
  unfold sortedFrom
  rw [List.get_of_eq e]
  rfl

/-- Farther, or as far and earlier. -/
abbrev far (D : Fin 64 → EReal) (j k : Fin 64) : Bool := decide (D k < D j ∨ (D j = D k ∧ j < k))

/-- The places of the stable sort by the distances, greatest first. -/
theorem sorted_far (D : Fin 64 → EReal) : sortedFrom (fun j k => decide (D k < D j)) = sortedFrom (far D) := by
  have e : sortPositions 64 (fun j k => decide (D k < D j)) = sortPositions 64 (far D) := by
    refine stable_congr _ _ _ ((List.pairwise_lt_finRange 64).imp fun {a b} hab => ?_)
    refine decide_eq_decide.mpr ⟨Or.inl, fun h => h.elim id fun h => absurd h.2 hab.not_gt⟩
  exact places_congr e

/-- An earlier place holds what is farther, or as far and earlier. -/
theorem far_of_lt (D : Fin 64 → EReal) (i j : Fin 64) (h : i < j) : far D (sortedFrom (far D) i) (sortedFrom (far D) j) = true := by
  have hn := sortedFrom_noInversion (far D) (far D)
    (fun a b hab => by
      simp only [far, decide_eq_true_eq, decide_eq_false_iff_not] at hab ⊢
      rintro (q | q)
      · rcases hab with r | r
        · exact absurd q r.not_gt
        · exact absurd (r.1 ▸ q) (lt_irrefl _)
      · rcases hab with r | r
        · exact absurd (q.1 ▸ r) (lt_irrefl _)
        · exact absurd q.2 r.2.not_gt)
    (fun a b hab => hab)
    (fun a b c hab hbc => by
      simp only [far, decide_eq_false_iff_not, not_or, not_and, not_lt] at hab hbc ⊢
      refine ⟨hab.1.trans hbc.1, fun e => ?_⟩
      have e1 : D a = D b := le_antisymm hab.1 (hbc.1.trans e.ge)
      have e2 : D b = D c := e1.symm.trans e
      exact (hbc.2 e2).trans (hab.2 e1)) i j h
  have hne : sortedFrom (far D) i ≠ sortedFrom (far D) j := fun e => h.ne (sortedFrom_injective _ e)
  simp only [far, decide_eq_false_iff_not, not_or, not_and, not_lt, decide_eq_true_eq] at hn ⊢
  rcases hn.1.lt_or_eq with q | q
  · exact Or.inl q
  · exact Or.inr ⟨q.symm, lt_of_le_of_ne (hn.2 q) hne⟩

/-- A place other than the first. -/
theorem far_first (D : Fin 64 → EReal) (m : Fin 64) (hm : m ≠ sortedFrom (far D) 0) : far D (sortedFrom (far D) 0) m = true := by
  obtain ⟨k, rfl⟩ := sortedFrom_surjective (far D) m
  exact far_of_lt D 0 k (Fin.pos_iff_ne_zero.mpr fun e => hm (congrArg _ e))

/-- A place other than the first two. -/
theorem far_second (D : Fin 64 → EReal) (m : Fin 64) (hm : m ≠ sortedFrom (far D) 0) (hm' : m ≠ sortedFrom (far D) 1) :
    far D (sortedFrom (far D) 1) m = true := by
  obtain ⟨k, rfl⟩ := sortedFrom_surjective (far D) m
  refine far_of_lt D 1 k ?_
  have h0 : k ≠ 0 := fun e => hm (congrArg _ e)
  have h1 : k ≠ 1 := fun e => hm' (congrArg _ e)
  rw [Fin.lt_def]
  have h0' : k.val ≠ 0 := fun e => h0 (Fin.ext e)
  have h1' : k.val ≠ 1 := fun e => h1 (Fin.ext e)
  show 1 < k.val
  omega

/-- The first place is the first greatest entry. -/
theorem first_place (D : Fin 64 → EReal) : IsFirst (fun j => ∀ i, D i ≤ D j) (BitVec.ofNat 32 (sortedFrom (far D) 0).val) := by
  have hw := word_lt (sortedFrom (far D) 0)
  refine ⟨by rw [hw]; exact Fin.isLt _, ?_, fun j hj => ?_⟩
  · have e : (⟨(BitVec.ofNat 32 (sortedFrom (far D) 0).val).toNat, by rw [hw]; exact Fin.isLt _⟩ : Fin 64) = sortedFrom (far D) 0 := Fin.ext hw
    rw [e]
    intro i
    by_cases hi : i = sortedFrom (far D) 0
    · rw [hi]
    · rcases of_decide_eq_true (far_first D i hi) with q | q
      · exact q.le
      · exact q.1.ge
  · rw [hw]
    by_cases hi : j = sortedFrom (far D) 0
    · rw [hi]
    · rcases of_decide_eq_true (far_first D j hi) with q | q
      · exact absurd (hj _) q.not_ge
      · exact q.2.le

/-- The second place is the first greatest entry once the first place is masked. -/
theorem second_place (D : Fin 64 → EReal) (hD : ∀ j, D j ≠ ⊥) : IsFirst (fun j => ∀ i, (if i = sortedFrom (far D) 0 then ⊥ else D i)
    ≤ if j = sortedFrom (far D) 0 then ⊥ else D j) (BitVec.ofNat 32 (sortedFrom (far D) 1).val) := by
  have hw := word_lt (sortedFrom (far D) 1)
  have hne : sortedFrom (far D) 1 ≠ sortedFrom (far D) 0 := fun e => absurd (sortedFrom_injective _ e) (by decide)
  refine ⟨by rw [hw]; exact Fin.isLt _, ?_, fun j hj => ?_⟩
  · have e : (⟨(BitVec.ofNat 32 (sortedFrom (far D) 1).val).toNat, by rw [hw]; exact Fin.isLt _⟩ : Fin 64) = sortedFrom (far D) 1 := Fin.ext hw
    rw [e]
    intro i
    rw [if_neg hne]
    by_cases h0 : i = sortedFrom (far D) 0
    · rw [if_pos h0]; exact bot_le
    · rw [if_neg h0]
      by_cases h1 : i = sortedFrom (far D) 1
      · rw [h1]
      · rcases of_decide_eq_true (far_second D i h0 h1) with q | q
        · exact q.le
        · exact q.1.ge
  · rw [hw]
    have hs := hj (sortedFrom (far D) 1)
    rw [if_neg hne] at hs
    have h0 : j ≠ sortedFrom (far D) 0 := fun e => by
      rw [if_pos e] at hs
      exact hD _ (le_bot_iff.mp hs)
    rw [if_neg h0] at hs
    by_cases h1 : j = sortedFrom (far D) 1
    · rw [h1]
    · rcases of_decide_eq_true (far_second D j h0 h1) with q | q
      · exact absurd hs q.not_ge
      · exact q.2.le

/-- The distances of a row. -/
abbrev rowD (x : FVec Ideal S16384x128 .f32) (c : FVec Ideal S64x128 .f32) (i : Fin 16384) (j : Fin 64) : EReal :=
  Ideal.sqrt (max (dq x c i j) (Ideal.ofBits .f32 0x00000000#32))

/-- They are not below every number. -/
theorem rowD_ne (x : FVec Ideal S16384x128 .f32) (c : FVec Ideal S64x128 .f32) (i : Fin 16384) (j : Fin 64) : rowD x c i j ≠ ⊥ := by
  have h : ∀ u : EReal, 0 ≤ u → Ideal.sqrt u ≠ ⊥ := fun u hu => by
    induction u using EReal.rec with
    | bot => exact absurd hu (by simp)
    | top => exact top_ne_bot
    | coe r =>
      have hr : ¬ r < 0 := not_lt.mpr (EReal.coe_nonneg.mp hu)
      show (if r < 0 then (⊥ : EReal) else (Real.sqrt r : EReal)) ≠ ⊥
      rw [if_neg hr]; exact EReal.coe_ne_bot _
  refine h _ ?_
  rw [Ideal.ofBits_zero_f32]
  exact le_max_right _ _

/-- A row index with another column. -/
theorem along_col {R C : ℕ} (i : Fin R) (j k : Fin C) : Shape.Idx.along (s := (⟨2, ![R, C]⟩ : Shape)) (ix2 i j) (1 : Fin 2) k = ix2 i k := by
  funext a
  match a with
  | ⟨0, _⟩ => rfl
  | ⟨1, _⟩ => rfl

/-- What a sort along the rows carries along. -/
theorem sort2_row {α β : Type} {R C : ℕ} (cmp : α × β → α × β → BitVec 1) (x : (⟨2, ![R, C]⟩ : Shape).Idx → α) (y : (⟨2, ![R, C]⟩ : Shape).Idx → β)
    (i : Fin R) (k : Fin C) : (Host.sort2 ⟨2, ![R, C]⟩ 1 cmp x y).2 (ix2 i k)
      = y (ix2 i (sortedFrom (fun a b => cmp (x (ix2 i a), y (ix2 i a)) (x (ix2 i b), y (ix2 i b)) == 1#1) k)) := by
  unfold Host.sort2
  rw [dif_pos (show 1 < (⟨2, ![R, C]⟩ : Shape).rank from Nat.one_lt_two)]
  refine (congrArg y (along_col i k _)).trans ?_
  refine congrArg (fun f : Fin C → Fin C → Bool => y (ix2 i (sortedFrom f k))) (funext fun a => funext fun b => ?_)
  exact congrArg₂ (fun p q => cmp (x p, y p) (x q, y q) == 1#1) (along_col i k a) (along_col i k b)

/-- The words of a top-k along the rows. -/
theorem topK_row {R C w : ℕ} (D : FVec Ideal ⟨2, ![R, C]⟩ .f32) (h : (⟨2, ![R, C]⟩ : Shape).Slices (fun _ => 0) ⟨2, ![R, w]⟩) (i : Fin R) (k : Fin w) (k' : Fin C)
    (hk : k'.val = k.val) : (Host.topK ⟨2, ![R, w]⟩ 1 (FloatOps.cmpfTotal (F := Ideal) (φ := .f32) .gt) D h).2 (ix2 i k)
      = BitVec.ofNat 32 (sortedFrom (fun a b => decide (D (ix2 i b) < D (ix2 i a))) k').val := by
  have hc : ∀ u v : EReal, (FloatOps.cmpfTotal (F := Ideal) (φ := .f32) .gt u v == 1#1) = decide (v < u) := fun u v => by
    show (Ideal.cmp .ogt u v == 1#1) = decide (v < u)
    by_cases h : v < u <;> simp [Ideal.cmp, h]
  dsimp only [Host.topK]
  refine (extractStridedSlice_apply _ _ _ _ (ix2 i k') fun a => ?_).trans ?_
  · match a with
    | ⟨0, _⟩ => exact (Nat.zero_add _).symm
    | ⟨1, _⟩ => exact hk.trans (Nat.zero_add _).symm
  rw [sort2_row]
  simp only [hc]
  rfl

/-- The root of a distance cut off at zero. -/
theorem sqrt_max (D : FVec Ideal Cert.ReferenceIdeal.S16384x64 .f32) (h) (y : Cert.ReferenceIdeal.S16384x64.Idx) :
    Host.sqrt (F := Ideal) (maximumf D (broadcastInDim Cert.ReferenceIdeal.S16384x64 ![] h (constant Cert.ReferenceIdeal.S_ .f32 0x00000000#32))) y
      = Ideal.sqrt (max (D y) (Ideal.ofBits .f32 0x00000000#32)) := rfl

/-- The reference's second farthest centroid. -/
theorem ref_second (x : FVec Ideal S16384x128 .f32) (c : FVec Ideal S64x128 .f32) (i : Fin 16384) :
    Ref.second (F := Ideal) (Ref.dist x c) (ix1 i) = BitVec.ofNat 32 (sortedFrom (far (rowD x c i)) 1).val := by
  unfold Ref.second
  refine (shapeCast_apply _ _ (ix1 i) (ix2 i (0 : Fin 1)) ?_).trans ?_
  · rw [Shape.rowMajor_val_two, Shape.rowMajor_val_one]
    show i.val * 1 + 0 = i.val
    omega
  refine (slice_col 1 _ _ i (0 : Fin 1)).trans ?_
  have t := fun (D : FVec Ideal Cert.ReferenceIdeal.S16384x64 .f32) h => topK_row (w := 2) D h i (1 : Fin 2) (1 : Fin 64) rfl
  refine (t _ _).trans ?_
  have e : ∀ k : Fin 64, Host.sqrt (F := Ideal) (maximumf (Ref.dist x c) (broadcastInDim Cert.ReferenceIdeal.S16384x64 ![]
      Cert.ReferenceIdeal.Gen.bcast_S_S16384x64 (constant Cert.ReferenceIdeal.S_ .f32 0x00000000#32))) (ix2 i k) = rowD x c i k := fun k =>
    (sqrt_max _ _ _).trans (congrArg (fun u => Ideal.sqrt (max u (Ideal.ofBits .f32 0x00000000#32))) (ref_dist x c i k))
  rw [← sorted_far]
  refine congrArg (fun f : Fin 64 → Fin 64 → Bool => BitVec.ofNat 32 (Fin.val (sortedFrom f (1 : Fin 64)))) (funext fun a => funext fun b => ?_)
  exact congrArg₂ (fun u v : EReal => decide (u < v)) (e b) (e a)

end Cert.Proof
-- ==== Proof.Pick.lean ====
module

public import Idealize.ShloMosaic.Lib.Routing.Ops
public import proofs.«01_k».proof.Proof.Second

/-! The rows the last launch writes: for each row of `x` its second farthest centroid, which is what the reference gathers. -/

@[expose] public section

noncomputable section

namespace Cert.Proof

open Cert.KernelIdeal Cert.KernelIdeal.Gen
open Idealize.ShloMosaic hiding ix1 ix2 ix3
open Idealize.ShloMosaic.ValueIdx

/-- The row of words 0, 1, …, 63, once more. -/
abbrev words : IVec S1x64 32 := iota .tc S1x64 32 [1] iota_S1x64_d1_w32

/-- Entry `j` of the row of words is the word of `j`. -/
theorem words_apply (j : Fin 64) : words (ix2 (0 : Fin 1) j) = BitVec.ofNat 32 j.val := iota_row _ j

/-- A word below 64 is not negative. -/
theorem small_nonneg (b : Fin 64) : IntOp.cmpi .slt (BitVec.ofNat 32 b.val) 0#32 = 0#1 := by
  revert b; decide

/-- The kernel's word of each row's first greatest entry. -/
abbrev firstMax (D : FVec Ideal S4096x64 .f32) : IVec S4096 32 :=
  multiReductionI .minsi [1] S4096 (select (cmpf .oeq D (broadcastTo S4096x64 (shapeCast S4096x1
      (multiReduction .maximumf [1] S4096 D 0xFF800000#32 reduces_S4096x64_S4096 (.inl rfl) rfl) shapeCasts_S4096_S4096x1) broadcasts_S4096x1_S4096x64))
    (broadcastTo S4096x64 (shapeCast S1x64 words shapeCasts_S1x64_S1x64) broadcasts_S1x64_S4096x64) (broadcast S4096x64 64#32))
    2147483647#32 reduces_S4096x64_S4096 rfl

/-- The distances with the first greatest of each row masked. -/
abbrev masked (D : FVec Ideal S4096x64 .f32) : FVec Ideal S4096x64 .f32 :=
  select (cmpi .eq (broadcastTo S4096x64 words broadcasts_S1x64_S4096x64)
      (broadcastTo S4096x64 (shapeCast S4096x1 (firstMax D) shapeCasts_S4096_S4096x1) broadcasts_S4096x1_S4096x64))
    (broadcast S4096x64 (Scalar.ofBits (F := Ideal) .f32 0xFF800000#32)) D

/-- The word is the first index of the greatest entry. -/
theorem firstMax_first (D : FVec Ideal S4096x64 .f32) (r : Fin 4096) :
    IsFirst (fun j => ∀ i, D (ix2 r i) ≤ D (ix2 r j)) (firstMax D (ix1 r)) := by
  have key : ∀ j, cmpf (F := Ideal) .oeq D (broadcastTo S4096x64 (shapeCast S4096x1
      (multiReduction .maximumf [1] S4096 D 0xFF800000#32 reduces_S4096x64_S4096 (.inl rfl) rfl) shapeCasts_S4096_S4096x1) broadcasts_S4096x1_S4096x64) (ix2 r j) = 1
      ↔ ∀ i, D (ix2 r i) ≤ D (ix2 r j) := fun j => by
    show FloatOps.cmpf (F := Ideal) (φ := .f32) .oeq _ _ = 1 ↔ _
    rw [oeq_iff]
    refine (iff_of_eq (congrArg (D (ix2 r j) = ·) ((bcol _ _ r j).trans ((shapeCast_a_a1_apply _ _ _ _).trans (row_max D _ _ _ r))))).trans ?_
    exact eq_max_iff (fun j => D (ix2 r j)) j
  have hp : ∃ j, cmpf (F := Ideal) .oeq D (broadcastTo S4096x64 (shapeCast S4096x1
      (multiReduction .maximumf [1] S4096 D 0xFF800000#32 reduces_S4096x64_S4096 (.inl rfl) rfl) shapeCasts_S4096_S4096x1) broadcasts_S4096x1_S4096x64) (ix2 r j) = 1 := by
    obtain ⟨j, hj⟩ := exists_max (fun j => D (ix2 r j))
    exact ⟨j, (key j).2 ((eq_max_iff (fun j => D (ix2 r j)) j).1 hj)⟩
  have h := row_first _ (shapeCast S1x64 words shapeCasts_S1x64_S1x64)
    (fun j => by rw [Idealize.ShloMosaic.shapeCast_self]; exact iota_row _ j)
    broadcasts_S1x64_S4096x64 reduces_S4096x64_S4096 rfl r hp
  exact h.congr key

/-- The word of the value the mask writes. -/
theorem ninf_bot : Ideal.ofBits .f32 0xFF800000#32 = (⊥ : EReal) := by simp [Ideal.ofBits, Ideal.ieee]

/-- The masked distances of a row whose first greatest entry is at `m`. -/
theorem masked_apply (D : FVec Ideal S4096x64 .f32) (r : Fin 4096) (m j : Fin 64) (hm : firstMax D (ix1 r) = BitVec.ofNat 32 m.val) :
    masked D (ix2 r j) = if j = m then (⊥ : EReal) else D (ix2 r j) := by
  show Scalar.select (IntOp.cmpi .eq (broadcastTo S4096x64 words _ (ix2 r j)) (broadcastTo S4096x64 (shapeCast S4096x1 (firstMax D) _) _ (ix2 r j)))
    (Ideal.ofBits .f32 0xFF800000#32) (D (ix2 r j)) = _
  rw [broadcastTo_1b_ab_apply, bcol, shapeCast_a_a1_apply, words_apply, hm, ninf_bot]
  by_cases h : j = m
  · subst h
    rw [if_pos rfl]; simp [IntOp.cmpi, Scalar.select]
  · rw [if_neg h]
    have h2 : BitVec.ofNat 32 j.val ≠ BitVec.ofNat 32 m.val := fun e => h ((word_eq (by decide) j m).mp e)
    have h3 : IntOp.cmpi .eq (BitVec.ofNat 32 j.val) (BitVec.ofNat 32 m.val) = 0#1 := by
      simp only [IntOp.cmpi, beq_eq_false_iff_ne.mpr h2]; rfl
    rw [h3]; rfl

/-- The product that picks a centroid. -/
theorem dot_pick (v : FVec Ideal S4096x64 .f32) (e : FVec Ideal S64x128 .f32) (r : Fin 4096) (d : Fin 128) :
    matmul dot_S4096x64_S64x128_S4096x128_1_0_0_1_n_n (some .fp32) v e (constant S4096x128 .f32 0x00000000#32) (ix2 r d)
      = ∑ j : Fin 64, v (ix2 r j) * e (ix2 j d) := by
  refine (Ideal.matmul_constant_zero_apply _ (some .fp32) v e (ix2 r d)).trans ?_
  refine Fintype.sum_equiv (contrEquiv1 dot_S4096x64_S64x128_S4096x128_1_0_0_1_n_n 64 rfl rfl) _ _ fun k => ?_
  refine congrArg₂ (· * ·) (congrArg v ?_) (congrArg e ?_)
  · funext a
    match a with
    | ⟨0, _⟩ => rfl
    | ⟨1, _⟩ => rfl
  · funext a
    match a with
    | ⟨0, _⟩ => rfl
    | ⟨1, _⟩ => rfl

/-- A tile's row is the centroid at the second place of its distances. -/
theorem pay2_last (c : FVec Ideal S64x128 .f32) (D : FVec Ideal S4096x64 .f32) (r : Fin 4096) (f : Fin 64 → EReal) (hf : ∀ j, D (ix2 r j) = f j)
    (hb : ∀ j, f j ≠ ⊥) (d : Fin 128) : k2_pay2 (F := Ideal) c words D (ix2 r d) = c (ix2 (sortedFrom (far f) 1) d) := by
  have h1 : firstMax D (ix1 r) = BitVec.ofNat 32 (sortedFrom (far f) 0).val :=
    (firstMax_first D r).unique ((first_place f).congr fun j => forall_congr' fun i => by rw [hf, hf])
  have h2 : firstMax (masked D) (ix1 r) = BitVec.ofNat 32 (sortedFrom (far f) 1).val :=
    (firstMax_first (masked D) r).unique ((second_place f hb).congr fun j => forall_congr' fun i => by
      rw [masked_apply D r _ i h1, masked_apply D r _ j h1, hf, hf])
  have ho : ∀ j : Fin 64, (sitofp .f32 (extui 32 (cmpi .eq (broadcastTo S4096x64 (shapeCast S4096x1 (firstMax (masked D)) shapeCasts_S4096_S4096x1) broadcasts_S4096x1_S4096x64)
      (broadcastTo S4096x64 words broadcasts_S1x64_S4096x64)) natLt_1_32) : FVec Ideal S4096x64 .f32) (ix2 r j)
      = if sortedFrom (far f) 1 = j then (1 : EReal) else 0 := fun j => by
    refine (bit_num _ _).trans ?_
    rw [broadcastTo_1b_ab_apply, bcol, shapeCast_a_a1_apply, words_apply, h2]
    exact if_congr (word_eq (by decide) _ j) rfl rfl
  refine (dot_pick _ c r d).trans ?_
  refine (Finset.sum_congr rfl fun j _ => congrArg (· * c (ix2 j d)) (ho j)).trans ?_
  simp only [ite_mul, one_mul, zero_mul, Finset.sum_ite_eq, Finset.mem_univ, if_true]

/-- The last launch's rows. -/
theorem out_apply (x : FVec Ideal S16384x128 .f32) (s : FVec Ideal S64x128 .f32) (n : FVec Ideal S64x1 .f32) (p : FVec Ideal S64x128 .f32)
    (i : Fin 16384) (d : Fin 128) : Final.out (F := Ideal) x s n p (ix2 i d)
      = cen s n p (ix2 (sortedFrom (far (rowD x (cen s n p) i)) 1) d) := by
  have t := pay2_last (k2_pay4 (F := Ideal) s n p) (k2_pay3 (k2_pay4 s n p) (k2_pay1 k2_pay5 (k2_pay7 s n p) (k2_pay8 s n p)) (rowsAt 4096 x (4096 * (i.val / 4096))))
    (Fin.ofNat 4096 i.val) (rowD x (k2_pay4 (F := Ideal) s n p) i) (fun j => by
      rw [pay3_tile]
      have e : Fin.ofNat 16384 (4096 * (i.val / 4096) + (Fin.ofNat 4096 i.val).val) = i := Fin.ext (by
        have := i.isLt
        rw [Fin.val_ofNat, Fin.val_ofNat]; omega)
      rw [e]) (rowD_ne _ _ _) d
  rw [k2_pay4_eq] at t
  exact t

/-- What the reference gathers for a word below 64. -/
theorem pick_apply (c : FVec Ideal Cert.ReferenceIdeal.S64x128 .f32) (w : IVec Cert.ReferenceIdeal.S16384 32) (i : Fin 16384) (d : Fin 128) (b : Fin 64)
    (hb : w (ix1 i) = BitVec.ofNat 32 b.val) : Ref.pick (F := Ideal) c w (ix2 i d) = c (ix2 b d) := by
  unfold Ref.pick
  refine Routing.gather_row Cert.ReferenceIdeal.gather_S64x128_S16384x1_S16384x128_1_0_n_n_0_1_1128 rfl rfl rfl rfl rfl c _ i d b ?_ (by decide)
  refine (broadcastInDim_apply _ _ _ _ (ix1 i) fun a => ?_).trans ?_
  · match a with
    | ⟨0, _⟩ => rfl
  show Scalar.select (IntOp.cmpi .slt (w (ix1 i)) 0#32) (IntOp.addi (w (ix1 i)) 64#32) (w (ix1 i)) = _
  rw [hb, small_nonneg]; rfl

/-- The last launch writes what the reference gathers. -/
theorem out_eq (x : FVec Ideal S16384x128 .f32) (s : FVec Ideal S64x128 .f32) (n : FVec Ideal S64x1 .f32) (p : FVec Ideal S64x128 .f32) :
    Final.out (F := Ideal) x s n p = Ref.pick (F := Ideal) (cen s n p) (Ref.second (Ref.dist x (cen s n p))) := by
  funext y
  obtain ⟨i, d, rfl⟩ : ∃ (i : Fin 16384) (d : Fin 128), y = ix2 i d := ⟨y 0, y 1, ValueIdx.eq_ix2 y⟩
  rw [out_apply]
  exact (pick_apply _ _ i d _ (ref_second x (cen s n p) i)).symm

end Cert.Proof
-- ==== Proof.Value.lean ====
module

public import proofs.«01_k».proof.Proof.Pick

/-! The kernel's result is the reference's: the centroids of every round are the reference's, and so are the rows picked at the end. -/

@[expose] public section

noncomputable section

namespace Cert.Proof

open Cert.KernelIdeal Cert.KernelIdeal.Gen
open Idealize.ShloMosaic hiding ix1 ix2 ix3
open Idealize.ShloMosaic.ValueIdx Idealize.ShloMosaic.TcCoe

variable (m : (ℓ : Loc nD τ sig) → Buf (Elt Ideal) ℓ)

/-! ## The contents as the loop is entered -/

set_option maxRecDepth 100000 in
/-- The rows. -/
theorem We_emb (c : Dev nD) : We m c main_v3_0 = m (c, Proc.devRef .tc main_arg0) := by
  dsimp only [We]
  simp only [hostOps0, StableHlo.after_cons, StableHlo.after_nil]
  rw [StableHlo.unary_result_ne _ _ _ _ _ _ (by decide), StableHlo.unary_result_ne _ _ _ _ _ _ (by decide),
    StableHlo.unary_result_ne _ _ _ _ _ _ (by decide), StableHlo.unary_result_ne _ _ _ _ _ _ (by decide),
    StableHlo.unary_result_ne _ _ _ _ _ _ (by decide), StableHlo.unary_result_ne _ _ _ _ _ _ (by decide), StableHlo.unary_result,
    StableHlo.nullary_result_ne _ _ _ _ (by decide), StableHlo.nullary_result_ne _ _ _ _ (by decide), StableHlo.unary_result_ne _ _ _ _ _ _ (by decide),
    StableHlo.nullary_result_ne _ _ _ _ (by decide), StableHlo.unary_result_ne _ _ _ _ _ _ (by decide),
    StableHlo.nullary_result_ne _ _ _ _ (by decide), StableHlo.unary_result_ne _ _ _ _ _ _ (by decide), StableHlo.nullary_result_ne _ _ _ _ (by decide)]
  rfl

set_option maxRecDepth 100000 in
/-- The sums: the first 64 rows. -/
theorem We_sum (c : Dev nD) : We m c main_v3_4 = Ref.start (F := Ideal) (m (c, Proc.devRef .tc main_arg0)) := by
  dsimp only [We]
  simp only [hostOps0, StableHlo.after_cons, StableHlo.after_nil]
  rw [StableHlo.unary_result_ne _ _ _ _ _ _ (by decide), StableHlo.unary_result_ne _ _ _ _ _ _ (by decide), StableHlo.unary_result,
    StableHlo.unary_result_ne _ _ _ _ _ _ (by decide), StableHlo.unary_result_ne _ _ _ _ _ _ (by decide),
    StableHlo.unary_result_ne _ _ _ _ _ _ (by decide), StableHlo.unary_result_ne _ _ _ _ _ _ (by decide),
    StableHlo.nullary_result_ne _ _ _ _ (by decide), StableHlo.nullary_result_ne _ _ _ _ (by decide), StableHlo.unary_result_ne _ _ _ _ _ _ (by decide),
    StableHlo.nullary_result_ne _ _ _ _ (by decide), StableHlo.unary_result_ne _ _ _ _ _ _ (by decide),
    StableHlo.nullary_result_ne _ _ _ _ (by decide), StableHlo.unary_result, StableHlo.nullary_result_ne _ _ _ _ (by decide)]
  rfl

set_option maxRecDepth 100000 in
/-- The numbers: all one. -/
theorem We_num (c : Dev nD) : We m c main_v3_5 = fun _ => Ideal.ofBits .f32 0x3F800000#32 := by
  dsimp only [We]
  simp only [hostOps0, StableHlo.after_cons, StableHlo.after_nil]
  rw [StableHlo.unary_result_ne _ _ _ _ _ _ (by decide), StableHlo.unary_result,
    StableHlo.unary_result_ne _ _ _ _ _ _ (by decide),
    StableHlo.unary_result_ne _ _ _ _ _ _ (by decide), StableHlo.unary_result_ne _ _ _ _ _ _ (by decide),
    StableHlo.unary_result_ne _ _ _ _ _ _ (by decide), StableHlo.unary_result_ne _ _ _ _ _ _ (by decide),
    StableHlo.nullary_result_ne _ _ _ _ (by decide), StableHlo.nullary_result_ne _ _ _ _ (by decide), StableHlo.unary_result_ne _ _ _ _ _ _ (by decide),
    StableHlo.nullary_result_ne _ _ _ _ (by decide), StableHlo.unary_result, StableHlo.nullary_result]
  rfl

/-- The word of one. -/
theorem one_bits : Ideal.ofBits .f32 0x3F800000#32 = (1 : EReal) := by
  simp [Ideal.ofBits, Ideal.ieee]
  rw [← EReal.coe_mul]
  norm_num

/-- Over one, a number is itself. -/
theorem div_by_one (u : EReal) : Ideal.div u 1 = u := by
  unfold Ideal.div
  rw [if_neg one_ne_zero, inv_one, mul_one]

/-- With the numbers all one, the centroids are the sums. -/
theorem cen_ones (s p : FVec Ideal S64x128 .f32) : cen s (fun _ => Ideal.ofBits .f32 0x3F800000#32) p = s := by
  funext i
  obtain ⟨j, d, rfl⟩ : ∃ (j : Fin 64) (d : Fin 128), i = ix2 j d := ⟨i 0, i 1, ValueIdx.eq_ix2 i⟩
  unfold cen k0_pay4
  simp only [Idealize.ShloMosaic.shapeCast_self]
  show Scalar.select (broadcastTo S64x128 _ _ (ix2 j d)) (Ideal.div (s (ix2 j d)) (broadcastTo S64x128 _ _ (ix2 j d))) (p (ix2 j d)) = _
  rw [bcol, bcol]
  show Scalar.select (Ideal.cmp .ogt (Ideal.ofBits .f32 0x3F800000#32) (Ideal.ofBits .f32 0x00000000#32))
    (Ideal.div (s (ix2 j d)) (max (Ideal.ofBits .f32 0x3F800000#32) (Ideal.ofBits .f32 0x3F800000#32))) (p (ix2 j d)) = _
  rw [max_self, one_bits, div_by_one, Ideal.ofBits_zero_f32]
  simp [Ideal.cmp, Scalar.select]

/-! ## One round -/

/-- A round takes the centroids where the reference's takes them. -/
theorem round_eq (x : FVec Ideal S16384x128 .f32) (s : FVec Ideal S64x128 .f32) (n : FVec Ideal S64x1 .f32) (p : FVec Ideal S64x128 .f32) :
    cen (Scatter.segSum (labels x s p n) x 16384) (shapeCast S64x1 (Assign.cnt (F := Ideal) x s n p) shapeCasts_S1x64_S64x1) (cen s n p)
      = Ref.step (F := Ideal) x (cen s n p) := by
  have hs : Scatter.segSum (labels x s p n) x 16384 = Ref.sums (F := Ideal) (Ref.near (Ref.dist x (cen s n p))) x := by
    funext y
    obtain ⟨j, d, rfl⟩ : ∃ (j : Fin 64) (d : Fin 128), y = ix2 j d := ⟨y 0, y 1, ValueIdx.eq_ix2 y⟩
    exact sums_eq x s n p j d
  rw [hs]
  refine mean_eq _ (Ref.counts (F := Ideal) (Ref.near (Ref.dist x (cen s n p)))) _ _ fun j => ?_
  refine (shapeCast_apply _ _ _ (ix2 (0 : Fin 1) j) ?_).trans (cnt_eq x s n p j)
  rw [Shape.rowMajor_val_two, Shape.rowMajor_val_two]
  show 0 * 64 + j.val = j.val * 1 + 0
  omega

variable (c : Dev nD)

/-- The rows stay. -/
theorem emb_k : ∀ k, emb (Wk (We m) k) c = m (c, Proc.devRef .tc main_arg0)
  | 0 => We_emb m c
  | k + 1 => (Wn_0 (Wk (We m) k) c).trans (emb_k k)

/-- The centroids before round `k` are the reference's. -/
theorem cen_k (k : ℕ) : cen (sum (Wk (We m) k) c) (num (Wk (We m) k) c) (old (Wk (We m) k) c)
    = Ref.cents (F := Ideal) (m (c, Proc.devRef .tc main_arg0)) k := by
  induction k with
  | zero =>
    have e : num (Wk (We m) 0) c = fun _ => Ideal.ofBits .f32 0x3F800000#32 := We_num m c
    rw [e, cen_ones]
    exact We_sum m c
  | succ k ih =>
    show cen (sum (Wn (Wk (We m) k)) c) (num (Wn (Wk (We m) k)) c) (old (Wn (Wk (We m) k)) c) = _
    rw [Wn_4, Wn_5, Wn_6]
    refine (round_eq (emb (Wk (We m) k) c) (sum (Wk (We m) k) c) (num (Wk (We m) k) c) (old (Wk (We m) k) c)).trans ?_
    rw [ih, emb_k]
    exact (Function.iterate_succ_apply' _ _ _).symm

/-- The kernel's result. -/
theorem Wz_res : Wz m c main_v4 = Ref.res (F := Ideal) (m (c, Proc.devRef .tc main_arg0)) := by
  rw [Wz_4, Final.arr4]
  dsimp only [Vf]
  rw [Wc_of_ne _ _ main_arg0 (by decide), Wc_of_ne _ _ main_v3_4 (by decide), Wc_of_ne _ _ main_v3_5 (by decide), Wc_of_ne _ _ main_v3_6 (by decide)]
  have e0 : Wk (We m) 25 c main_arg0 = m (c, Proc.devRef .tc main_arg0) :=
    (Wk_keep (We m) c main_arg0 (by decide) (by decide) 25).trans (Cond.V1_of m c main_arg0 (by decide))
  rw [e0]
  refine (out_eq _ (sum (Wk (We m) 25) c) (num (Wk (We m) 25) c) (old (Wk (We m) 25) c)).trans ?_
  rw [cen_k]
  rfl

end Cert.Proof
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Value

/-! The claims, assembled: the run of the kernel (Proof/Run.lean), the run of the reference (Proof/RefRun.lean) and the equality of their results
(Proof/Value.lean). -/

@[expose] public section

noncomputable section

namespace Cert.Proof

open Idealize.ShloMosaic Idealize.SL.Sem

/-- Every run of the kernel ends, its arguments unchanged, every semaphore at zero. -/
theorem kernel_quiescent : @Cert.quiescent_KernelIdeal Cert.KernelIdeal.Gen.facts := fun m g _ => by
  refine (θ_run _ _ _).mono (fun r h => ⟨fun c => ⟨?_, ?_⟩, h.2⟩) (run_main m Cert.KernelIdeal.Gen.Cond.adm g)
  · exact (h.1 c (Proc.devRef .tc Cert.KernelIdeal.main_arg0) (Finset.mem_filter.mpr ⟨StableHlo.devRef_mem_tcRefs _, by decide⟩)).trans
      (Wz_arg m c _ (by decide) (by decide) (by decide) (by decide) (by decide))
  · exact (h.1 c (Proc.devRef .tc Cert.KernelIdeal.main_arg1) (Finset.mem_filter.mpr ⟨StableHlo.devRef_mem_tcRefs _, by decide⟩)).trans
      (Wz_arg m c _ (by decide) (by decide) (by decide) (by decide) (by decide))

/-- Every run of the reference ends, its arguments unchanged, every semaphore at zero. -/
theorem reference_quiescent : @Cert.quiescent_ReferenceIdeal Cert.ReferenceIdeal.Gen.facts := fun m g _ =>
  (θ_run _ _ _).mono (fun _ h => ⟨fun c => (h.1 c).2, h.2⟩) (Ref.run m g)

/-- From equal arguments the kernel and the reference end with equal results, their arguments unchanged. -/
theorem kernel_reference : @Cert.algebraic_KernelIdeal_ReferenceIdeal Cert.KernelIdeal.Gen.facts Cert.ReferenceIdeal.Gen.facts := fun m g m' g' _ hm => by
  refine ⟨fun c => Ref.res (F := Ideal) (m (c, Proc.devRef .tc Cert.KernelIdeal.main_arg0)), ?_, ?_⟩
  · refine (θ_run _ _ _).mono (fun r h => fun c => ⟨?_, ?_, ?_⟩) (run_main m Cert.KernelIdeal.Gen.Cond.adm g)
    · exact (h.1 c (Proc.devRef .tc Cert.KernelIdeal.main_v4) (Finset.mem_filter.mpr ⟨StableHlo.devRef_mem_tcRefs _, by decide⟩)).trans (Wz_res m c)
    · exact (h.1 c (Proc.devRef .tc Cert.KernelIdeal.main_arg0) (Finset.mem_filter.mpr ⟨StableHlo.devRef_mem_tcRefs _, by decide⟩)).trans
        (Wz_arg m c _ (by decide) (by decide) (by decide) (by decide) (by decide))
    · exact (h.1 c (Proc.devRef .tc Cert.KernelIdeal.main_arg1) (Finset.mem_filter.mpr ⟨StableHlo.devRef_mem_tcRefs _, by decide⟩)).trans
        (Wz_arg m c _ (by decide) (by decide) (by decide) (by decide) (by decide))
  · refine (θ_run _ _ _).mono (fun r h => fun c => ⟨?_, (h.1 c).2⟩) (Ref.run m' g')
    exact (h.1 c).1.trans (congrArg (Ref.res (F := Ideal)) (hm c).1)

/-- Every claim of the certificate. -/
theorem claim : Cert.Claim :=
  ⟨Cert.KernelIdeal.Gen.facts, Cert.ReferenceIdeal.Gen.facts, kernel_quiescent, reference_quiescent, kernel_reference⟩

end Cert.Proof
